-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_q_and_k_KernelIdeal [hPre_finite_q_and_k_KernelIdeal : Cert.Pre_finite_q_and_k_KernelIdeal.Facts] (m : (ℓ : Loc Cert.KernelIdeal.nD Cert.KernelIdeal.τ Cert.KernelIdeal.sig) → Buf (Elt Ideal) ℓ) : Prop :=
  ∀ c : Dev Cert.KernelIdeal.nD,
    (Cert.Pre_finite_q_and_k_KernelIdeal.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))).1 = (fun _ => 1#1)
    ∧ (Cert.Pre_finite_q_and_k_KernelIdeal.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))).2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_q_and_k_ReferenceIdeal [hPre_finite_q_and_k_ReferenceIdeal : Cert.Pre_finite_q_and_k_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_q_and_k_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))).1 = (fun _ => 1#1)
    ∧ (Cert.Pre_finite_q_and_k_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))).2 = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_KernelIdeal_pre_finite_q_and_k_KernelIdeal [hKernelIdeal : Cert.KernelIdeal.Facts] [hPre_finite_q_and_k_KernelIdeal : Cert.Pre_finite_q_and_k_KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_q_and_k_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_ReferenceIdeal_pre_finite_q_and_k_ReferenceIdeal [hReferenceIdeal : Cert.ReferenceIdeal.Facts] [hPre_finite_q_and_k_ReferenceIdeal : Cert.Pre_finite_q_and_k_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_q_and_k_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def preserves_Kernel_KernelIdeal : Prop :=
  True

def algebraic_KernelIdeal_ReferenceIdeal_pre_finite_q_and_k_KernelIdeal [hKernelIdeal : Cert.KernelIdeal.Facts] [hReferenceIdeal : Cert.ReferenceIdeal.Facts] [hPre_finite_q_and_k_KernelIdeal : Cert.Pre_finite_q_and_k_KernelIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_q_and_k_KernelIdeal m →
    (∀ c : Dev Cert.KernelIdeal.nD,
      m ((c.tc : Thread Cert.KernelIdeal.nD Cert.KernelIdeal.τ).loc Cert.KernelIdeal.main_arg0) = m' (((0 : Dev Cert.ReferenceIdeal.nD).tc : Thread Cert.ReferenceIdeal.nD Cert.ReferenceIdeal.τ).loc Cert.ReferenceIdeal.main_arg0)
      ∧ m ((c.tc : Thread Cert.KernelIdeal.nD Cert.KernelIdeal.τ).loc Cert.KernelIdeal.main_arg1) = Layout.blockN ⟨4, ![4, 4096, 8, 128]⟩ ⟨4, ![4, 16384, 8, 128]⟩ (Layout.meshBlock [2, 4, 4] ![[], [2], [], []] c) (m' (((0 : Dev Cert.ReferenceIdeal.nD).tc : Thread Cert.ReferenceIdeal.nD Cert.ReferenceIdeal.τ).loc Cert.ReferenceIdeal.main_arg1))
      ∧ m ((c.tc : Thread Cert.KernelIdeal.nD Cert.KernelIdeal.τ).loc Cert.KernelIdeal.main_arg2) = Layout.blockN ⟨4, ![4, 4096, 8, 128]⟩ ⟨4, ![4, 16384, 8, 128]⟩ (Layout.meshBlock [2, 4, 4] ![[], [2], [], []] c) (m' (((0 : Dev Cert.ReferenceIdeal.nD).tc : Thread Cert.ReferenceIdeal.nD Cert.ReferenceIdeal.τ).loc Cert.ReferenceIdeal.main_arg2))) →
    ∃ (v0 : Buf (Elt Ideal) (((0 : Dev Cert.ReferenceIdeal.nD).tc : Thread Cert.ReferenceIdeal.nD Cert.ReferenceIdeal.τ).loc Cert.ReferenceIdeal.main_v16)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v16) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1)
          ∧ r.2.mem (((0 : Dev Cert.ReferenceIdeal.nD).tc : Thread Cert.ReferenceIdeal.nD Cert.ReferenceIdeal.τ).loc Cert.ReferenceIdeal.main_arg2) = m' (((0 : Dev Cert.ReferenceIdeal.nD).tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_q_and_k_KernelIdeal : Cert.Pre_finite_q_and_k_KernelIdeal.Facts) (hPre_finite_q_and_k_ReferenceIdeal : Cert.Pre_finite_q_and_k_ReferenceIdeal.Facts),
    quiescent_Kernel (hKernel := hKernel)
    ∧ quiescent_KernelIdeal (hKernelIdeal := hKernelIdeal)
    ∧ quiescent_KernelIdeal_pre_finite_q_and_k_KernelIdeal (hKernelIdeal := hKernelIdeal) (hPre_finite_q_and_k_KernelIdeal := hPre_finite_q_and_k_KernelIdeal)
    ∧ quiescent_ReferenceIdeal (hReferenceIdeal := hReferenceIdeal)
    ∧ quiescent_ReferenceIdeal_pre_finite_q_and_k_ReferenceIdeal (hReferenceIdeal := hReferenceIdeal) (hPre_finite_q_and_k_ReferenceIdeal := hPre_finite_q_and_k_ReferenceIdeal)
    ∧ preserves_Kernel_KernelIdeal
    ∧ algebraic_KernelIdeal_ReferenceIdeal_pre_finite_q_and_k_KernelIdeal (hKernelIdeal := hKernelIdeal) (hReferenceIdeal := hReferenceIdeal) (hPre_finite_q_and_k_KernelIdeal := hPre_finite_q_and_k_KernelIdeal)
-- ==== Pre_finite_q_and_k_KernelIdeal.lean ====
abbrev S4x32x8x128 : Shape := ⟨4, ![4, 32, 8, 128]⟩
abbrev S4x4096x8x128 : Shape := ⟨4, ![4, 4096, 8, 128]⟩
abbrev S_ : Shape := ⟨0, ![]⟩

class Facts : Prop where
  bitsLt_bf16_f32 : FTy.bits .bf16 < FTy.bits .f32
  bcast_S_S4x32x8x128 : S_.BroadcastsInDim S4x32x8x128 (![] : Fin 0 → Fin S4x32x8x128.rank)
  bcast_S_S4x4096x8x128 : S_.BroadcastsInDim S4x4096x8x128 (![] : Fin 0 → Fin S4x4096x8x128.rank)

variable [Facts]

def fn {F : FTy → Type} [FloatOps F] (main_arg0 : FVec F S4x32x8x128 .bf16) (main_arg1 : FVec F S4x4096x8x128 .bf16) (main_arg2 : FVec F S4x4096x8x128 .bf16) : IVec S4x32x8x128 1 × IVec S4x4096x8x128 1 :=
  let main_v0 : FVec F S4x32x8x128 .f32 := (extf .f32 · bitsLt_bf16_f32) main_arg0
  let main_v1 : FVec F S4x4096x8x128 .f32 := (extf .f32 · bitsLt_bf16_f32) main_arg1
  let main_v2 : FVec F S4x32x8x128 .f32 := Host.absf main_v0
  let main_cst : FVec F S_ .f32 := constant S_ .f32 0x7F800000#32
  let main_v3 : FVec F S4x32x8x128 .f32 := broadcastInDim S4x32x8x128 ![] bcast_S_S4x32x8x128 main_cst
  let main_v4 : IVec S4x32x8x128 1 := cmpf .olt main_v2 main_v3
  let main_v5 : FVec F S4x4096x8x128 .f32 := Host.absf main_v1
  let main_cst_0 : FVec F S_ .f32 := constant S_ .f32 0x7F800000#32
  let main_v6 : FVec F S4x4096x8x128 .f32 := broadcastInDim S4x4096x8x128 ![] bcast_S_S4x4096x8x128 main_cst_0
  let main_v7 : IVec S4x4096x8x128 1 := cmpf .olt main_v5 main_v6
  (main_v4, main_v7)
-- ==== Pre_finite_q_and_k_ReferenceIdeal.lean ====
abbrev S4x32x8x128 : Shape := ⟨4, ![4, 32, 8, 128]⟩
abbrev S4x16384x8x128 : Shape := ⟨4, ![4, 16384, 8, 128]⟩
abbrev S_ : Shape := ⟨0, ![]⟩

class Facts : Prop where
  bitsLt_bf16_f32 : FTy.bits .bf16 < FTy.bits .f32
  bcast_S_S4x32x8x128 : S_.BroadcastsInDim S4x32x8x128 (![] : Fin 0 → Fin S4x32x8x128.rank)
  bcast_S_S4x16384x8x128 : S_.BroadcastsInDim S4x16384x8x128 (![] : Fin 0 → Fin S4x16384x8x128.rank)

variable [Facts]

def fn {F : FTy → Type} [FloatOps F] (main_arg0 : FVec F S4x32x8x128 .bf16) (main_arg1 : FVec F S4x16384x8x128 .bf16) (main_arg2 : FVec F S4x16384x8x128 .bf16) : IVec S4x32x8x128 1 × IVec S4x16384x8x128 1 :=
  let main_v0 : FVec F S4x32x8x128 .f32 := (extf .f32 · bitsLt_bf16_f32) main_arg0
  let main_v1 : FVec F S4x16384x8x128 .f32 := (extf .f32 · bitsLt_bf16_f32) main_arg1
  let main_v2 : FVec F S4x32x8x128 .f32 := Host.absf main_v0
  let main_cst : FVec F S_ .f32 := constant S_ .f32 0x7F800000#32
  let main_v3 : FVec F S4x32x8x128 .f32 := broadcastInDim S4x32x8x128 ![] bcast_S_S4x32x8x128 main_cst
  let main_v4 : IVec S4x32x8x128 1 := cmpf .olt main_v2 main_v3
  let main_v5 : FVec F S4x16384x8x128 .f32 := Host.absf main_v1
  let main_cst_0 : FVec F S_ .f32 := constant S_ .f32 0x7F800000#32
  let main_v6 : FVec F S4x16384x8x128 .f32 := broadcastInDim S4x16384x8x128 ![] bcast_S_S4x16384x8x128 main_cst_0
  let main_v7 : IVec S4x16384x8x128 1 := cmpf .olt main_v5 main_v6
  (main_v4, main_v7)
-- ==== Kernel.lean ====
abbrev S4x32x8x128 : Shape := ⟨4, ![4, 32, 8, 128]⟩
abbrev S4x4096x8x128 : Shape := ⟨4, ![4, 4096, 8, 128]⟩
abbrev S2x32x8x128 : Shape := ⟨4, ![2, 32, 8, 128]⟩
abbrev S2x512x8x128 : Shape := ⟨4, ![2, 512, 8, 128]⟩
abbrev S32x32x128 : Shape := ⟨3, ![32, 32, 128]⟩
abbrev S32x32x1 : Shape := ⟨3, ![32, 32, 1]⟩
abbrev S2x4x16x32x128 : Shape := ⟨5, ![2, 4, 16, 32, 128]⟩
abbrev S2x4x2x16x32 : Shape := ⟨5, ![2, 4, 2, 16, 32]⟩
abbrev S2x3 : Shape := ⟨2, ![2, 3]⟩
abbrev S2x8x32x128 : Shape := ⟨4, ![2, 8, 32, 128]⟩
abbrev S16x32x128 : Shape := ⟨3, ![16, 32, 128]⟩
abbrev S2x8x512x128 : Shape := ⟨4, ![2, 8, 512, 128]⟩
abbrev S16x512x128 : Shape := ⟨3, ![16, 512, 128]⟩
abbrev S16x32x512 : Shape := ⟨3, ![16, 32, 512]⟩
abbrev S16x32x1 : Shape := ⟨3, ![16, 32, 1]⟩
abbrev S16x32 : Shape := ⟨2, ![16, 32]⟩
abbrev S1x1x16x32x128 : Shape := ⟨5, ![1, 1, 16, 32, 128]⟩
abbrev S1x1x1x16x32 : Shape := ⟨5, ![1, 1, 1, 16, 32]⟩
abbrev S_ : Shape := ⟨0, ![]⟩
abbrev S1x1 : Shape := ⟨2, ![1, 1]⟩
abbrev S1x1x2x16x32 : Shape := ⟨5, ![1, 1, 2, 16, 32]⟩
abbrev S2x16x32 : Shape := ⟨3, ![2, 16, 32]⟩
abbrev S4x8x32x128 : Shape := ⟨4, ![4, 8, 32, 128]⟩

abbrev nBuf : Space → Nat
  | .hbm => 4
  | .vmem => 12
  | .smem => 0
  | _ => 0

abbrev bufTy : (tb : Table) → Fin (tcTables nBuf tb) → BufTy
  | .hbm, ⟨0, _⟩ => ⟨S4x32x8x128, .bf16⟩
  | .hbm, ⟨1, _⟩ => ⟨S4x4096x8x128, .bf16⟩
  | .hbm, ⟨2, _⟩ => ⟨S4x4096x8x128, .bf16⟩
  | .hbm, ⟨3, _⟩ => ⟨S4x32x8x128, .f32⟩
  | .local _ .vmem, ⟨0, _⟩ => ⟨S2x32x8x128, .bf16⟩
  | .local _ .vmem, ⟨1, _⟩ => ⟨S2x32x8x128, .bf16⟩
  | .local _ .vmem, ⟨2, _⟩ => ⟨S2x512x8x128, .bf16⟩
  | .local _ .vmem, ⟨3, _⟩ => ⟨S2x512x8x128, .bf16⟩
  | .local _ .vmem, ⟨4, _⟩ => ⟨S2x512x8x128, .bf16⟩
  | .local _ .vmem, ⟨5, _⟩ => ⟨S2x512x8x128, .bf16⟩
  | .local _ .vmem, ⟨6, _⟩ => ⟨S4x32x8x128, .f32⟩
  | .local _ .vmem, ⟨7, _⟩ => ⟨S32x32x128, .f32⟩
  | .local _ .vmem, ⟨8, _⟩ => ⟨S32x32x1, .f32⟩
  | .local _ .vmem, ⟨9, _⟩ => ⟨S32x32x1, .f32⟩
  | .local _ .vmem, ⟨10, _⟩ => ⟨S2x4x16x32x128, .bf16⟩
  | .local _ .vmem, ⟨11, _⟩ => ⟨S2x4x2x16x32, .f32⟩
  | _, _ => ⟨S4x32x8x128, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 1 → Bool
  | ⟨0, _⟩ => false
  | _ => false

abbrev dmaSemScoped : Fin 31 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | _ => false

abbrev sig : RefSig :=
  (ofTc nBuf bufTy 1 31 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_scratch0 : Ref sig .tc := ⟨.vmem, 7, rfl⟩
abbrev cc0_scratch1 : Ref sig .tc := ⟨.vmem, 8, rfl⟩
abbrev cc0_scratch2 : Ref sig .tc := ⟨.vmem, 9, rfl⟩
abbrev cc0_scratch3 : Ref sig .tc := ⟨.vmem, 10, rfl⟩
abbrev cc0_scratch4 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev barrier0 : Sem sig := 0

abbrev nD : Nat := 32
abbrev τ : Topo := Topo.v7x

variable {F : FTy → Type} [FloatOps F]

abbrev grid0 : Pipeline.Grid := ⟨2, ![2, 8], ![false, false]⟩

def k0_off1 (i : grid0.Coords) : Fin 3 → Nat :=
  let arg0 : BitVec 32 := BitVec.ofNat 32 (i 0).val
  let c16_i32 : BitVec 32 := 16#32
  let v0 : BitVec 32 := Scalar.muli arg0 c16_i32
  let v21 : Index := Scalar.indexCast v0
  let c0_14 : Index := 0#32
  let c0_15 : Index := 0#32
  ![v21.toNat, 0, 0]
def k0_off2 (i : grid0.Coords) : Fin 3 → Nat :=
  let arg0 : BitVec 32 := BitVec.ofNat 32 (i 0).val
  let c16_i32 : BitVec 32 := 16#32
  let v0 : BitVec 32 := Scalar.muli arg0 c16_i32
  let v37 : Index := Scalar.indexCast v0
  let c0_20 : Index := 0#32
  let c0_21 : Index := 0#32
  ![v37.toNat, 0, 0]
def k0_cond2 (i : grid0.Coords) : BitVec 1 :=
  let arg0 : BitVec 32 := BitVec.ofNat 32 (i 0).val
  let c0_i32_32 : BitVec 32 := 0#32
  let v65 : BitVec 1 := Scalar.cmpi .eq arg0 c0_i32_32
  let arg1 : BitVec 32 := BitVec.ofNat 32 (i 1).val
  let c7_i32 : BitVec 32 := 7#32
  let v66 : BitVec 1 := Scalar.cmpi .eq arg1 c7_i32
  let v67 : BitVec 1 := Scalar.andi v65 v66
  let v68 : BitVec 32 := Scalar.extui v67
  let c0_i32_33 : BitVec 32 := 0#32
  let v69 : BitVec 1 := Scalar.cmpi .ne v68 c0_i32_33
  v69

def k0_dev1 (d56 : Dev nD) : Nat :=
  let c0_i32_69 : BitVec 32 := 0#32
  let v56 : BitVec 32 := Dev.word d56
  let c16_i32_29 : BitVec 32 := 16#32
  let v57 : BitVec 32 := Scalar.divsi v56 c16_i32_29
  let c2_i32 : BitVec 32 := 2#32
  let v58 : BitVec 32 := Scalar.remsi v57 c2_i32
  let c16_i32_68 : BitVec 32 := 16#32
  let v102 : BitVec 32 := Scalar.muli v58 c16_i32_68
  let v103 : BitVec 32 := Scalar.addi c0_i32_69 v102
  let v59 : BitVec 32 := Dev.word d56
  let c4_i32_30 : BitVec 32 := 4#32
  let v60 : BitVec 32 := Scalar.divsi v59 c4_i32_30
  let c4_i32 : BitVec 32 := 4#32
  let v61 : BitVec 32 := Scalar.remsi v60 c4_i32
  let c4_i32_70 : BitVec 32 := 4#32
  let v104 : BitVec 32 := Scalar.muli v61 c4_i32_70
  let v105 : BitVec 32 := Scalar.addi v103 v104
  let v62 : BitVec 32 := Dev.word d56
  let c1_i32 : BitVec 32 := 1#32
  let v63 : BitVec 32 := Scalar.divsi v62 c1_i32
  let c4_i32_31 : BitVec 32 := 4#32
  let v64 : BitVec 32 := Scalar.remsi v63 c4_i32_31
  let c1_i32_60 : BitVec 32 := 1#32
  let v91 : BitVec 32 := Scalar.addi v64 c1_i32_60
  let c4_i32_61 : BitVec 32 := 4#32
  let c0_i32_62 : BitVec 32 := 0#32
  let v92 : BitVec 1 := Scalar.cmpi .eq c4_i32_61 c0_i32_62
  let c1_i32_63 : BitVec 32 := 1#32
  let v93 : BitVec 32 := Scalar.select v92 c1_i32_63 c4_i32_61
  let v94 : BitVec 32 := Scalar.remsi v91 v93
  let c0_i32_65 : BitVec 32 := 0#32
  let v96 : BitVec 1 := Scalar.cmpi .slt v94 c0_i32_65
  let c0_i32_66 : BitVec 32 := 0#32
  let v97 : BitVec 1 := Scalar.cmpi .slt v93 c0_i32_66
  let v98 : BitVec 1 := Scalar.xori v96 v97
  let c0_i32_64 : BitVec 32 := 0#32
  let v95 : BitVec 1 := Scalar.cmpi .ne v94 c0_i32_64
  let v99 : BitVec 1 := Scalar.andi v98 v95
  let v100 : BitVec 32 := Scalar.addi v94 v93
  let v101 : BitVec 32 := Scalar.select v99 v100 v94
  let c1_i32_71 : BitVec 32 := 1#32
  let v106 : BitVec 32 := Scalar.muli v101 c1_i32_71
  let v107 : BitVec 32 := Scalar.addi v105 v106
  v107.toNat
def k0_dev2 (d56 : Dev nD) : Nat :=
  let c0_i32_81 : BitVec 32 := 0#32
  let v56 : BitVec 32 := Dev.word d56
  let c16_i32_29 : BitVec 32 := 16#32
  let v57 : BitVec 32 := Scalar.divsi v56 c16_i32_29
  let c2_i32 : BitVec 32 := 2#32
  let v58 : BitVec 32 := Scalar.remsi v57 c2_i32
  let c16_i32_80 : BitVec 32 := 16#32
  let v119 : BitVec 32 := Scalar.muli v58 c16_i32_80
  let v120 : BitVec 32 := Scalar.addi c0_i32_81 v119
  let v59 : BitVec 32 := Dev.word d56
  let c4_i32_30 : BitVec 32 := 4#32
  let v60 : BitVec 32 := Scalar.divsi v59 c4_i32_30
  let c4_i32 : BitVec 32 := 4#32
  let v61 : BitVec 32 := Scalar.remsi v60 c4_i32
  let c4_i32_82 : BitVec 32 := 4#32
  let v121 : BitVec 32 := Scalar.muli v61 c4_i32_82
  let v122 : BitVec 32 := Scalar.addi v120 v121
  let v62 : BitVec 32 := Dev.word d56
  let c1_i32 : BitVec 32 := 1#32
  let v63 : BitVec 32 := Scalar.divsi v62 c1_i32
  let c4_i32_31 : BitVec 32 := 4#32
  let v64 : BitVec 32 := Scalar.remsi v63 c4_i32_31
  let c2_i32_72 : BitVec 32 := 2#32
  let v108 : BitVec 32 := Scalar.addi v64 c2_i32_72
  let c4_i32_73 : BitVec 32 := 4#32
  let c0_i32_74 : BitVec 32 := 0#32
  let v109 : BitVec 1 := Scalar.cmpi .eq c4_i32_73 c0_i32_74
  let c1_i32_75 : BitVec 32 := 1#32
  let v110 : BitVec 32 := Scalar.select v109 c1_i32_75 c4_i32_73
  let v111 : BitVec 32 := Scalar.remsi v108 v110
  let c0_i32_77 : BitVec 32 := 0#32
  let v113 : BitVec 1 := Scalar.cmpi .slt v111 c0_i32_77
  let c0_i32_78 : BitVec 32 := 0#32
  let v114 : BitVec 1 := Scalar.cmpi .slt v110 c0_i32_78
  let v115 : BitVec 1 := Scalar.xori v113 v114
  let c0_i32_76 : BitVec 32 := 0#32
  let v112 : BitVec 1 := Scalar.cmpi .ne v111 c0_i32_76
  let v116 : BitVec 1 := Scalar.andi v115 v112
  let v117 : BitVec 32 := Scalar.addi v111 v110
  let v118 : BitVec 32 := Scalar.select v116 v117 v111
  let c1_i32_83 : BitVec 32 := 1#32
  let v123 : BitVec 32 := Scalar.muli v118 c1_i32_83
  let v124 : BitVec 32 := Scalar.addi v122 v123
  v124.toNat
def k0_dev3 (d56 : Dev nD) : Nat :=
  let c0_i32_92 : BitVec 32 := 0#32
  let v56 : BitVec 32 := Dev.word d56
  let c16_i32_29 : BitVec 32 := 16#32
  let v57 : BitVec 32 := Scalar.divsi v56 c16_i32_29
  let c2_i32 : BitVec 32 := 2#32
  let v58 : BitVec 32 := Scalar.remsi v57 c2_i32
  let c16_i32_91 : BitVec 32 := 16#32
  let v136 : BitVec 32 := Scalar.muli v58 c16_i32_91
  let v137 : BitVec 32 := Scalar.addi c0_i32_92 v136
  let v59 : BitVec 32 := Dev.word d56
  let c4_i32_30 : BitVec 32 := 4#32
  let v60 : BitVec 32 := Scalar.divsi v59 c4_i32_30
  let c4_i32 : BitVec 32 := 4#32
  let v61 : BitVec 32 := Scalar.remsi v60 c4_i32
  let c4_i32_93 : BitVec 32 := 4#32
  let v138 : BitVec 32 := Scalar.muli v61 c4_i32_93
  let v139 : BitVec 32 := Scalar.addi v137 v138
  let v62 : BitVec 32 := Dev.word d56
  let c1_i32 : BitVec 32 := 1#32
  let v63 : BitVec 32 := Scalar.divsi v62 c1_i32
  let c4_i32_31 : BitVec 32 := 4#32
  let v64 : BitVec 32 := Scalar.remsi v63 c4_i32_31
  let c3_i32 : BitVec 32 := 3#32
  let v125 : BitVec 32 := Scalar.addi v64 c3_i32
  let c4_i32_84 : BitVec 32 := 4#32
  let c0_i32_85 : BitVec 32 := 0#32
  let v126 : BitVec 1 := Scalar.cmpi .eq c4_i32_84 c0_i32_85
  let c1_i32_86 : BitVec 32 := 1#32
  let v127 : BitVec 32 := Scalar.select v126 c1_i32_86 c4_i32_84
  let v128 : BitVec 32 := Scalar.remsi v125 v127
  let c0_i32_88 : BitVec 32 := 0#32
  let v130 : BitVec 1 := Scalar.cmpi .slt v128 c0_i32_88
  let c0_i32_89 : BitVec 32 := 0#32
  let v131 : BitVec 1 := Scalar.cmpi .slt v127 c0_i32_89
  let v132 : BitVec 1 := Scalar.xori v130 v131
  let c0_i32_87 : BitVec 32 := 0#32
  let v129 : BitVec 1 := Scalar.cmpi .ne v128 c0_i32_87
  let v133 : BitVec 1 := Scalar.andi v132 v129
  let v134 : BitVec 32 := Scalar.addi v128 v127
  let v135 : BitVec 32 := Scalar.select v133 v134 v128
  let c1_i32_94 : BitVec 32 := 1#32
  let v140 : BitVec 32 := Scalar.muli v135 c1_i32_94
  let v141 : BitVec 32 := Scalar.addi v139 v140
  v141.toNat
def k0_dev4 (d56 : Dev nD) : Nat :=
  let c0_i32_126 : BitVec 32 := 0#32
  let v56 : BitVec 32 := Dev.word d56
  let c16_i32_29 : BitVec 32 := 16#32
  let v57 : BitVec 32 := Scalar.divsi v56 c16_i32_29
  let c2_i32 : BitVec 32 := 2#32
  let v58 : BitVec 32 := Scalar.remsi v57 c2_i32
  let c16_i32_125 : BitVec 32 := 16#32
  let v175 : BitVec 32 := Scalar.muli v58 c16_i32_125
  let v176 : BitVec 32 := Scalar.addi c0_i32_126 v175
  let v59 : BitVec 32 := Dev.word d56
  let c4_i32_30 : BitVec 32 := 4#32
  let v60 : BitVec 32 := Scalar.divsi v59 c4_i32_30
  let c4_i32 : BitVec 32 := 4#32
  let v61 : BitVec 32 := Scalar.remsi v60 c4_i32
  let c4_i32_127 : BitVec 32 := 4#32
  let v177 : BitVec 32 := Scalar.muli v61 c4_i32_127
  let v178 : BitVec 32 := Scalar.addi v176 v177
  let v62 : BitVec 32 := Dev.word d56
  let c1_i32 : BitVec 32 := 1#32
  let v63 : BitVec 32 := Scalar.divsi v62 c1_i32
  let c4_i32_31 : BitVec 32 := 4#32
  let v64 : BitVec 32 := Scalar.remsi v63 c4_i32_31
  let c1_i32_96 : BitVec 32 := 1#32
  let v142 : BitVec 32 := Scalar.addi v64 c1_i32_96
  let c4_i32_97 : BitVec 32 := 4#32
  let c0_i32_98 : BitVec 32 := 0#32
  let v143 : BitVec 1 := Scalar.cmpi .eq c4_i32_97 c0_i32_98
  let c1_i32_99 : BitVec 32 := 1#32
  let v144 : BitVec 32 := Scalar.select v143 c1_i32_99 c4_i32_97
  let v145 : BitVec 32 := Scalar.remsi v142 v144
  let c0_i32_101 : BitVec 32 := 0#32
  let v147 : BitVec 1 := Scalar.cmpi .slt v145 c0_i32_101
  let c0_i32_102 : BitVec 32 := 0#32
  let v148 : BitVec 1 := Scalar.cmpi .slt v144 c0_i32_102
  let v149 : BitVec 1 := Scalar.xori v147 v148
  let c0_i32_100 : BitVec 32 := 0#32
  let v146 : BitVec 1 := Scalar.cmpi .ne v145 c0_i32_100
  let v150 : BitVec 1 := Scalar.andi v149 v146
  let v151 : BitVec 32 := Scalar.addi v145 v144
  let v152 : BitVec 32 := Scalar.select v150 v151 v145
  let c1_i32_128 : BitVec 32 := 1#32
  let v179 : BitVec 32 := Scalar.muli v152 c1_i32_128
  let v180 : BitVec 32 := Scalar.addi v178 v179
  v180.toNat
def k0_dev5 (d56 : Dev nD) : Nat :=
  let c0_i32_144 : BitVec 32 := 0#32
  let v56 : BitVec 32 := Dev.word d56
  let c16_i32_29 : BitVec 32 := 16#32
  let v57 : BitVec 32 := Scalar.divsi v56 c16_i32_29
  let c2_i32 : BitVec 32 := 2#32
  let v58 : BitVec 32 := Scalar.remsi v57 c2_i32
  let c16_i32_143 : BitVec 32 := 16#32
  let v189 : BitVec 32 := Scalar.muli v58 c16_i32_143
  let v190 : BitVec 32 := Scalar.addi c0_i32_144 v189
  let v59 : BitVec 32 := Dev.word d56
  let c4_i32_30 : BitVec 32 := 4#32
  let v60 : BitVec 32 := Scalar.divsi v59 c4_i32_30
  let c4_i32 : BitVec 32 := 4#32
  let v61 : BitVec 32 := Scalar.remsi v60 c4_i32
  let c4_i32_145 : BitVec 32 := 4#32
  let v191 : BitVec 32 := Scalar.muli v61 c4_i32_145
  let v192 : BitVec 32 := Scalar.addi v190 v191
  let v62 : BitVec 32 := Dev.word d56
  let c1_i32 : BitVec 32 := 1#32
  let v63 : BitVec 32 := Scalar.divsi v62 c1_i32
  let c4_i32_31 : BitVec 32 := 4#32
  let v64 : BitVec 32 := Scalar.remsi v63 c4_i32_31
  let c1_i32_96 : BitVec 32 := 1#32
  let v142 : BitVec 32 := Scalar.addi v64 c1_i32_96
  let c4_i32_97 : BitVec 32 := 4#32
  let c0_i32_98 : BitVec 32 := 0#32
  let v143 : BitVec 1 := Scalar.cmpi .eq c4_i32_97 c0_i32_98
  let c1_i32_99 : BitVec 32 := 1#32
  let v144 : BitVec 32 := Scalar.select v143 c1_i32_99 c4_i32_97
  let v145 : BitVec 32 := Scalar.remsi v142 v144
  let c0_i32_101 : BitVec 32 := 0#32
  let v147 : BitVec 1 := Scalar.cmpi .slt v145 c0_i32_101
  let c0_i32_102 : BitVec 32 := 0#32
  let v148 : BitVec 1 := Scalar.cmpi .slt v144 c0_i32_102
  let v149 : BitVec 1 := Scalar.xori v147 v148
  let c0_i32_100 : BitVec 32 := 0#32
  let v146 : BitVec 1 := Scalar.cmpi .ne v145 c0_i32_100
  let v150 : BitVec 1 := Scalar.andi v149 v146
  let v151 : BitVec 32 := Scalar.addi v145 v144
  let v152 : BitVec 32 := Scalar.select v150 v151 v145
  let c1_i32_146 : BitVec 32 := 1#32
  let v193 : BitVec 32 := Scalar.muli v152 c1_i32_146
  let v194 : BitVec 32 := Scalar.addi v192 v193
  v194.toNat
def k0_dev6 (d56 : Dev nD) : Nat :=
  let c0_i32_162 : BitVec 32 := 0#32
  let v56 : BitVec 32 := Dev.word d56
  let c16_i32_29 : BitVec 32 := 16#32
  let v57 : BitVec 32 := Scalar.divsi v56 c16_i32_29
  let c2_i32 : BitVec 32 := 2#32
  let v58 : BitVec 32 := Scalar.remsi v57 c2_i32
  let c16_i32_161 : BitVec 32 := 16#32
  let v203 : BitVec 32 := Scalar.muli v58 c16_i32_161
  let v204 : BitVec 32 := Scalar.addi c0_i32_162 v203
  let v59 : BitVec 32 := Dev.word d56
  let c4_i32_30 : BitVec 32 := 4#32
  let v60 : BitVec 32 := Scalar.divsi v59 c4_i32_30
  let c4_i32 : BitVec 32 := 4#32
  let v61 : BitVec 32 := Scalar.remsi v60 c4_i32
  let c4_i32_163 : BitVec 32 := 4#32
  let v205 : BitVec 32 := Scalar.muli v61 c4_i32_163
  let v206 : BitVec 32 := Scalar.addi v204 v205
  let v62 : BitVec 32 := Dev.word d56
  let c1_i32 : BitVec 32 := 1#32
  let v63 : BitVec 32 := Scalar.divsi v62 c1_i32
  let c4_i32_31 : BitVec 32 := 4#32
  let v64 : BitVec 32 := Scalar.remsi v63 c4_i32_31
  let c2_i32_103 : BitVec 32 := 2#32
  let v153 : BitVec 32 := Scalar.addi v64 c2_i32_103
  let c4_i32_104 : BitVec 32 := 4#32
  let c0_i32_105 : BitVec 32 := 0#32
  let v154 : BitVec 1 := Scalar.cmpi .eq c4_i32_104 c0_i32_105
  let c1_i32_106 : BitVec 32 := 1#32
  let v155 : BitVec 32 := Scalar.select v154 c1_i32_106 c4_i32_104
  let v156 : BitVec 32 := Scalar.remsi v153 v155
  let c0_i32_108 : BitVec 32 := 0#32
  let v158 : BitVec 1 := Scalar.cmpi .slt v156 c0_i32_108
  let c0_i32_109 : BitVec 32 := 0#32
  let v159 : BitVec 1 := Scalar.cmpi .slt v155 c0_i32_109
  let v160 : BitVec 1 := Scalar.xori v158 v159
  let c0_i32_107 : BitVec 32 := 0#32
  let v157 : BitVec 1 := Scalar.cmpi .ne v156 c0_i32_107
  let v161 : BitVec 1 := Scalar.andi v160 v157
  let v162 : BitVec 32 := Scalar.addi v156 v155
  let v163 : BitVec 32 := Scalar.select v161 v162 v156
  let c1_i32_164 : BitVec 32 := 1#32
  let v207 : BitVec 32 := Scalar.muli v163 c1_i32_164
  let v208 : BitVec 32 := Scalar.addi v206 v207
  v208.toNat
def k0_dev7 (d56 : Dev nD) : Nat :=
  let c0_i32_180 : BitVec 32 := 0#32
  let v56 : BitVec 32 := Dev.word d56
  let c16_i32_29 : BitVec 32 := 16#32
  let v57 : BitVec 32 := Scalar.divsi v56 c16_i32_29
  let c2_i32 : BitVec 32 := 2#32
  let v58 : BitVec 32 := Scalar.remsi v57 c2_i32
  let c16_i32_179 : BitVec 32 := 16#32
  let v217 : BitVec 32 := Scalar.muli v58 c16_i32_179
  let v218 : BitVec 32 := Scalar.addi c0_i32_180 v217
  let v59 : BitVec 32 := Dev.word d56
  let c4_i32_30 : BitVec 32 := 4#32
  let v60 : BitVec 32 := Scalar.divsi v59 c4_i32_30
  let c4_i32 : BitVec 32 := 4#32
  let v61 : BitVec 32 := Scalar.remsi v60 c4_i32
  let c4_i32_181 : BitVec 32 := 4#32
  let v219 : BitVec 32 := Scalar.muli v61 c4_i32_181
  let v220 : BitVec 32 := Scalar.addi v218 v219
  let v62 : BitVec 32 := Dev.word d56
  let c1_i32 : BitVec 32 := 1#32
  let v63 : BitVec 32 := Scalar.divsi v62 c1_i32
  let c4_i32_31 : BitVec 32 := 4#32
  let v64 : BitVec 32 := Scalar.remsi v63 c4_i32_31
  let c2_i32_103 : BitVec 32 := 2#32
  let v153 : BitVec 32 := Scalar.addi v64 c2_i32_103
  let c4_i32_104 : BitVec 32 := 4#32
  let c0_i32_105 : BitVec 32 := 0#32
  let v154 : BitVec 1 := Scalar.cmpi .eq c4_i32_104 c0_i32_105
  let c1_i32_106 : BitVec 32 := 1#32
  let v155 : BitVec 32 := Scalar.select v154 c1_i32_106 c4_i32_104
  let v156 : BitVec 32 := Scalar.remsi v153 v155
  let c0_i32_108 : BitVec 32 := 0#32
  let v158 : BitVec 1 := Scalar.cmpi .slt v156 c0_i32_108
  let c0_i32_109 : BitVec 32 := 0#32
  let v159 : BitVec 1 := Scalar.cmpi .slt v155 c0_i32_109
  let v160 : BitVec 1 := Scalar.xori v158 v159
  let c0_i32_107 : BitVec 32 := 0#32
  let v157 : BitVec 1 := Scalar.cmpi .ne v156 c0_i32_107
  let v161 : BitVec 1 := Scalar.andi v160 v157
  let v162 : BitVec 32 := Scalar.addi v156 v155
  let v163 : BitVec 32 := Scalar.select v161 v162 v156
  let c1_i32_182 : BitVec 32 := 1#32
  let v221 : BitVec 32 := Scalar.muli v163 c1_i32_182
  let v222 : BitVec 32 := Scalar.addi v220 v221
  v222.toNat
def k0_dev8 (d56 : Dev nD) : Nat :=
  let c0_i32_198 : BitVec 32 := 0#32
  let v56 : BitVec 32 := Dev.word d56
  let c16_i32_29 : BitVec 32 := 16#32
  let v57 : BitVec 32 := Scalar.divsi v56 c16_i32_29
  let c2_i32 : BitVec 32 := 2#32
  let v58 : BitVec 32 := Scalar.remsi v57 c2_i32
  let c16_i32_197 : BitVec 32 := 16#32
  let v231 : BitVec 32 := Scalar.muli v58 c16_i32_197
  let v232 : BitVec 32 := Scalar.addi c0_i32_198 v231
  let v59 : BitVec 32 := Dev.word d56
  let c4_i32_30 : BitVec 32 := 4#32
  let v60 : BitVec 32 := Scalar.divsi v59 c4_i32_30
  let c4_i32 : BitVec 32 := 4#32
  let v61 : BitVec 32 := Scalar.remsi v60 c4_i32
  let c4_i32_199 : BitVec 32 := 4#32
  let v233 : BitVec 32 := Scalar.muli v61 c4_i32_199
  let v234 : BitVec 32 := Scalar.addi v232 v233
  let v62 : BitVec 32 := Dev.word d56
  let c1_i32 : BitVec 32 := 1#32
  let v63 : BitVec 32 := Scalar.divsi v62 c1_i32
  let c4_i32_31 : BitVec 32 := 4#32
  let v64 : BitVec 32 := Scalar.remsi v63 c4_i32_31
  let c3_i32_110 : BitVec 32 := 3#32
  let v164 : BitVec 32 := Scalar.addi v64 c3_i32_110
  let c4_i32_111 : BitVec 32 := 4#32
  let c0_i32_112 : BitVec 32 := 0#32
  let v165 : BitVec 1 := Scalar.cmpi .eq c4_i32_111 c0_i32_112
  let c1_i32_113 : BitVec 32 := 1#32
  let v166 : BitVec 32 := Scalar.select v165 c1_i32_113 c4_i32_111
  let v167 : BitVec 32 := Scalar.remsi v164 v166
  let c0_i32_115 : BitVec 32 := 0#32
  let v169 : BitVec 1 := Scalar.cmpi .slt v167 c0_i32_115
  let c0_i32_116 : BitVec 32 := 0#32
  let v170 : BitVec 1 := Scalar.cmpi .slt v166 c0_i32_116
  let v171 : BitVec 1 := Scalar.xori v169 v170
  let c0_i32_114 : BitVec 32 := 0#32
  let v168 : BitVec 1 := Scalar.cmpi .ne v167 c0_i32_114
  let v172 : BitVec 1 := Scalar.andi v171 v168
  let v173 : BitVec 32 := Scalar.addi v167 v166
  let v174 : BitVec 32 := Scalar.select v172 v173 v167
  let c1_i32_200 : BitVec 32 := 1#32
  let v235 : BitVec 32 := Scalar.muli v174 c1_i32_200
  let v236 : BitVec 32 := Scalar.addi v234 v235
  v236.toNat
def k0_dev9 (d56 : Dev nD) : Nat :=
  let c0_i32_216 : BitVec 32 := 0#32
  let v56 : BitVec 32 := Dev.word d56
  let c16_i32_29 : BitVec 32 := 16#32
  let v57 : BitVec 32 := Scalar.divsi v56 c16_i32_29
  let c2_i32 : BitVec 32 := 2#32
  let v58 : BitVec 32 := Scalar.remsi v57 c2_i32
  let c16_i32_215 : BitVec 32 := 16#32
  let v245 : BitVec 32 := Scalar.muli v58 c16_i32_215
  let v246 : BitVec 32 := Scalar.addi c0_i32_216 v245
  let v59 : BitVec 32 := Dev.word d56
  let c4_i32_30 : BitVec 32 := 4#32
  let v60 : BitVec 32 := Scalar.divsi v59 c4_i32_30
  let c4_i32 : BitVec 32 := 4#32
  let v61 : BitVec 32 := Scalar.remsi v60 c4_i32
  let c4_i32_217 : BitVec 32 := 4#32
  let v247 : BitVec 32 := Scalar.muli v61 c4_i32_217
  let v248 : BitVec 32 := Scalar.addi v246 v247
  let v62 : BitVec 32 := Dev.word d56
  let c1_i32 : BitVec 32 := 1#32
  let v63 : BitVec 32 := Scalar.divsi v62 c1_i32
  let c4_i32_31 : BitVec 32 := 4#32
  let v64 : BitVec 32 := Scalar.remsi v63 c4_i32_31
  let c3_i32_110 : BitVec 32 := 3#32
  let v164 : BitVec 32 := Scalar.addi v64 c3_i32_110
  let c4_i32_111 : BitVec 32 := 4#32
  let c0_i32_112 : BitVec 32 := 0#32
  let v165 : BitVec 1 := Scalar.cmpi .eq c4_i32_111 c0_i32_112
  let c1_i32_113 : BitVec 32 := 1#32
  let v166 : BitVec 32 := Scalar.select v165 c1_i32_113 c4_i32_111
  let v167 : BitVec 32 := Scalar.remsi v164 v166
  let c0_i32_115 : BitVec 32 := 0#32
  let v169 : BitVec 1 := Scalar.cmpi .slt v167 c0_i32_115
  let c0_i32_116 : BitVec 32 := 0#32
  let v170 : BitVec 1 := Scalar.cmpi .slt v166 c0_i32_116
  let v171 : BitVec 1 := Scalar.xori v169 v170
  let c0_i32_114 : BitVec 32 := 0#32
  let v168 : BitVec 1 := Scalar.cmpi .ne v167 c0_i32_114
  let v172 : BitVec 1 := Scalar.andi v171 v168
  let v173 : BitVec 32 := Scalar.addi v167 v166
  let v174 : BitVec 32 := Scalar.select v172 v173 v167
  let c1_i32_218 : BitVec 32 := 1#32
  let v249 : BitVec 32 := Scalar.muli v174 c1_i32_218
  let v250 : BitVec 32 := Scalar.addi v248 v249
  v250.toNat
def k0_cond3 (i : grid0.Coords) : BitVec 1 :=
  let arg0 : BitVec 32 := BitVec.ofNat 32 (i 0).val
  let c1_i32_34 : BitVec 32 := 1#32
  let v70 : BitVec 1 := Scalar.cmpi .eq arg0 c1_i32_34
  let arg1 : BitVec 32 := BitVec.ofNat 32 (i 1).val
  let c7_i32_35 : BitVec 32 := 7#32
  let v71 : BitVec 1 := Scalar.cmpi .eq arg1 c7_i32_35
  let v72 : BitVec 1 := Scalar.andi v70 v71
  let v73 : BitVec 32 := Scalar.extui v72
  let c0_i32_36 : BitVec 32 := 0#32
  let v74 : BitVec 1 := Scalar.cmpi .ne v73 c0_i32_36
  v74

def k0_dev10 (d56 : Dev nD) : Nat :=
  let c0_i32_88 : BitVec 32 := 0#32
  let v56 : BitVec 32 := Dev.word d56
  let c16_i32_29 : BitVec 32 := 16#32
  let v57 : BitVec 32 := Scalar.divsi v56 c16_i32_29
  let c2_i32 : BitVec 32 := 2#32
  let v58 : BitVec 32 := Scalar.remsi v57 c2_i32
  let c16_i32_87 : BitVec 32 := 16#32
  let v123 : BitVec 32 := Scalar.muli v58 c16_i32_87
  let v124 : BitVec 32 := Scalar.addi c0_i32_88 v123
  let v59 : BitVec 32 := Dev.word d56
  let c4_i32_30 : BitVec 32 := 4#32
  let v60 : BitVec 32 := Scalar.divsi v59 c4_i32_30
  let c4_i32 : BitVec 32 := 4#32
  let v61 : BitVec 32 := Scalar.remsi v60 c4_i32
  let c4_i32_89 : BitVec 32 := 4#32
  let v125 : BitVec 32 := Scalar.muli v61 c4_i32_89
  let v126 : BitVec 32 := Scalar.addi v124 v125
  let v62 : BitVec 32 := Dev.word d56
  let c1_i32 : BitVec 32 := 1#32
  let v63 : BitVec 32 := Scalar.divsi v62 c1_i32
  let c4_i32_31 : BitVec 32 := 4#32
  let v64 : BitVec 32 := Scalar.remsi v63 c4_i32_31
  let c1_i32_59 : BitVec 32 := 1#32
  let v90 : BitVec 32 := Scalar.addi v64 c1_i32_59
  let c4_i32_60 : BitVec 32 := 4#32
  let c0_i32_61 : BitVec 32 := 0#32
  let v91 : BitVec 1 := Scalar.cmpi .eq c4_i32_60 c0_i32_61
  let c1_i32_62 : BitVec 32 := 1#32
  let v92 : BitVec 32 := Scalar.select v91 c1_i32_62 c4_i32_60
  let v93 : BitVec 32 := Scalar.remsi v90 v92
  let c0_i32_64 : BitVec 32 := 0#32
  let v95 : BitVec 1 := Scalar.cmpi .slt v93 c0_i32_64
  let c0_i32_65 : BitVec 32 := 0#32
  let v96 : BitVec 1 := Scalar.cmpi .slt v92 c0_i32_65
  let v97 : BitVec 1 := Scalar.xori v95 v96
  let c0_i32_63 : BitVec 32 := 0#32
  let v94 : BitVec 1 := Scalar.cmpi .ne v93 c0_i32_63
  let v98 : BitVec 1 := Scalar.andi v97 v94
  let v99 : BitVec 32 := Scalar.addi v93 v92
  let v100 : BitVec 32 := Scalar.select v98 v99 v93
  let c1_i32_90 : BitVec 32 := 1#32
  let v127 : BitVec 32 := Scalar.muli v100 c1_i32_90
  let v128 : BitVec 32 := Scalar.addi v126 v127
  v128.toNat
def k0_dev11 (d56 : Dev nD) : Nat :=
  let c0_i32_106 : BitVec 32 := 0#32
  let v56 : BitVec 32 := Dev.word d56
  let c16_i32_29 : BitVec 32 := 16#32
  let v57 : BitVec 32 := Scalar.divsi v56 c16_i32_29
  let c2_i32 : BitVec 32 := 2#32
  let v58 : BitVec 32 := Scalar.remsi v57 c2_i32
  let c16_i32_105 : BitVec 32 := 16#32
  let v137 : BitVec 32 := Scalar.muli v58 c16_i32_105
  let v138 : BitVec 32 := Scalar.addi c0_i32_106 v137
  let v59 : BitVec 32 := Dev.word d56
  let c4_i32_30 : BitVec 32 := 4#32
  let v60 : BitVec 32 := Scalar.divsi v59 c4_i32_30
  let c4_i32 : BitVec 32 := 4#32
  let v61 : BitVec 32 := Scalar.remsi v60 c4_i32
  let c4_i32_107 : BitVec 32 := 4#32
  let v139 : BitVec 32 := Scalar.muli v61 c4_i32_107
  let v140 : BitVec 32 := Scalar.addi v138 v139
  let v62 : BitVec 32 := Dev.word d56
  let c1_i32 : BitVec 32 := 1#32
  let v63 : BitVec 32 := Scalar.divsi v62 c1_i32
  let c4_i32_31 : BitVec 32 := 4#32
  let v64 : BitVec 32 := Scalar.remsi v63 c4_i32_31
  let c1_i32_59 : BitVec 32 := 1#32
  let v90 : BitVec 32 := Scalar.addi v64 c1_i32_59
  let c4_i32_60 : BitVec 32 := 4#32
  let c0_i32_61 : BitVec 32 := 0#32
  let v91 : BitVec 1 := Scalar.cmpi .eq c4_i32_60 c0_i32_61
  let c1_i32_62 : BitVec 32 := 1#32
  let v92 : BitVec 32 := Scalar.select v91 c1_i32_62 c4_i32_60
  let v93 : BitVec 32 := Scalar.remsi v90 v92
  let c0_i32_64 : BitVec 32 := 0#32
  let v95 : BitVec 1 := Scalar.cmpi .slt v93 c0_i32_64
  let c0_i32_65 : BitVec 32 := 0#32
  let v96 : BitVec 1 := Scalar.cmpi .slt v92 c0_i32_65
  let v97 : BitVec 1 := Scalar.xori v95 v96
  let c0_i32_63 : BitVec 32 := 0#32
  let v94 : BitVec 1 := Scalar.cmpi .ne v93 c0_i32_63
  let v98 : BitVec 1 := Scalar.andi v97 v94
  let v99 : BitVec 32 := Scalar.addi v93 v92
  let v100 : BitVec 32 := Scalar.select v98 v99 v93
  let c1_i32_108 : BitVec 32 := 1#32
  let v141 : BitVec 32 := Scalar.muli v100 c1_i32_108
  let v142 : BitVec 32 := Scalar.addi v140 v141
  v142.toNat
def k0_dev12 (d56 : Dev nD) : Nat :=
  let c0_i32_124 : BitVec 32 := 0#32
  let v56 : BitVec 32 := Dev.word d56
  let c16_i32_29 : BitVec 32 := 16#32
  let v57 : BitVec 32 := Scalar.divsi v56 c16_i32_29
  let c2_i32 : BitVec 32 := 2#32
  let v58 : BitVec 32 := Scalar.remsi v57 c2_i32
  let c16_i32_123 : BitVec 32 := 16#32
  let v151 : BitVec 32 := Scalar.muli v58 c16_i32_123
  let v152 : BitVec 32 := Scalar.addi c0_i32_124 v151
  let v59 : BitVec 32 := Dev.word d56
  let c4_i32_30 : BitVec 32 := 4#32
  let v60 : BitVec 32 := Scalar.divsi v59 c4_i32_30
  let c4_i32 : BitVec 32 := 4#32
  let v61 : BitVec 32 := Scalar.remsi v60 c4_i32
  let c4_i32_125 : BitVec 32 := 4#32
  let v153 : BitVec 32 := Scalar.muli v61 c4_i32_125
  let v154 : BitVec 32 := Scalar.addi v152 v153
  let v62 : BitVec 32 := Dev.word d56
  let c1_i32 : BitVec 32 := 1#32
  let v63 : BitVec 32 := Scalar.divsi v62 c1_i32
  let c4_i32_31 : BitVec 32 := 4#32
  let v64 : BitVec 32 := Scalar.remsi v63 c4_i32_31
  let c2_i32_66 : BitVec 32 := 2#32
  let v101 : BitVec 32 := Scalar.addi v64 c2_i32_66
  let c4_i32_67 : BitVec 32 := 4#32
  let c0_i32_68 : BitVec 32 := 0#32
  let v102 : BitVec 1 := Scalar.cmpi .eq c4_i32_67 c0_i32_68
  let c1_i32_69 : BitVec 32 := 1#32
  let v103 : BitVec 32 := Scalar.select v102 c1_i32_69 c4_i32_67
  let v104 : BitVec 32 := Scalar.remsi v101 v103
  let c0_i32_71 : BitVec 32 := 0#32
  let v106 : BitVec 1 := Scalar.cmpi .slt v104 c0_i32_71
  let c0_i32_72 : BitVec 32 := 0#32
  let v107 : BitVec 1 := Scalar.cmpi .slt v103 c0_i32_72
  let v108 : BitVec 1 := Scalar.xori v106 v107
  let c0_i32_70 : BitVec 32 := 0#32
  let v105 : BitVec 1 := Scalar.cmpi .ne v104 c0_i32_70
  let v109 : BitVec 1 := Scalar.andi v108 v105
  let v110 : BitVec 32 := Scalar.addi v104 v103
  let v111 : BitVec 32 := Scalar.select v109 v110 v104
  let c1_i32_126 : BitVec 32 := 1#32
  let v155 : BitVec 32 := Scalar.muli v111 c1_i32_126
  let v156 : BitVec 32 := Scalar.addi v154 v155
  v156.toNat
def k0_dev13 (d56 : Dev nD) : Nat :=
  let c0_i32_142 : BitVec 32 := 0#32
  let v56 : BitVec 32 := Dev.word d56
  let c16_i32_29 : BitVec 32 := 16#32
  let v57 : BitVec 32 := Scalar.divsi v56 c16_i32_29
  let c2_i32 : BitVec 32 := 2#32
  let v58 : BitVec 32 := Scalar.remsi v57 c2_i32
  let c16_i32_141 : BitVec 32 := 16#32
  let v165 : BitVec 32 := Scalar.muli v58 c16_i32_141
  let v166 : BitVec 32 := Scalar.addi c0_i32_142 v165
  let v59 : BitVec 32 := Dev.word d56
  let c4_i32_30 : BitVec 32 := 4#32
  let v60 : BitVec 32 := Scalar.divsi v59 c4_i32_30
  let c4_i32 : BitVec 32 := 4#32
  let v61 : BitVec 32 := Scalar.remsi v60 c4_i32
  let c4_i32_143 : BitVec 32 := 4#32
  let v167 : BitVec 32 := Scalar.muli v61 c4_i32_143
  let v168 : BitVec 32 := Scalar.addi v166 v167
  let v62 : BitVec 32 := Dev.word d56
  let c1_i32 : BitVec 32 := 1#32
  let v63 : BitVec 32 := Scalar.divsi v62 c1_i32
  let c4_i32_31 : BitVec 32 := 4#32
  let v64 : BitVec 32 := Scalar.remsi v63 c4_i32_31
  let c2_i32_66 : BitVec 32 := 2#32
  let v101 : BitVec 32 := Scalar.addi v64 c2_i32_66
  let c4_i32_67 : BitVec 32 := 4#32
  let c0_i32_68 : BitVec 32 := 0#32
  let v102 : BitVec 1 := Scalar.cmpi .eq c4_i32_67 c0_i32_68
  let c1_i32_69 : BitVec 32 := 1#32
  let v103 : BitVec 32 := Scalar.select v102 c1_i32_69 c4_i32_67
  let v104 : BitVec 32 := Scalar.remsi v101 v103
  let c0_i32_71 : BitVec 32 := 0#32
  let v106 : BitVec 1 := Scalar.cmpi .slt v104 c0_i32_71
  let c0_i32_72 : BitVec 32 := 0#32
  let v107 : BitVec 1 := Scalar.cmpi .slt v103 c0_i32_72
  let v108 : BitVec 1 := Scalar.xori v106 v107
  let c0_i32_70 : BitVec 32 := 0#32
  let v105 : BitVec 1 := Scalar.cmpi .ne v104 c0_i32_70
  let v109 : BitVec 1 := Scalar.andi v108 v105
  let v110 : BitVec 32 := Scalar.addi v104 v103
  let v111 : BitVec 32 := Scalar.select v109 v110 v104
  let c1_i32_144 : BitVec 32 := 1#32
  let v169 : BitVec 32 := Scalar.muli v111 c1_i32_144
  let v170 : BitVec 32 := Scalar.addi v168 v169
  v170.toNat
def k0_dev14 (d56 : Dev nD) : Nat :=
  let c0_i32_160 : BitVec 32 := 0#32
  let v56 : BitVec 32 := Dev.word d56
  let c16_i32_29 : BitVec 32 := 16#32
  let v57 : BitVec 32 := Scalar.divsi v56 c16_i32_29
  let c2_i32 : BitVec 32 := 2#32
  let v58 : BitVec 32 := Scalar.remsi v57 c2_i32
  let c16_i32_159 : BitVec 32 := 16#32
  let v179 : BitVec 32 := Scalar.muli v58 c16_i32_159
  let v180 : BitVec 32 := Scalar.addi c0_i32_160 v179
  let v59 : BitVec 32 := Dev.word d56
  let c4_i32_30 : BitVec 32 := 4#32
  let v60 : BitVec 32 := Scalar.divsi v59 c4_i32_30
  let c4_i32 : BitVec 32 := 4#32
  let v61 : BitVec 32 := Scalar.remsi v60 c4_i32
  let c4_i32_161 : BitVec 32 := 4#32
  let v181 : BitVec 32 := Scalar.muli v61 c4_i32_161
  let v182 : BitVec 32 := Scalar.addi v180 v181
  let v62 : BitVec 32 := Dev.word d56
  let c1_i32 : BitVec 32 := 1#32
  let v63 : BitVec 32 := Scalar.divsi v62 c1_i32
  let c4_i32_31 : BitVec 32 := 4#32
  let v64 : BitVec 32 := Scalar.remsi v63 c4_i32_31
  let c3_i32 : BitVec 32 := 3#32
  let v112 : BitVec 32 := Scalar.addi v64 c3_i32
  let c4_i32_73 : BitVec 32 := 4#32
  let c0_i32_74 : BitVec 32 := 0#32
  let v113 : BitVec 1 := Scalar.cmpi .eq c4_i32_73 c0_i32_74
  let c1_i32_75 : BitVec 32 := 1#32
  let v114 : BitVec 32 := Scalar.select v113 c1_i32_75 c4_i32_73
  let v115 : BitVec 32 := Scalar.remsi v112 v114
  let c0_i32_77 : BitVec 32 := 0#32
  let v117 : BitVec 1 := Scalar.cmpi .slt v115 c0_i32_77
  let c0_i32_78 : BitVec 32 := 0#32
  let v118 : BitVec 1 := Scalar.cmpi .slt v114 c0_i32_78
  let v119 : BitVec 1 := Scalar.xori v117 v118
  let c0_i32_76 : BitVec 32 := 0#32
  let v116 : BitVec 1 := Scalar.cmpi .ne v115 c0_i32_76
  let v120 : BitVec 1 := Scalar.andi v119 v116
  let v121 : BitVec 32 := Scalar.addi v115 v114
  let v122 : BitVec 32 := Scalar.select v120 v121 v115
  let c1_i32_162 : BitVec 32 := 1#32
  let v183 : BitVec 32 := Scalar.muli v122 c1_i32_162
  let v184 : BitVec 32 := Scalar.addi v182 v183
  v184.toNat
def k0_dev15 (d56 : Dev nD) : Nat :=
  let c0_i32_178 : BitVec 32 := 0#32
  let v56 : BitVec 32 := Dev.word d56
  let c16_i32_29 : BitVec 32 := 16#32
  let v57 : BitVec 32 := Scalar.divsi v56 c16_i32_29
  let c2_i32 : BitVec 32 := 2#32
  let v58 : BitVec 32 := Scalar.remsi v57 c2_i32
  let c16_i32_177 : BitVec 32 := 16#32
  let v193 : BitVec 32 := Scalar.muli v58 c16_i32_177
  let v194 : BitVec 32 := Scalar.addi c0_i32_178 v193
  let v59 : BitVec 32 := Dev.word d56
  let c4_i32_30 : BitVec 32 := 4#32
  let v60 : BitVec 32 := Scalar.divsi v59 c4_i32_30
  let c4_i32 : BitVec 32 := 4#32
  let v61 : BitVec 32 := Scalar.remsi v60 c4_i32
  let c4_i32_179 : BitVec 32 := 4#32
  let v195 : BitVec 32 := Scalar.muli v61 c4_i32_179
  let v196 : BitVec 32 := Scalar.addi v194 v195
  let v62 : BitVec 32 := Dev.word d56
  let c1_i32 : BitVec 32 := 1#32
  let v63 : BitVec 32 := Scalar.divsi v62 c1_i32
  let c4_i32_31 : BitVec 32 := 4#32
  let v64 : BitVec 32 := Scalar.remsi v63 c4_i32_31
  let c3_i32 : BitVec 32 := 3#32
  let v112 : BitVec 32 := Scalar.addi v64 c3_i32
  let c4_i32_73 : BitVec 32 := 4#32
  let c0_i32_74 : BitVec 32 := 0#32
  let v113 : BitVec 1 := Scalar.cmpi .eq c4_i32_73 c0_i32_74
  let c1_i32_75 : BitVec 32 := 1#32
  let v114 : BitVec 32 := Scalar.select v113 c1_i32_75 c4_i32_73
  let v115 : BitVec 32 := Scalar.remsi v112 v114
  let c0_i32_77 : BitVec 32 := 0#32
  let v117 : BitVec 1 := Scalar.cmpi .slt v115 c0_i32_77
  let c0_i32_78 : BitVec 32 := 0#32
  let v118 : BitVec 1 := Scalar.cmpi .slt v114 c0_i32_78
  let v119 : BitVec 1 := Scalar.xori v117 v118
  let c0_i32_76 : BitVec 32 := 0#32
  let v116 : BitVec 1 := Scalar.cmpi .ne v115 c0_i32_76
  let v120 : BitVec 1 := Scalar.andi v119 v116
  let v121 : BitVec 32 := Scalar.addi v115 v114
  let v122 : BitVec 32 := Scalar.select v120 v121 v115
  let c1_i32_180 : BitVec 32 := 1#32
  let v197 : BitVec 32 := Scalar.muli v122 c1_i32_180
  let v198 : BitVec 32 := Scalar.addi v196 v197
  v198.toNat
def cc0_transform_0 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_1 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_2 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_3 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  let c0_i32_3 : BitVec 32 := 0#32
  ![c0_i32.toNat, c0_i32_0.toNat, c0_i32_1.toNat, c0_i32_2.toNat]

abbrev stage0_0 : Fin 2 → Memref sig .tc .vmem S2x32x8x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S2x512x8x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S2x512x8x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 1 → Memref sig .tc .vmem S4x32x8x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]
-- ==== ReferenceIdeal.lean ====
abbrev S4x32x8x128 : Shape := ⟨4, ![4, 32, 8, 128]⟩
abbrev S4x16384x8x128 : Shape := ⟨4, ![4, 16384, 8, 128]⟩
abbrev S4x8x32x16384 : Shape := ⟨4, ![4, 8, 32, 16384]⟩
abbrev S_ : Shape := ⟨0, ![]⟩
abbrev S4x8x32 : Shape := ⟨3, ![4, 8, 32]⟩
abbrev S4x8x32x1 : Shape := ⟨4, ![4, 8, 32, 1]⟩
abbrev S4x8x128x32 : Shape := ⟨4, ![4, 8, 128, 32]⟩

abbrev nBuf : Space → Nat
  | .hbm => 23
  | .vmem => 0
  | .smem => 0
  | _ => 0

abbrev bufTy : (tb : Table) → Fin (tcTables nBuf tb) → BufTy
  | .hbm, ⟨0, _⟩ => ⟨S4x32x8x128, .bf16⟩
  | .hbm, ⟨1, _⟩ => ⟨S4x16384x8x128, .bf16⟩
  | .hbm, ⟨2, _⟩ => ⟨S4x16384x8x128, .bf16⟩
  | .hbm, ⟨3, _⟩ => ⟨S4x32x8x128, .f32⟩
  | .hbm, ⟨4, _⟩ => ⟨S4x16384x8x128, .f32⟩
  | .hbm, ⟨5, _⟩ => ⟨S4x16384x8x128, .f32⟩
  | .hbm, ⟨6, _⟩ => ⟨S4x8x32x16384, .f32⟩
  | .hbm, ⟨7, _⟩ => ⟨S_, .f32⟩
  | .hbm, ⟨8, _⟩ => ⟨S4x8x32x16384, .f32⟩
  | .hbm, ⟨9, _⟩ => ⟨S4x8x32x16384, .f32⟩
  | .hbm, ⟨10, _⟩ => ⟨S_, .f32⟩
  | .hbm, ⟨11, _⟩ => ⟨S4x8x32, .f32⟩
  | .hbm, ⟨12, _⟩ => ⟨S4x8x32x1, .f32⟩
  | .hbm, ⟨13, _⟩ => ⟨S4x8x32x16384, .f32⟩
  | .hbm, ⟨14, _⟩ => ⟨S4x8x32x16384, .f32⟩
  | .hbm, ⟨15, _⟩ => ⟨S4x8x32x16384, .f32⟩
  | .hbm, ⟨16, _⟩ => ⟨S_, .f32⟩
  | .hbm, ⟨17, _⟩ => ⟨S4x8x32, .f32⟩
  | .hbm, ⟨18, _⟩ => ⟨S4x8x32x1, .f32⟩
  | .hbm, ⟨19, _⟩ => ⟨S4x8x32x16384, .f32⟩
  | .hbm, ⟨20, _⟩ => ⟨S4x8x32x16384, .f32⟩
  | .hbm, ⟨21, _⟩ => ⟨S4x8x128x32, .f32⟩
  | .hbm, ⟨22, _⟩ => ⟨S4x32x8x128, .f32⟩
  | _, _ => ⟨S4x32x8x128, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_cst : Ref sig .tc := ⟨.hbm, 7, rfl⟩
abbrev main_v4 : Ref sig .tc := ⟨.hbm, 8, rfl⟩
abbrev main_v5 : Ref sig .tc := ⟨.hbm, 9, rfl⟩
abbrev main_cst_0 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_cst_1 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩

abbrev nD : Nat := 1
abbrev τ : Topo := Topo.v7x

variable {F : FTy → Type} [FloatOps F]
-- ==== Proof.Mesh.lean ====
/-
The mesh of the flash-decoding kernel: peers along the last axis, the kernel's semaphores and communication slots.
-/
module

public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import Idealize.ShloMosaic.Lib.Pipeline.Launch
public import Idealize.ShloMosaic.Lib.Pipeline.Kit
public import Idealize.ShloMosaic.Lib.Tactic

@[expose] public section

set_option maxRecDepth 16384

noncomputable section

namespace Cert.KernelIdeal.Merge

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

/-! ## Peers: the device at distance `e + 1` along the last mesh axis -/

set_option backward.proofsInPublic true in
def pe (e : Fin 3) (c : Dev nD) : Dev nD := ⟨c.val - c.val % 4 + (c.val % 4 + (e.val + 1)) % 4, by
  have := c.isLt; simp only [nD] at this ⊢; omega⟩

/-- The way back from the peer at distance `e + 1` is the distance `4 - (e + 1)`. -/
abbrev bk (e : Fin 3) : Fin 3 := Fin.rev e

theorem bk_bk (e : Fin 3) : bk (bk e) = e := Fin.rev_rev e
theorem pe_bk (e : Fin 3) (c : Dev nD) : pe (bk e) (pe e c) = c := by revert e c; decide +kernel
theorem bk_pe (e : Fin 3) (c : Dev nD) : pe e (pe (bk e) c) = c := by revert e c; decide +kernel

/-- The peers at distance `e + 1`, a permutation of the devices. -/
def peEquiv (e : Fin 3) : Dev nD ≃ Dev nD := ⟨pe e, pe (bk e), pe_bk e, bk_pe e⟩

/-- The communication slot that a copy of distance `e + 1` lands in. -/
abbrev sl (e : Fin 3) : Fin 4 := e.succ

theorem dev1_eq (c : Dev nD) : k0_dev1 c = (pe 0 c).val := by revert c; decide +kernel
theorem dev2_eq (c : Dev nD) : k0_dev2 c = (pe 1 c).val := by revert c; decide +kernel
theorem dev3_eq (c : Dev nD) : k0_dev3 c = (pe 2 c).val := by revert c; decide +kernel
theorem dev4_eq (c : Dev nD) : k0_dev4 c = (pe 0 c).val := by revert c; decide +kernel
theorem dev5_eq (c : Dev nD) : k0_dev5 c = (pe 0 c).val := by revert c; decide +kernel
theorem dev6_eq (c : Dev nD) : k0_dev6 c = (pe 1 c).val := by revert c; decide +kernel
theorem dev7_eq (c : Dev nD) : k0_dev7 c = (pe 1 c).val := by revert c; decide +kernel
theorem dev8_eq (c : Dev nD) : k0_dev8 c = (pe 2 c).val := by revert c; decide +kernel
theorem dev9_eq (c : Dev nD) : k0_dev9 c = (pe 2 c).val := by revert c; decide +kernel
theorem dev10_eq (c : Dev nD) : k0_dev10 c = (pe 0 c).val := by revert c; decide +kernel
theorem dev11_eq (c : Dev nD) : k0_dev11 c = (pe 0 c).val := by revert c; decide +kernel
theorem dev12_eq (c : Dev nD) : k0_dev12 c = (pe 1 c).val := by revert c; decide +kernel
theorem dev13_eq (c : Dev nD) : k0_dev13 c = (pe 1 c).val := by revert c; decide +kernel
theorem dev14_eq (c : Dev nD) : k0_dev14 c = (pe 2 c).val := by revert c; decide +kernel
theorem dev15_eq (c : Dev nD) : k0_dev15 c = (pe 2 c).val := by revert c; decide +kernel

/-! ## Semaphores -/

/-- The runtime's barrier semaphore. -/
abbrev barS : Sem sig := (SemArray.scalar (sig.barrier 0 rfl) : Sems sig S_).sem

theorem inb_sem (g : Fin 2) (e : Fin 3) : ∀ a : Fin 2, (![g.val, e.val] : Fin 2 → Nat) a + S1x1.size a ≤ S2x3.size a := by
  revert g e; decide

/-- The four arrays of copy semaphores: send and receive of the accumulators, send and receive of the statistics. -/
abbrev arr : Fin 4 → DmaSems sig S2x3 := fun | 0 => cc0_scratch5 | 1 => cc0_scratch6 | 2 => cc0_scratch7 | 3 => cc0_scratch8

/-- The copy semaphore of array `k` for row group `g` and distance `e + 1`. -/
abbrev dsem (k : Fin 4) (g : Fin 2) (e : Fin 3) : DmaSem sig :=
  (((arr k).slice (Rect.unit (s := S2x3) ![g.val, e.val] S1x1.size (inb_sem g e))).squeeze S_ squeezes_S1x1_S_).sem

/-- The names of a device's cells: the barrier, and the copy semaphores. -/
abbrev CK : Type := Option (Fin 4 × Fin 2 × Fin 3)

abbrev csem : CK → SemLoc sig := fun | none => .reg barS | some (k, g, e) => .dma (dsem k g e)

theorem csem_injective : Function.Injective csem := by decide +kernel

abbrev cell (c : Dev nD) (k : CK) : GSem nD τ sig := ((c : Thread nD τ), csem k)

open Classical in
/-- The name of a semaphore, where it is one of the kernel's. -/
def ixOf (s : SemLoc sig) : Option CK := if h : ∃ k, csem k = s then some h.choose else none

theorem ixOf_csem (k : CK) : ixOf (csem k) = some k := by
  have h : ∃ k', csem k' = csem k := ⟨k, rfl⟩
  unfold ixOf
  rw [dif_pos h]
  exact congrArg some (csem_injective h.choose_spec)

theorem ixOf_some {s : SemLoc sig} {k : CK} (h : ixOf s = some k) : csem k = s := by
  unfold ixOf at h
  split at h
  · rename_i h'; rw [← Option.some.inj h]; exact h'.choose_spec
  · cases h

/-! ## Communication slots -/

theorem inb_o (g : Fin 2) (d : Fin 4) : ∀ a : Fin 5, (![g.val, d.val, 0, 0, 0] : Fin 5 → Nat) a + S1x1x16x32x128.size a ≤ S2x4x16x32x128.size a := by
  revert g d; decide
theorem inb_s (g : Fin 2) (d : Fin 4) : ∀ a : Fin 5, (![g.val, d.val, 0, 0, 0] : Fin 5 → Nat) a + S1x1x2x16x32.size a ≤ S2x4x2x16x32.size a := by
  revert g d; decide
theorem inb_h (g : Fin 2) (d : Fin 4) (j : Fin 2) : ∀ a : Fin 5, (![g.val, d.val, j.val, 0, 0] : Fin 5 → Nat) a + S1x1x1x16x32.size a ≤ S2x4x2x16x32.size a := by
  revert g d j; decide

/-- The accumulators' slot `d` of row group `g`. -/
abbrev rectO (g : Fin 2) (d : Fin 4) : Rect S2x4x16x32x128 := Rect.unit (s := S2x4x16x32x128) ![g.val, d.val, 0, 0, 0] S1x1x16x32x128.size (inb_o g d)
abbrev rectS (g : Fin 2) (d : Fin 4) : Rect S2x4x2x16x32 := Rect.unit (s := S2x4x2x16x32) ![g.val, d.val, 0, 0, 0] S1x1x2x16x32.size (inb_s g d)
/-- One half of a statistics slot: the maxima (0) or the sums (1). -/
abbrev rectH (g : Fin 2) (d : Fin 4) (j : Fin 2) : Rect S2x4x2x16x32 := Rect.unit (s := S2x4x2x16x32) ![g.val, d.val, j.val, 0, 0] S1x1x1x16x32.size (inb_h g d j)

abbrev coM : Memref sig .tc .vmem S2x4x16x32x128 .bf16 := Memref.whole cc0_scratch3
abbrev csM : Memref sig .tc .vmem S2x4x2x16x32 .f32 := Memref.whole cc0_scratch4
abbrev oM : Memref sig .tc .vmem S32x32x128 .f32 := Memref.whole cc0_scratch0
abbrev mM : Memref sig .tc .vmem S32x32x1 .f32 := Memref.whole cc0_scratch1
abbrev lM : Memref sig .tc .vmem S32x32x1 .f32 := Memref.whole cc0_scratch2

abbrev slotO (g : Fin 2) (d : Fin 4) : Memref sig .tc .vmem S16x32x128 .bf16 :=
  (coM.slice (rectO g d) (fun _ => rfl)).squeeze S16x32x128 squeezes_S1x1x16x32x128_S16x32x128
abbrev slotS (g : Fin 2) (d : Fin 4) : Memref sig .tc .vmem S2x16x32 .f32 :=
  (csM.slice (rectS g d) (fun _ => rfl)).squeeze S2x16x32 squeezes_S1x1x2x16x32_S2x16x32

/-- A copy's credit: of an accumulators' slot, of a statistics slot. -/
def NO : ℕ := (slotO 0 0).view.dmaCredit
def NS : ℕ := (slotS 0 0).view.dmaCredit
theorem NO_pos : 0 < NO := View.dmaCredit_pos _ (by decide)
theorem NS_pos : 0 < NS := View.dmaCredit_pos _ (by decide)
theorem credit_O (g : Fin 2) (d : Fin 4) : (slotO g d).view.dmaCredit = NO := rfl
theorem credit_S (g : Fin 2) (d : Fin 4) : (slotS g d).view.dmaCredit = NS := rfl
/-- The credit of a copy of array `k`. -/
def NN (k : Fin 4) : ℕ := if k.val < 2 then NO else NS
theorem NN_pos (k : Fin 4) : 0 < NN k := by unfold NN; split; exacts [NO_pos, NS_pos]

end Cert.KernelIdeal.Merge
-- ==== Proof.State.lean ====
/-
What each buffer holds after each grid point, and the schedule of the kernel's semaphores.
-/
module

public import proofs.«01_k».proof.Proof.Mesh

@[expose] public section

set_option maxRecDepth 16384

noncomputable section

namespace Cert.KernelIdeal.Merge

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-! ## The resource algebra: the pipeline's copy of the rounds, and the kernel's own (three duties a cell at most) -/

abbrev UB : Type := URounds (GSem nD τ sig) (Fin 3)
abbrev UU : Type := UR sig nD τ × UB

local notation "𝕄" => MT nD τ sig Unit (Elt F) ℕ UU ℕ

abbrev EP : Emb (UR sig nD τ) (MT nD τ sig Unit (Elt F) ℕ UU ℕ) := embL
abbrev ER : Emb UB (MT nD τ sig Unit (Elt F) ℕ UU ℕ) := embR

variable (m : (ℓ : Loc nD τ sig) → Buf (Elt F) ℓ) (ρ : Dev nD → PrngReg)

/-! ## The running softmax's state -/

/-- The accumulators, the maxima and the sums of all 32 rows. -/
structure Stt (F : FTy → Type) where
  o : (cc0_scratch0 : Ref sig .tc).ty.Contents (Elt F)
  m : (cc0_scratch1 : Ref sig .tc).ty.Contents (Elt F)
  l : (cc0_scratch2 : Ref sig .tc).ty.Contents (Elt F)

abbrev rowsO (t : Fin cfg0.N) : Rect S32x32x128 := Rect.unit (s := S32x32x128) (k0_off2 (grid0.coords t)) S16x32x128.size (k0_off2_inb (grid0.coords t))
abbrev rowsM (t : Fin cfg0.N) : Rect S32x32x1 := Rect.unit (s := S32x32x1) (k0_off1 (grid0.coords t)) S16x32x1.size (k0_off1_inb (grid0.coords t))

abbrev qB (c : Dev nD) (t : Fin cfg0.N) : Vec F S2x32x8x128 .bf16 := Gen.iblk m c (0 : Fin 4) t
abbrev kB (c : Dev nD) (t : Fin cfg0.N) : Vec F S2x512x8x128 .bf16 := Gen.iblk m c (1 : Fin 4) t
abbrev vB (c : Dev nD) (t : Fin cfg0.N) : Vec F S2x512x8x128 .bf16 := Gen.iblk m c (2 : Fin 4) t

abbrev mRead (t : Fin cfg0.N) (s : Stt F) : Vec F S16x32x1 .f32 := mM.view.readAt (Elt F) (rowsM t).toLoadRect s.m
abbrev lRead (t : Fin cfg0.N) (s : Stt F) : Vec F S16x32x1 .f32 := lM.view.readAt (Elt F) (rowsM t).toLoadRect s.l
abbrev oRead (t : Fin cfg0.N) (s : Stt F) : Vec F S16x32x128 .f32 := oM.view.readAt (Elt F) (rowsO t).toLoadRect s.o

/-- One grid point: the group's rows brought up to date with one block of keys and values. -/
def upd (t : Fin cfg0.N) (q : Vec F S2x32x8x128 .bf16) (k v : Vec F S2x512x8x128 .bf16) (s : Stt F) : Stt F where
  m := (mM.access (rowsM t)).write (Elt F) s.m (k0_pay49 (k0_pay45 q k (mRead t s))) Finset.univ
  l := (lM.access (rowsM t)).write (Elt F) s.l (k0_pay50 (k0_pay47 q k (mRead t s)) (k0_pay48 q k (mRead t s) (lRead t s))) Finset.univ
  o := (oM.access (rowsO t)).write (Elt F) s.o
    (k0_pay51 (k0_pay43 v) (k0_pay46 q k (mRead t s)) (k0_pay47 q k (mRead t s)) (oRead t s)) Finset.univ

/-- The state the first grid point starts the scratch at. -/
def st0 : Stt F := ⟨k0_pay42, k0_pay40, k0_pay41⟩

/-- The point numbered `n`. -/
def tn (n : ℕ) : Fin cfg0.N := ⟨n % 16, by have : cfg0.N = 16 := N_0; omega⟩
theorem tn_val (t : Fin cfg0.N) : tn t.val = t := by
  have : cfg0.N = 16 := N_0
  have := t.isLt
  exact Fin.ext (by simp only [tn]; omega)

/-- The state after `n` grid points. -/
def St (c : Dev nD) : ℕ → Stt F
  | 0 => st0
  | n + 1 => upd (tn n) (qB m c (tn n)) (kB m c (tn n)) (vB m c (tn n)) (St c n)

theorem St_succ (c : Dev nD) (t : Fin cfg0.N) :
    St m c (t.val + 1) = upd t (qB m c t) (kB m c t) (vB m c t) (St m c t.val) := by
  rw [St, tn_val]

/-! ## What a device sends, and what it computes from what it receives -/

theorem inb_gO (g : Fin 2) : ∀ a : Fin 3, (![16 * g.val, 0, 0] : Fin 3 → Nat) a + S16x32x128.size a ≤ S32x32x128.size a := by revert g; decide
theorem inb_gM (g : Fin 2) : ∀ a : Fin 3, (![16 * g.val, 0, 0] : Fin 3 → Nat) a + S16x32x1.size a ≤ S32x32x1.size a := by revert g; decide

/-- The rows of group `g`. -/
abbrev grpO (g : Fin 2) : Rect S32x32x128 := Rect.unit (s := S32x32x128) ![16 * g.val, 0, 0] S16x32x128.size (inb_gO g)
abbrev grpM (g : Fin 2) : Rect S32x32x1 := Rect.unit (s := S32x32x1) ![16 * g.val, 0, 0] S16x32x1.size (inb_gM g)

abbrev gO (g : Fin 2) (s : Stt F) : Vec F S16x32x128 .f32 := oM.view.readAt (Elt F) (grpO g).toLoadRect s.o
abbrev gM (g : Fin 2) (s : Stt F) : Vec F S16x32x1 .f32 := mM.view.readAt (Elt F) (grpM g).toLoadRect s.m
abbrev gL (g : Fin 2) (s : Stt F) : Vec F S16x32x1 .f32 := lM.view.readAt (Elt F) (grpM g).toLoadRect s.l

/-- What device `c` sends of group `g`: the accumulators, the maxima, the sums. -/
def sO (c : Dev nD) (g : Fin 2) : Vec F S1x1x16x32x128 .bf16 := k0_pay3 (gO g (St m c (8 * (g.val + 1))))
def sM (c : Dev nD) (g : Fin 2) : Vec F S1x1x1x16x32 .f32 := k0_pay4 (gM g (St m c (8 * (g.val + 1))))
def sL (c : Dev nD) (g : Fin 2) : Vec F S1x1x1x16x32 .f32 := k0_pay5 (gL g (St m c (8 * (g.val + 1))))

/-- What lands at `c` in the slot of distance `e + 1`. -/
abbrev rO (c : Dev nD) (g : Fin 2) (e : Fin 3) : Vec F S1x1x16x32x128 .bf16 := sO m (pe (bk e) c) g
abbrev rM (c : Dev nD) (g : Fin 2) (e : Fin 3) : Vec F S1x1x1x16x32 .f32 := sM m (pe (bk e) c) g
abbrev rL (c : Dev nD) (g : Fin 2) (e : Fin 3) : Vec F S1x1x1x16x32 .f32 := sL m (pe (bk e) c) g

/-! ## Points-to of the communication slots -/

section Slots
variable (c : Dev nD) (g : Fin 2) (d : Fin 4) (q : PosShare TreeShare)

def oPts (f : Buf (Elt F) ((slotO g d).view.loc (c : Thread nD τ))) : sProp 𝕄 :=
  (slotO g d).view.loc (c : Thread nD τ) ↦[(slotO g d).view.set]{q} f
def sPts (f : Buf (Elt F) ((slotS g d).view.loc (c : Thread nD τ))) : sProp 𝕄 :=
  (slotS g d).view.loc (c : Thread nD τ) ↦[(slotS g d).view.set]{q} f

/-- The slot, holding `v`. -/
def oHas (v : Vec F S1x1x16x32x128 .bf16) : sProp 𝕄 :=
  iprop(∃ f, ⌜coM.view.readAt (Elt F) (rectO g d).toLoadRect f = v⌝ ∗ oPts c g d q f)
def sHas (vm vl : Vec F S1x1x1x16x32 .f32) : sProp 𝕄 :=
  iprop(∃ f, ⌜csM.view.readAt (Elt F) (rectH g d 0).toLoadRect f = vm ∧ csM.view.readAt (Elt F) (rectH g d 1).toLoadRect f = vl⌝ ∗ sPts c g d q f)
/-- The slot, whatever it holds. -/
def oAny : sProp 𝕄 := iprop(∃ f, oPts (F := F) c g d q f)
def sAny : sProp 𝕄 := iprop(∃ f, sPts (F := F) c g d q f)

instance oPts_storable (f) : BI.Storable (upEmb : UEmb _ 𝕄) (oPts (F := F) c g d q f) := by unfold oPts; infer_instance
instance sPts_storable (f) : BI.Storable (upEmb : UEmb _ 𝕄) (sPts (F := F) c g d q f) := by unfold sPts; infer_instance
instance oHas_storable (v) : BI.Storable (upEmb : UEmb _ 𝕄) (oHas (F := F) c g d q v) := by unfold oHas; infer_instance
instance sHas_storable (v w) : BI.Storable (upEmb : UEmb _ 𝕄) (sHas (F := F) c g d q v w) := by unfold sHas; infer_instance
instance oAny_storable : BI.Storable (upEmb : UEmb _ 𝕄) (oAny (F := F) c g d q) := by unfold oAny; infer_instance
instance sAny_storable : BI.Storable (upEmb : UEmb _ 𝕄) (sAny (F := F) c g d q) := by unfold sAny; infer_instance

end Slots

/-- The share of the own slot a copy of distance `e + 1` reads. -/
def sh (e : Fin 3) : PosShare TreeShare := match e with
  | 0 => fullShare.left | 1 => fullShare.right.left | 2 => fullShare.right.right

/-- The two slots of group `g` that `c`'s copies of distance `e + 1` write, at the peer. -/
def land (c : Dev nD) (g : Fin 2) (e : Fin 3) : sProp 𝕄 := iprop(oAny (F := F) (pe e c) g (sl e) fullShare ∗ sAny (F := F) (pe e c) g (sl e) fullShare)

instance land_storable (c : Dev nD) (g : Fin 2) (e : Fin 3) : BI.Storable (upEmb : UEmb _ 𝕄) (land (F := F) c g e) := by unfold land; infer_instance

/-! ## The schedule -/

/-- What the barrier's signal from the peer at distance `e + 1` brings: that peer's landing slots. -/
def barPay (c : Dev nD) (e : Fin 3) : sProp 𝕄 := iprop(land (F := F) c 0 e ∗ land (F := F) c 1 e)

/-- What a copy's semaphore brings: its share of the source back, or the landed slot. -/
def copyPay (c : Dev nD) (k : Fin 4) (g : Fin 2) (e : Fin 3) : sProp 𝕄 := match k with
  | 0 => oAny (F := F) c g 0 (sh e)
  | 1 => oHas c g (sl e) fullShare (rO m c g e)
  | 2 => sAny (F := F) c g 0 (sh e)
  | 3 => sHas c g (sl e) fullShare (rM m c g e) (rL m c g e)

instance barPay_storable (c : Dev nD) (e : Fin 3) : BI.Storable (upEmb : UEmb _ 𝕄) (barPay (F := F) c e) := by unfold barPay; infer_instance
instance copyPay_storable (c : Dev nD) (k : Fin 4) (g : Fin 2) (e : Fin 3) : BI.Storable (upEmb : UEmb _ 𝕄) (copyPay m c k g e) := by
  unfold copyPay; fin_cases k <;> infer_instance

def dutiesOf : Option CK → Finset (Fin 3)
  | some none => Finset.univ
  | some (some _) => {0}
  | none => ∅
def amountOf : Option CK → ℕ
  | some (some (k, _, _)) => NN k
  | _ => 1
def payOf (c : Dev nD) (d : Fin 3) : Option CK → sProp 𝕄
  | some none => barPay (F := F) c d
  | some (some (k, g, e)) => copyPay m c k g e
  | none => iprop(emp)

instance payOf_storable (c : Dev nD) (d : Fin 3) (k : Option CK) : BI.Storable (upEmb : UEmb _ 𝕄) (payOf m c d k) := by
  rcases k with _ | _ | ⟨k, g, e⟩ <;> unfold payOf <;> infer_instance

/-- One round: three duties at a barrier, one at a copy's semaphore. -/
def Rd : Rounds.Schedule (GSem nD τ sig) (Fin 3) 𝕄 where
  duties g r := if r = 0 ∧ g.1.2 = .tc then dutiesOf (ixOf g.2) else ∅
  unitless _ := False
  amount g _ _ := amountOf (ixOf g.2)
  payload g _ d := payOf m g.1.1 d (ixOf g.2)
  amount_pos g _ _ _ := by
    rcases ixOf g.2 with _ | _ | ⟨k, _, _⟩
    · exact Nat.one_pos
    · exact Nat.one_pos
    · exact NN_pos k

instance Rd_payload_storable (g : GSem nD τ sig) (r : ℕ) (d : Fin 3) :
    BI.Storable (upEmb : UEmb _ 𝕄) ((Rd (F := F) m).payload g r d) := by
  show BI.Storable upEmb (payOf m g.1.1 d (ixOf g.2))
  infer_instance

section Sched
variable (c : Dev nD) (k : Fin 4) (g : Fin 2) (e : Fin 3)

theorem duties_cell (x : CK) : (Rd (F := F) m).duties (cell c x) 0 = dutiesOf (some x) := by
  dsimp only [Rd]; rw [if_pos ⟨rfl, rfl⟩]; exact congrArg dutiesOf (ixOf_csem x)
theorem duties_later (x : GSem nD τ sig) : ∀ r, 1 ≤ r → (Rd (F := F) m).duties x r = ∅ :=
  fun r hr => by dsimp only [Rd]; rw [if_neg fun h => by omega]
theorem amount_cell (x : CK) (d : Fin 3) : (Rd (F := F) m).amount (cell c x) 0 d = amountOf (some x) :=
  congrArg amountOf (ixOf_csem x)
theorem payload_cell (x : CK) (d : Fin 3) : (Rd (F := F) m).payload (cell c x) 0 d = payOf m c d (some x) :=
  congrArg (payOf m c d) (ixOf_csem x)

theorem duties_bar : (Rd (F := F) m).duties (cell c none) 0 = Finset.univ := duties_cell m c none
theorem duties_copy : (Rd (F := F) m).duties (cell c (some (k, g, e))) 0 = {0} := duties_cell m c _
theorem amount_bar (d : Fin 3) : (Rd (F := F) m).amount (cell c none) 0 d = 1 := amount_cell m c none d
theorem amount_copy (d : Fin 3) : (Rd (F := F) m).amount (cell c (some (k, g, e))) 0 d = NN k := amount_cell m c _ d
theorem payload_bar (d : Fin 3) : (Rd (F := F) m).payload (cell c none) 0 d = barPay c d := payload_cell m c none d
theorem payload_copy (d : Fin 3) : (Rd (F := F) m).payload (cell c (some (k, g, e))) 0 d = copyPay m c k g e := payload_cell m c _ d

theorem expect_bar : (Rd (F := F) m).expect (cell c none) 0 = 3 := by
  unfold Schedule.expect Schedule.amountOf
  rw [duties_bar, Finset.sum_congr rfl fun d _ => amount_bar m c d, Finset.sum_const, Finset.card_univ, Fintype.card_fin, smul_eq_mul]
theorem expect_copy : (Rd (F := F) m).expect (cell c (some (k, g, e))) 0 = NN k := by
  unfold Schedule.expect Schedule.amountOf; rw [duties_copy, Finset.sum_singleton, amount_copy]

theorem rest_bar : bigSep ((Rd (F := F) m).duties (cell c none) 0 \ ∅) (fun d => (Rd (F := F) m).payload (cell c none) 0 d)
    = iprop(barPay c 0 ∗ barPay c 1 ∗ barPay c 2) := by
  rw [Finset.sdiff_empty, duties_bar, bigSep_univ_eq_bigSepL [0, 1, 2] (by decide) (by decide), bigSepL_cons_cons, bigSepL_cons_cons, bigSepL_singleton,
    payload_bar, payload_bar, payload_bar]
  rfl
theorem rest_copy : bigSep ((Rd (F := F) m).duties (cell c (some (k, g, e))) 0 \ ∅) (fun d => (Rd (F := F) m).payload (cell c (some (k, g, e))) 0 d)
    = copyPay m c k g e := by
  rw [Finset.sdiff_empty, duties_copy, bigSep_singleton, payload_copy]

end Sched

/-! ## What a device owes, and the levels -/

/-- The credit of a copy of distance `e + 1` at the peer's receive cell. -/
def tO (c : Dev nD) (g : Fin 2) (e : Fin 3) : CellTallies nD τ sig Unit := tallyAt (cell (pe e c) (some (1, g, e))) () NO
def tS (c : Dev nD) (g : Fin 2) (e : Fin 3) : CellTallies nD τ sig Unit := tallyAt (cell (pe e c) (some (3, g, e))) () NS
/-- The unit of a signal to the peer at distance `e + 1`. -/
def tB (c : Dev nD) (e : Fin 3) : CellTallies nD τ sig Unit := tallyAt (cell (pe e c) none) () 1

/-- Group `g`'s six copies owed on top of `O`, the first one outermost. -/
def owesG (c : Dev nD) (g : Fin 2) (O : CellTallies nD τ sig Unit) : CellTallies nD τ sig Unit :=
  O + tS c g 2 + tO c g 2 + tS c g 1 + tO c g 1 + tS c g 0 + tO c g 0
def OB (c : Dev nD) : CellTallies nD τ sig Unit := owesG c 1 0
def OA (c : Dev nD) : CellTallies nD τ sig Unit := owesG c 0 (OB c)
def O₀ (c : Dev nD) : CellTallies nD τ sig Unit := OA c + tB c 2 + tB c 1 + tB c 0

def L (g : GSem nD τ sig) : Finset Unit := if g.1.2 = .tc then {()} else ∅
/-- Barrier cells at 1, receive cells at 2, everything else at 0. -/
def lvOf : Option CK → ℕ
  | some none => 1
  | some (some (k, _, _)) => if k.val % 2 = 1 then 2 else 0
  | none => 0
def lv (g : GSem nD τ sig) (_ : Unit) : ℕ := lvOf (ixOf g.2)

theorem L_of_ne (g : GSem nD τ sig) (h : g.1.2 ≠ .tc) : L g = ∅ := if_neg h
theorem L_tc (c : Dev nD) (sm : SemLoc sig) : L ((c : Thread nD τ), sm) = {()} := if_pos rfl
theorem lv_cell (c : Dev nD) (x : CK) (u : Unit) : lv (cell c x) u = lvOf (some x) := congrArg lvOf (ixOf_csem x)

/-- Everything owed in `O` is at TensorCore cells above level `n`. -/
def Above (n : ℕ) (O : CellTallies nD τ sig Unit) : Prop := ∀ g u, 0 < O g u → g.1.2 = .tc ∧ n < lv g u

theorem Above.zero (n : ℕ) : Above n 0 := fun g u h => absurd h (Nat.lt_irrefl 0)
theorem Above.add {n : ℕ} {O O' : CellTallies nD τ sig Unit} (h : Above n O) (h' : Above n O') : Above n (O + O') := fun g u hg => by
  rw [Pi.add_apply, Finsupp.add_apply] at hg
  rcases Nat.eq_zero_or_pos (O g u) with h0 | h0
  · exact h' g u (by omega)
  · exact h g u h0
theorem Above.tally {n : ℕ} (c : Dev nD) (x : CK) (k : ℕ) (hx : n < lvOf (some x)) : Above n (tallyAt (cell c x) () k) := fun g u hg => by
  rw [tallyAt_apply] at hg
  by_cases h : g = cell c x ∧ u = ()
  · rw [h.1]; exact ⟨rfl, by rw [lv_cell]; exact hx⟩
  · rw [if_neg h] at hg; exact absurd hg (Nat.lt_irrefl 0)

theorem above_tO (c : Dev nD) (g : Fin 2) (e : Fin 3) : Above 1 (tO c g e) := Above.tally _ _ _ (by decide +revert)
theorem above_tS (c : Dev nD) (g : Fin 2) (e : Fin 3) : Above 1 (tS c g e) := Above.tally _ _ _ (by decide +revert)
theorem above_tB (c : Dev nD) (e : Fin 3) : Above 0 (tB c e) := Above.tally _ _ _ (by decide +revert)
theorem Above.mono {n n' : ℕ} (h : n ≤ n') {O : CellTallies nD τ sig Unit} (hO : Above n' O) : Above n O :=
  fun g u hg => ⟨(hO g u hg).1, lt_of_le_of_lt h (hO g u hg).2⟩
theorem above_owesG (c : Dev nD) (g : Fin 2) {O : CellTallies nD τ sig Unit} (h : Above 1 O) : Above 1 (owesG c g O) :=
  (((((h.add (above_tS c g 2)).add (above_tO c g 2)).add (above_tS c g 1)).add (above_tO c g 1)).add (above_tS c g 0)).add (above_tO c g 0)
theorem above_OB (c : Dev nD) : Above 1 (OB c) := above_owesG c 1 (Above.zero 1)
theorem above_OA (c : Dev nD) : Above 1 (OA c) := above_owesG c 0 (above_OB c)
theorem above_O₀ (c : Dev nD) : Above 0 (O₀ c) :=
  ((((above_OA c).mono (Nat.zero_le 1)).add (above_tB c 2)).add (above_tB c 1)).add (above_tB c 0)

/-- A wait at level `n` while everything owed is above it. -/
theorem mayWait_of_above (c : Dev nD) (s : SemLoc sig) (n : ℕ) (hs : lv ((c : Thread nD τ), s) () ≤ n) {O : CellTallies nD τ sig Unit} (hO : Above n O) :
    (levAts L lv : sProp 𝕄) ⊢ MayWait (c : Thread nD τ) s () O := by
  refine MayOwe.of_cut (L := L) (lev := lv) n (fun p hp => by rw [Finset.mem_singleton.mp hp, L_tc]; exact Finset.mem_singleton_self _)
    (fun g u hg => ?_) (fun p hp => by rw [Finset.mem_singleton.mp hp]; exact hs) (fun g u hg => (hO g u hg).2)
  unfold L; rw [if_pos (hO g u hg).1]; exact Finset.mem_singleton_self _

end Cert.KernelIdeal.Merge
-- ==== Proof.Soft.lean ====
/-
A softmax's partial sums over a set of keys, over the extended reals: how they are rescaled, joined and divided.
-/
module

public import Idealize.ShloMosaic.Lib.KernelVsHost

@[expose] public section

noncomputable section

namespace Cert.KernelIdeal.Merge

open Idealize.ShloMosaic

/-- The larger of two reals, as an extended real. -/
theorem coe_maxR (a b : ℝ) : ((max a b : ℝ) : EReal) = max (a : EReal) (b : EReal) := EReal.coe_strictMono.monotone.map_max

/-- A sum of reals, as an extended real. -/
theorem coe_sumR {ι : Type*} (A : Finset ι) (f : ι → ℝ) : ((∑ k ∈ A, f k : ℝ) : EReal) = ∑ k ∈ A, (f k : EReal) := by
  classical
  induction A using Finset.induction_on with
  | empty => simp
  | insert a A ha ih => rw [Finset.sum_insert ha, Finset.sum_insert ha, EReal.coe_add, ih]

/-- A nonnegative real factor goes into a sum of extended reals. -/
theorem sumE_mul {ι : Type*} (A : Finset ι) (f : ι → EReal) {r : ℝ} (hr : 0 ≤ r) : (∑ k ∈ A, f k) * (r : EReal) = ∑ k ∈ A, f k * (r : EReal) := by
  classical
  induction A using Finset.induction_on with
  | empty => simp
  | insert a A ha ih =>
    rw [Finset.sum_insert ha, Finset.sum_insert ha, EReal.right_distrib_of_nonneg_of_ne_top (EReal.coe_nonneg.mpr hr) (EReal.coe_ne_top r), ih]

/-- The scores are real and the weights are taken against a real reference: the sums over `A`. -/
def Part (s : ℕ → ℝ) (v : ℕ → EReal) (A : Finset ℕ) (M L O : EReal) : Prop :=
  ∃ μ : ℝ, M = μ ∧ L = ((∑ k ∈ A, Real.exp (s k - μ) : ℝ) : EReal) ∧ O = ∑ k ∈ A, ((Real.exp (s k - μ) : ℝ) : EReal) * v k

variable {s : ℕ → ℝ} {v : ℕ → EReal} {A B : Finset ℕ}

theorem exp_coe (r : ℝ) : Ideal.exp (r : EReal) = ((Real.exp r : ℝ) : EReal) := rfl
theorem exp_sub_coe (x y : ℝ) : Ideal.exp ((x : EReal) - (y : EReal)) = ((Real.exp (x - y) : ℝ) : EReal) := by
  rw [← EReal.coe_sub]; rfl

theorem Part.zero {μ : ℝ} : Part s v ∅ μ 0 0 := ⟨μ, rfl, by simp, by simp⟩

/-- The sums against another reference. -/
theorem rescaleL (A : Finset ℕ) (μ μ' : ℝ) :
    ((∑ k ∈ A, Real.exp (s k - μ) : ℝ) : EReal) * ((Real.exp (μ - μ') : ℝ) : EReal) = ((∑ k ∈ A, Real.exp (s k - μ') : ℝ) : EReal) := by
  rw [← EReal.coe_mul, Finset.sum_mul]
  refine congrArg _ (Finset.sum_congr rfl fun k _ => ?_)
  rw [← Real.exp_add]; congr 1; ring

theorem rescaleO (A : Finset ℕ) (μ μ' : ℝ) :
    (∑ k ∈ A, ((Real.exp (s k - μ) : ℝ) : EReal) * v k) * ((Real.exp (μ - μ') : ℝ) : EReal)
      = ∑ k ∈ A, ((Real.exp (s k - μ') : ℝ) : EReal) * v k := by
  rw [sumE_mul A _ (Real.exp_pos _).le]
  refine Finset.sum_congr rfl fun k _ => ?_
  rw [mul_right_comm, ← EReal.coe_mul, ← Real.exp_add]
  congr 3; ring

/-- Two partial sums over disjoint sets, joined at the larger reference. -/
theorem Part.join {M L O M' L' O' : EReal} (h : Part s v A M L O) (h' : Part s v B M' L' O') (hd : Disjoint A B) :
    Part s v (A ∪ B) (max M M') (L * Ideal.exp (M - max M M') + L' * Ideal.exp (M' - max M M'))
      (O * Ideal.exp (M - max M M') + O' * Ideal.exp (M' - max M M')) := by
  obtain ⟨μ, rfl, rfl, rfl⟩ := h
  obtain ⟨μ', rfl, rfl, rfl⟩ := h'
  rw [← coe_maxR]
  refine ⟨max μ μ', rfl, ?_, ?_⟩
  · rw [exp_sub_coe, exp_sub_coe, rescaleL, rescaleL, ← EReal.coe_add, Finset.sum_union hd]
  · rw [exp_sub_coe, exp_sub_coe, rescaleO, rescaleO, Finset.sum_union hd]

/-- A partial sum extended by a block of keys, whose weights are taken at the new reference. -/
theorem Part.extend {M L O x : EReal} (h : Part s v A M L O) (hx : ∃ r : ℝ, x = r) (hd : Disjoint A B) :
    Part s v (A ∪ B) (max M x) (L * Ideal.exp (M - max M x) + ∑ k ∈ B, Ideal.exp ((s k : EReal) - max M x))
      (O * Ideal.exp (M - max M x) + ∑ k ∈ B, Ideal.exp ((s k : EReal) - max M x) * v k) := by
  obtain ⟨μ, rfl, rfl, rfl⟩ := h
  obtain ⟨r, rfl⟩ := hx
  rw [← coe_maxR]
  refine ⟨max μ r, rfl, ?_, ?_⟩
  · rw [exp_sub_coe, rescaleL, Finset.sum_union hd, EReal.coe_add, coe_sumR B]
    exact congrArg _ (Finset.sum_congr rfl fun k _ => exp_sub_coe _ _)
  · rw [exp_sub_coe, rescaleO, Finset.sum_union hd]
    exact congrArg _ (Finset.sum_congr rfl fun k _ => by rw [exp_sub_coe])

theorem sum_exp_pos (hA : A.Nonempty) (μ : ℝ) : 0 < ∑ k ∈ A, Real.exp (s k - μ) := Finset.sum_pos (fun k _ => Real.exp_pos _) hA

/-- A quotient by a positive real. -/
theorem div_pos_coe {y : ℝ} (hy : 0 < y) (x : EReal) : Ideal.div x (y : EReal) = x * ((y⁻¹ : ℝ) : EReal) := by
  rw [Ideal.div_coe hy.ne', one_div]

/-- The quotient of the sums: the values weighted by the softmax of the scores, taken against any reference. -/
theorem Part.quot {M L O : EReal} (h : Part s v A M L O) (hA : A.Nonempty) (μ' : ℝ) :
    Ideal.div O L = ∑ k ∈ A, v k * Ideal.div (Ideal.exp ((s k : EReal) - (μ' : EReal))) (∑ j ∈ A, Ideal.exp ((s j : EReal) - (μ' : EReal))) := by
  obtain ⟨μ, rfl, rfl, rfl⟩ := h
  rw [div_pos_coe (sum_exp_pos hA μ), sumE_mul A _ (inv_nonneg.mpr (sum_exp_pos hA μ).le)]
  refine Finset.sum_congr rfl fun k _ => ?_
  rw [Finset.sum_congr rfl fun j _ => exp_sub_coe (s j) μ', ← coe_sumR, exp_sub_coe, div_pos_coe (sum_exp_pos hA μ'), mul_right_comm, mul_comm (v k),
    ← EReal.coe_mul, ← EReal.coe_mul]
  refine congrArg (fun z : ℝ => (z : EReal) * v k) ?_
  have e : ∀ j, Real.exp (s j - μ') = Real.exp (s j - μ) * Real.exp (μ - μ') := fun j => by rw [← Real.exp_add]; congr 1; ring
  rw [Finset.sum_congr rfl fun j _ => e j, ← Finset.sum_mul, e k, mul_inv]
  have := (Real.exp_pos (μ - μ')).ne'
  field_simp

/-- The largest of finitely many reals and `⊥` is real where there is one. -/
theorem foldl_max_real {ι : Type*} (f : ι → EReal) (hf : ∀ i, ∃ r : ℝ, f i = r) :
    ∀ (l : List ι) (a : EReal), (∃ r : ℝ, a = r) → ∃ r : ℝ, l.foldl (fun x i => max x (f i)) a = r
  | [], a, h => h
  | i :: l, a, ⟨r, hr⟩ => by
    obtain ⟨r', hr'⟩ := hf i
    exact foldl_max_real f hf l _ ⟨max r r', by dsimp only; rw [hr, hr', coe_maxR]⟩
theorem foldl_max_bot {ι : Type*} (f : ι → EReal) (hf : ∀ i, ∃ r : ℝ, f i = r) (l : List ι) (hl : l ≠ []) :
    ∃ r : ℝ, l.foldl (fun x i => max x (f i)) ⊥ = r := by
  cases l with
  | nil => exact absurd rfl hl
  | cons i l =>
    obtain ⟨r, hr⟩ := hf i
    exact foldl_max_real f hf l _ ⟨r, by dsimp only; rw [hr]; exact max_eq_right bot_le⟩

end Cert.KernelIdeal.Merge
-- ==== Proof.Read.lean ====
/-
The values a grid point computes, read at an index over the extended reals.
-/
module

public import proofs.«01_k».proof.Proof.State
public import proofs.«01_k».proof.Proof.Soft
public import Idealize.ShloMosaic.Lib.KernelVsHost
public import Idealize.ShloMosaic.Lib.IdealHost

@[expose] public section

set_option maxRecDepth 16384

noncomputable section

namespace Cert.KernelIdeal.Merge

open Cert.KernelIdeal Cert.KernelIdeal.Gen
open Idealize.ShloMosaic Idealize.ShloMosaic.TcCoe Idealize.ShloMosaic.ValueIdx

/-! ## Shape changes at an index -/

theorem col_apply {α : Type} (x : S16x32.Idx → α) (h : S16x32.ShapeCasts S16x32x1) (r : Fin 16) (i : Fin 32) (u : Fin 1) :
    shapeCast S16x32x1 x h (ix3 r i u) = x (ix2 r i) :=
  shapeCast_apply x h _ _ (by
    rw [Shape.rowMajor_val_three, Shape.rowMajor_val_two]
    have hu : u.val = 0 := by omega
    show r.val * 32 + i.val = (r.val * 32 + i.val) * 1 + u.val
    omega)

theorem bto_apply (x : FVec Ideal S16x32x1 .f32) (h : S16x32x1.Broadcasts S16x32x128) (r : Fin 16) (i : Fin 32) (d : Fin 128) :
    broadcastTo S16x32x128 x h (ix3 r i d) = x (ix3 r i 0) :=
  broadcastTo_apply x h _ _ (by intro a; fin_cases a <;> rfl)

theorem btk_apply (x : FVec Ideal S16x32x1 .f32) (h : S16x32x1.Broadcasts S16x32x512) (r : Fin 16) (i : Fin 32) (j : Fin 512) :
    broadcastTo S16x32x512 x h (ix3 r i j) = x (ix3 r i 0) :=
  broadcastTo_apply x h _ _ (by intro a; fin_cases a <;> rfl)

/-- Head and batch entry of a row of a group. -/
abbrev rb (r : Fin 16) : Fin 2 := ⟨r.val / 8, by omega⟩
abbrev rh (r : Fin 16) : Fin 8 := ⟨r.val % 8, by omega⟩

theorem qcast_apply {α : Type} (x : S2x32x8x128.Idx → α) (h1 h2 h3) (r : Fin 16) (i : Fin 32) (d : Fin 128) :
    shapeCast S16x32x128 (transpose S2x8x32x128 [0, 2, 1, 3] (shapeCast S2x32x8x128 x h1) h2) h3 (ix3 r i d) = x (ix4 (rb r) i (rh r) d) := by
  rw [shapeCast_self, shapeCast_apply _ h3 _ (ix4 (rb r) (rh r) i d) (by
    rw [Shape.rowMajor_val_three, Shape.rowMajor_val_four]
    show ((r.val / 8 * 8 + r.val % 8) * 32 + i.val) * 128 + d.val = (r.val * 32 + i.val) * 128 + d.val
    omega)]
  exact transpose_apply _ x h2 _ _ (by intro a; fin_cases a <;> rfl)

theorem kcast_apply {α : Type} (x : S2x512x8x128.Idx → α) (h1 h2 h3) (r : Fin 16) (j : Fin 512) (d : Fin 128) :
    shapeCast S16x512x128 (transpose S2x8x512x128 [0, 2, 1, 3] (shapeCast S2x512x8x128 x h1) h2) h3 (ix3 r j d) = x (ix4 (rb r) j (rh r) d) := by
  rw [shapeCast_self, shapeCast_apply _ h3 _ (ix4 (rb r) (rh r) j d) (by
    rw [Shape.rowMajor_val_three, Shape.rowMajor_val_four]
    show ((r.val / 8 * 8 + r.val % 8) * 512 + j.val) * 128 + d.val = (r.val * 512 + j.val) * 128 + d.val
    omega)]
  exact transpose_apply _ x h2 _ _ (by intro a; fin_cases a <;> rfl)

/-- The output block read at an index. -/
theorem pay2_apply (x : Vec Ideal S32x32x128 .f32) (b : Fin 4) (i : Fin 32) (h : Fin 8) (d : Fin 128) :
    k0_pay2 x (ix4 b i h d) = x (ix3 (⟨8 * b.val + h.val, by omega⟩ : Fin 32) i d) := by
  unfold k0_pay2
  dsimp only
  rw [transpose_apply _ _ _ _ (ix4 b h i d) (by intro a; fin_cases a <;> rfl)]
  exact shapeCast_apply _ _ _ _ (by
    rw [Shape.rowMajor_val_three, Shape.rowMajor_val_four]
    show ((8 * b.val + h.val) * 32 + i.val) * 128 + d.val = ((b.val * 8 + h.val) * 32 + i.val) * 128 + d.val
    omega)

/-! ## The two products at an index -/

abbrev D1 : DotDims S16x32x128 S16x512x128 S16x32x512 := dot_S16x32x128_S16x512x128_S16x32x512_2_2_1_1_0_0
abbrev D2 : DotDims S16x32x512 S16x512x128 S16x32x128 := dot_S16x32x512_S16x512x128_S16x32x128_2_1_1_2_0_0

theorem matmul_q (x : FVec Ideal S16x32x128 .bf16) (y : FVec Ideal S16x512x128 .bf16) (r : Fin 16) (i : Fin 32) (j : Fin 512) :
    matmul D1 none x y (constant S16x32x512 .f32 0x00000000#32) (ix3 r i j) = ∑ d : Fin 128, x (ix3 r i d) * y (ix3 r j d) := by
  refine (Ideal.matmul_constant_zero_apply D1 none x y _).trans ?_
  refine (Equiv.sum_comp (contrEquiv1 D1 128 rfl rfl).symm _).symm.trans ?_
  refine Finset.sum_congr rfl fun d _ => ?_
  have hv := contrEquiv1_symm_val D1 128 rfl rfl d
  refine congrArg₂ (· * ·) (congrArg x ?_) (congrArg y ?_)
  · funext a
    refine Fin.ext ?_
    fin_cases a
    · rfl
    · rfl
    · exact hv
  · funext a
    refine Fin.ext ?_
    fin_cases a
    · rfl
    · rfl
    · exact hv

theorem matmul_p (x : FVec Ideal S16x32x512 .bf16) (y : FVec Ideal S16x512x128 .bf16) (r : Fin 16) (i : Fin 32) (d : Fin 128) :
    matmul D2 none x y (constant S16x32x128 .f32 0x00000000#32) (ix3 r i d) = ∑ j : Fin 512, x (ix3 r i j) * y (ix3 r j d) := by
  refine (Ideal.matmul_constant_zero_apply D2 none x y _).trans ?_
  refine (Equiv.sum_comp (contrEquiv1 D2 512 rfl rfl).symm _).symm.trans ?_
  refine Finset.sum_congr rfl fun d _ => ?_
  have hv := contrEquiv1_symm_val D2 512 rfl rfl d
  refine congrArg₂ (· * ·) (congrArg x ?_) (congrArg y ?_)
  · funext a
    refine Fin.ext ?_
    fin_cases a
    · rfl
    · rfl
    · exact hv
  · funext a
    refine Fin.ext ?_
    fin_cases a
    · rfl
    · exact hv
    · rfl

/-! ## Literals -/

/-- The scale of the scores. -/
abbrev scale : EReal := Ideal.ofBits .f32 0x3DB504F3#32

theorem scale_real : ∃ r : ℝ, scale = r := ⟨_, by
  unfold scale Ideal.ofBits Ideal.ieee
  simp only []
  norm_num [-EReal.coe_mul]
  rfl⟩

theorem ninf_real : ∃ r : ℝ, Ideal.ofBits .f32 0xF149F2CA#32 = r := ⟨_, by
  unfold Ideal.ofBits Ideal.ieee
  norm_num [-EReal.coe_mul]
  rfl⟩

theorem ofBits_bot : Ideal.ofBits .f32 0xFF800000#32 = ⊥ := by simp [Ideal.ofBits, Ideal.ieee]
theorem ofBits_top : Ideal.ofBits .f32 0x7F800000#32 = ⊤ := by simp [Ideal.ofBits, Ideal.ieee]

/-! ## The step's values at an index -/

variable (q : Vec Ideal S2x32x8x128 .bf16) (k v : Vec Ideal S2x512x8x128 .bf16)

/-- A score of the block. -/
def bs (r : Fin 16) (i : Fin 32) (j : Fin 512) : EReal :=
  (∑ d : Fin 128, (q (ix4 (rb r) i (rh r) d) : EReal) * k (ix4 (rb r) j (rh r) d)) * scale

theorem pay44_apply (r : Fin 16) (i : Fin 32) (j : Fin 512) : k0_pay44 q k (ix3 r i j) = bs q k r i j := by
  unfold k0_pay44 bs
  dsimp only
  rw [mulf_apply]
  refine congrArg₂ (· * ·) ?_ rfl
  refine (matmul_q _ _ r i j).trans (Finset.sum_congr rfl fun d _ => ?_)
  rw [qcast_apply, kcast_apply]

theorem lift_red (h : S16x32x512.Reduces [2] S16x32) (r : Fin 16) (i : Fin 32) (j : Fin 512) :
    h.lift (ix2 r i) j = ix3 r i j := by
  funext a
  refine Fin.ext ?_
  refine (h.lift_val _ _ _).trans ?_
  fin_cases a <;> rfl

/-- The largest score of the block. -/
def bmax (r : Fin 16) (i : Fin 32) : EReal := (Finset.univ : Finset (Fin 512)).fold max ⊥ (fun j => bs q k r i j)

theorem pay45_apply (mm : Vec Ideal S16x32x1 .f32) (r : Fin 16) (i : Fin 32) (u : Fin 1) :
    k0_pay45 q k mm (ix3 r i u) = max (mm (ix3 r i u)) (bmax q k r i) := by
  unfold k0_pay45 bmax
  dsimp only
  rw [maximumf_apply]
  refine congrArg₂ max rfl ?_
  rw [col_apply]
  refine (Ideal.multiReduction_maximumf_single _ _ _ _ _ _).trans ?_
  refine (congrArg (fun z => Finset.fold max z _ _) ofBits_bot).trans ?_
  refine congrArg (fun f => Finset.fold max ⊥ f Finset.univ) (funext fun j => ?_)
  show k0_pay44 q k (Shape.Reduces.lift _ (ix2 r i) j) = _
  exact (congrArg (k0_pay44 q k) (lift_red _ r i j)).trans (pay44_apply q k r i j)

theorem pay46_apply (mm : Vec Ideal S16x32x1 .f32) (r : Fin 16) (i : Fin 32) (u : Fin 1) :
    k0_pay46 q k mm (ix3 r i u) = Ideal.exp (mm (ix3 r i u) - max (mm (ix3 r i u)) (bmax q k r i)) := by
  unfold k0_pay46
  refine congrArg Ideal.exp ?_
  rw [subf_apply, pay45_apply]

theorem pay47_apply (mm : Vec Ideal S16x32x1 .f32) (r : Fin 16) (i : Fin 32) (j : Fin 512) :
    k0_pay47 q k mm (ix3 r i j) = Ideal.exp (bs q k r i j - max (mm (ix3 r i 0)) (bmax q k r i)) := by
  unfold k0_pay47
  refine congrArg Ideal.exp ?_
  rw [subf_apply, pay44_apply, btk_apply, pay45_apply]

theorem pay49_apply (mm : Vec Ideal S16x32x1 .f32) (r : Fin 16) (i : Fin 32) (u : Fin 1) :
    k0_pay49 (k0_pay45 q k mm) (ix3 r i u) = max (mm (ix3 r i u)) (bmax q k r i) := by
  unfold k0_pay49
  rw [shapeCast_self, pay45_apply]

theorem pay50_apply (mm ll : Vec Ideal S16x32x1 .f32) (r : Fin 16) (i : Fin 32) :
    k0_pay50 (k0_pay47 q k mm) (k0_pay48 q k mm ll) (ix3 r i 0)
      = ll (ix3 r i 0) * Ideal.exp (mm (ix3 r i 0) - max (mm (ix3 r i 0)) (bmax q k r i))
        + ∑ j : Fin 512, Ideal.exp (bs q k r i j - max (mm (ix3 r i 0)) (bmax q k r i)) := by
  unfold k0_pay50
  dsimp only
  rw [shapeCast_self, addf_apply, col_apply]
  refine congrArg₂ (· + ·) ?_ ?_
  · unfold k0_pay48
    rw [mulf_apply, pay46_apply]
  · refine (Ideal.multiReduction_add_single _ _ _ _ _ _).trans (Finset.sum_congr rfl fun j _ => ?_)
    exact (congrArg (k0_pay47 q k mm) (lift_red _ r i j)).trans (pay47_apply q k mm r i j)

theorem pay51_apply (mm : Vec Ideal S16x32x1 .f32) (oo : Vec Ideal S16x32x128 .f32) (r : Fin 16) (i : Fin 32) (d : Fin 128) :
    k0_pay51 (k0_pay43 v) (k0_pay46 q k mm) (k0_pay47 q k mm) oo (ix3 r i d)
      = oo (ix3 r i d) * Ideal.exp (mm (ix3 r i 0) - max (mm (ix3 r i 0)) (bmax q k r i))
        + ∑ j : Fin 512, Ideal.exp (bs q k r i j - max (mm (ix3 r i 0)) (bmax q k r i)) * v (ix4 (rb r) j (rh r) d) := by
  unfold k0_pay51
  rw [shapeCast_self, addf_apply, mulf_apply, bto_apply, pay46_apply]
  refine congrArg₂ (· + ·) rfl ?_
  refine (matmul_p _ _ r i d).trans (Finset.sum_congr rfl fun j _ => ?_)
  rw [truncf_apply, pay47_apply]
  unfold k0_pay43
  dsimp only
  rw [kcast_apply]

end Cert.KernelIdeal.Merge
-- ==== Proof.Partial.lean ====
/-
The running softmax's state holds partial sums over the keys seen so far.
-/
module

public import proofs.«01_k».proof.Proof.Read

@[expose] public section

set_option maxRecDepth 16384

noncomputable section

namespace Cert.KernelIdeal.Merge

open Cert.KernelIdeal Cert.KernelIdeal.Gen
open Idealize.ShloMosaic Idealize.ShloMosaic.TcCoe Idealize.ShloMosaic.ValueIdx

/-! ## Reading and writing the rows of a group -/

section Rows
variable (g : Fin 2) {off : Fin 3 → ℕ} (ho : off = ![16 * g.val, 0, 0])

/-- Row `r` of group `g`. -/
abbrev grow (r : Fin 16) : Fin 32 := ⟨16 * g.val + r.val, by omega⟩

include ho

theorem embM (h) (r : Fin 16) (i : Fin 32) (u : Fin 1) : (Rect.unit (s := S32x32x1) off S16x32x1.size h).emb (ix3 r i u) = ix3 (grow g r) i u := by
  subst ho
  funext a
  refine Fin.ext ?_
  fin_cases a
  · show 16 * g.val + 1 * r.val = 16 * g.val + r.val
    omega
  · show 0 + 1 * i.val = i.val
    omega
  · show 0 + 1 * u.val = u.val
    omega

theorem embO (h) (r : Fin 16) (i : Fin 32) (d : Fin 128) : (Rect.unit (s := S32x32x128) off S16x32x128.size h).emb (ix3 r i d) = ix3 (grow g r) i d := by
  subst ho
  funext a
  refine Fin.ext ?_
  fin_cases a
  · show 16 * g.val + 1 * r.val = 16 * g.val + r.val
    omega
  · show 0 + 1 * i.val = i.val
    omega
  · show 0 + 1 * d.val = d.val
    omega

theorem rdM (h) (f : mM.view.ty.Contents (Elt Ideal)) (r : Fin 16) (i : Fin 32) (u : Fin 1) :
    mM.view.readAt (Elt Ideal) (Rect.unit (s := S32x32x1) off S16x32x1.size h).toLoadRect f (ix3 r i u) = f (ix3 (grow g r) i u) :=
  congrArg f (embM g ho h r i u)
theorem rdL (h) (f : lM.view.ty.Contents (Elt Ideal)) (r : Fin 16) (i : Fin 32) (u : Fin 1) :
    lM.view.readAt (Elt Ideal) (Rect.unit (s := S32x32x1) off S16x32x1.size h).toLoadRect f (ix3 r i u) = f (ix3 (grow g r) i u) :=
  congrArg f (embM g ho h r i u)
theorem rdO (h) (f : oM.view.ty.Contents (Elt Ideal)) (r : Fin 16) (i : Fin 32) (d : Fin 128) :
    oM.view.readAt (Elt Ideal) (Rect.unit (s := S32x32x128) off S16x32x128.size h).toLoadRect f (ix3 r i d) = f (ix3 (grow g r) i d) :=
  congrArg f (embO g ho h r i d)

theorem wrM (h) (f : mM.view.ty.Contents (Elt Ideal)) (w : Vec Ideal S16x32x1 .f32) (r : Fin 16) (i : Fin 32) (u : Fin 1) :
    (mM.access (Rect.unit (s := S32x32x1) off S16x32x1.size h)).write (Elt Ideal) f w Finset.univ (ix3 (grow g r) i u) = w (ix3 r i u) := by
  rw [← embM g ho h r i u]
  exact View.write_emb_of_mem (v := mM.access (Rect.unit (s := S32x32x1) off S16x32x1.size h)) f w (Finset.mem_univ _)
theorem wrL (h) (f : lM.view.ty.Contents (Elt Ideal)) (w : Vec Ideal S16x32x1 .f32) (r : Fin 16) (i : Fin 32) (u : Fin 1) :
    (lM.access (Rect.unit (s := S32x32x1) off S16x32x1.size h)).write (Elt Ideal) f w Finset.univ (ix3 (grow g r) i u) = w (ix3 r i u) := by
  rw [← embM g ho h r i u]
  exact View.write_emb_of_mem (v := lM.access (Rect.unit (s := S32x32x1) off S16x32x1.size h)) f w (Finset.mem_univ _)
theorem wrO (h) (f : oM.view.ty.Contents (Elt Ideal)) (w : Vec Ideal S16x32x128 .f32) (r : Fin 16) (i : Fin 32) (d : Fin 128) :
    (oM.access (Rect.unit (s := S32x32x128) off S16x32x128.size h)).write (Elt Ideal) f w Finset.univ (ix3 (grow g r) i d) = w (ix3 r i d) := by
  rw [← embO g ho h r i d]
  exact View.write_emb_of_mem (v := oM.access (Rect.unit (s := S32x32x128) off S16x32x128.size h)) f w (Finset.mem_univ _)

theorem wrM_ne (h) (f : mM.view.ty.Contents (Elt Ideal)) (w : Vec Ideal S16x32x1 .f32) (R : Fin 32) (hR : R.val / 16 ≠ g.val) (i : Fin 32) (u : Fin 1) :
    (mM.access (Rect.unit (s := S32x32x1) off S16x32x1.size h)).write (Elt Ideal) f w Finset.univ (ix3 R i u) = f (ix3 R i u) := by
  refine View.write_of_not_mem (v := mM.access (Rect.unit (s := S32x32x1) off S16x32x1.size h)) f w Finset.univ fun hm => hR ?_
  obtain ⟨y, -, hy⟩ := Finset.mem_map.mp hm
  obtain ⟨r, i', u', rfl⟩ : ∃ r i' u', y = (ix3 r i' u' : S16x32x1.Idx) := ⟨y 0, y 1, y 2, eq_ix3 (n0 := 16) (n1 := 32) (n2 := 1) y⟩
  have e : (ix3 (grow g r) i' u' : S32x32x1.Idx) = ix3 R i u := (embM g ho h r i' u').symm.trans hy
  have e0 : 16 * g.val + r.val = R.val := congrArg Fin.val (congrFun e 0)
  omega
theorem wrL_ne (h) (f : lM.view.ty.Contents (Elt Ideal)) (w : Vec Ideal S16x32x1 .f32) (R : Fin 32) (hR : R.val / 16 ≠ g.val) (i : Fin 32) (u : Fin 1) :
    (lM.access (Rect.unit (s := S32x32x1) off S16x32x1.size h)).write (Elt Ideal) f w Finset.univ (ix3 R i u) = f (ix3 R i u) := by
  refine View.write_of_not_mem (v := lM.access (Rect.unit (s := S32x32x1) off S16x32x1.size h)) f w Finset.univ fun hm => hR ?_
  obtain ⟨y, -, hy⟩ := Finset.mem_map.mp hm
  obtain ⟨r, i', u', rfl⟩ : ∃ r i' u', y = (ix3 r i' u' : S16x32x1.Idx) := ⟨y 0, y 1, y 2, eq_ix3 (n0 := 16) (n1 := 32) (n2 := 1) y⟩
  have e : (ix3 (grow g r) i' u' : S32x32x1.Idx) = ix3 R i u := (embM g ho h r i' u').symm.trans hy
  have e0 : 16 * g.val + r.val = R.val := congrArg Fin.val (congrFun e 0)
  omega
theorem wrO_ne (h) (f : oM.view.ty.Contents (Elt Ideal)) (w : Vec Ideal S16x32x128 .f32) (R : Fin 32) (hR : R.val / 16 ≠ g.val) (i : Fin 32) (d : Fin 128) :
    (oM.access (Rect.unit (s := S32x32x128) off S16x32x128.size h)).write (Elt Ideal) f w Finset.univ (ix3 R i d) = f (ix3 R i d) := by
  refine View.write_of_not_mem (v := oM.access (Rect.unit (s := S32x32x128) off S16x32x128.size h)) f w Finset.univ fun hm => hR ?_
  obtain ⟨y, -, hy⟩ := Finset.mem_map.mp hm
  obtain ⟨r, i', d', rfl⟩ : ∃ r i' d', y = (ix3 r i' d' : S16x32x128.Idx) := ⟨y 0, y 1, y 2, eq_ix3 (n0 := 16) (n1 := 32) (n2 := 128) y⟩
  have e : (ix3 (grow g r) i' d' : S32x32x128.Idx) = ix3 R i d := (embO g ho h r i' d').symm.trans hy
  have e0 : 16 * g.val + r.val = R.val := congrArg Fin.val (congrFun e 0)
  omega
end Rows

/-- A row is a row of its group. -/
theorem row_of (g : Fin 2) (R : Fin 32) (h : R.val / 16 = g.val) : ∃ r : Fin 16, R = grow g r :=
  ⟨⟨R.val % 16, by omega⟩, Fin.ext (show R.val = 16 * g.val + R.val % 16 by omega)⟩

/-! ## Scores and values of the whole problem -/

abbrev SKV : Shape := ⟨4, ![4, 16384, 8, 128]⟩

/-- Every entry real. -/
def AllReal {S : Shape} (X : S.Idx → EReal) : Prop := ∀ x, ∃ r : ℝ, X x = r

section Whole
variable (Q : S4x32x8x128.Idx → EReal) (K V : SKV.Idx → EReal)

/-- The scaled score of query `i` and key `k` in row `R` (batch entry `R / 8`, head `R % 8`). -/
def scE (R i : Fin 32) (k : ℕ) : EReal :=
  (∑ d : Fin 128, Q (ix4 (⟨R.val / 8, by omega⟩ : Fin 4) i (⟨R.val % 8, by omega⟩ : Fin 8) d)
    * K (ix4 (⟨R.val / 8, by omega⟩ : Fin 4) (⟨k % 16384, by omega⟩ : Fin 16384) (⟨R.val % 8, by omega⟩ : Fin 8) d)) * scale
/-- As a real. -/
def sc (R i : Fin 32) (k : ℕ) : ℝ := (scE Q K R i k).toReal
/-- The value of key `k`. -/
def va (R : Fin 32) (d : Fin 128) (k : ℕ) : EReal :=
  V (ix4 (⟨R.val / 8, by omega⟩ : Fin 4) (⟨k % 16384, by omega⟩ : Fin 16384) (⟨R.val % 8, by omega⟩ : Fin 8) d)

theorem sum_real {n : ℕ} (f : Fin n → EReal) (hf : ∀ d, ∃ r : ℝ, f d = r) : ∃ r : ℝ, ∑ d, f d = r := by
  choose g hg using hf
  exact ⟨∑ d, g d, by rw [coe_sumR]; exact Finset.sum_congr rfl fun d _ => hg d⟩

theorem mul_real {x y : EReal} (hx : ∃ r : ℝ, x = r) (hy : ∃ r : ℝ, y = r) : ∃ r : ℝ, x * y = r := by
  obtain ⟨a, rfl⟩ := hx
  obtain ⟨b, rfl⟩ := hy
  exact ⟨a * b, (EReal.coe_mul a b).symm⟩

theorem scE_real (hQ : AllReal Q) (hK : AllReal K) (R i : Fin 32) (k : ℕ) : ∃ r : ℝ, scE Q K R i k = r :=
  mul_real (sum_real _ fun d => mul_real (hQ _) (hK _)) scale_real

theorem scE_eq (hQ : AllReal Q) (hK : AllReal K) (R i : Fin 32) (k : ℕ) : scE Q K R i k = (sc Q K R i k : EReal) := by
  obtain ⟨r, hr⟩ := scE_real Q K hQ hK R i k
  unfold sc
  rw [hr, EReal.toReal_coe]

theorem fold_max_real {ι : Type*} (f : ι → EReal) (hf : ∀ i, ∃ r : ℝ, f i = r) (A : Finset ι) (hA : A.Nonempty) :
    ∃ r : ℝ, A.fold max ⊥ f = r := by
  classical
  induction hA using Finset.Nonempty.cons_induction with
  | singleton a =>
    obtain ⟨r, hr⟩ := hf a
    exact ⟨r, by rw [Finset.fold_singleton, hr]; exact max_eq_left bot_le⟩
  | cons a s h hs ih =>
    obtain ⟨r, hr⟩ := hf a
    obtain ⟨r', hr'⟩ := ih
    exact ⟨max r r', by rw [Finset.fold_cons, hr, hr', coe_maxR]⟩

theorem sum_block (a : ℕ) (f : ℕ → EReal) : ∑ k ∈ Finset.Ico a (a + 512), f k = ∑ j : Fin 512, f (a + j.val) := by
  rw [Finset.sum_Ico_eq_sum_range, Nat.add_sub_cancel_left, Finset.sum_range]

/-- The blocks of a grid point: group `g`'s queries, and keys and values from key `a`. -/
structure Blocks (g : Fin 2) (a : ℕ) (q : Vec Ideal S2x32x8x128 .bf16) (k v : Vec Ideal S2x512x8x128 .bf16) : Prop where
  hq : ∀ b i h d, q (ix4 b i h d) = Q (ix4 (⟨2 * g.val + b.val, by omega⟩ : Fin 4) i h d)
  hk : ∀ b j h d, k (ix4 b j h d) = K (ix4 (⟨2 * g.val + b.val, by omega⟩ : Fin 4) (⟨(a + j.val) % 16384, by omega⟩ : Fin 16384) h d)
  hv : ∀ b j h d, v (ix4 b j h d) = V (ix4 (⟨2 * g.val + b.val, by omega⟩ : Fin 4) (⟨(a + j.val) % 16384, by omega⟩ : Fin 16384) h d)

theorem row_b (g : Fin 2) (r : Fin 16) : (⟨2 * g.val + (rb r).val, by omega⟩ : Fin 4) = ⟨(grow g r).val / 8, by omega⟩ :=
  Fin.ext (by show 2 * g.val + r.val / 8 = (16 * g.val + r.val) / 8; omega)
theorem row_h (g : Fin 2) (r : Fin 16) : (rh r) = ⟨(grow g r).val % 8, by omega⟩ :=
  Fin.ext (by show r.val % 8 = (16 * g.val + r.val) % 8; omega)

variable {Q K V}

theorem bs_eq {g : Fin 2} {a : ℕ} {q : Vec Ideal S2x32x8x128 .bf16} {k v : Vec Ideal S2x512x8x128 .bf16} (hB : Blocks Q K V g a q k v)
    (r : Fin 16) (i : Fin 32) (j : Fin 512) : bs q k r i j = scE Q K (grow g r) i (a + j.val) := by
  unfold bs scE
  refine congrArg (· * scale) (Finset.sum_congr rfl fun d _ => ?_)
  rw [hB.hq, hB.hk, row_b, row_h]

theorem bv_eq {g : Fin 2} {a : ℕ} {q : Vec Ideal S2x32x8x128 .bf16} {k v : Vec Ideal S2x512x8x128 .bf16} (hB : Blocks Q K V g a q k v)
    (r : Fin 16) (j : Fin 512) (d : Fin 128) : v (ix4 (rb r) j (rh r) d) = va V (grow g r) d (a + j.val) := by
  unfold va
  rw [hB.hv, row_b, row_h]

theorem bmax_real (hQ : AllReal Q) (hK : AllReal K) {g : Fin 2} {a : ℕ} {q : Vec Ideal S2x32x8x128 .bf16} {k v : Vec Ideal S2x512x8x128 .bf16}
    (hB : Blocks Q K V g a q k v) (r : Fin 16) (i : Fin 32) : ∃ x : ℝ, bmax q k r i = x :=
  fold_max_real _ (fun j => by rw [bs_eq hB]; exact scE_real Q K hQ hK _ _ _) _ Finset.univ_nonempty

/-- The keys a row has seen after `n` grid points on the device with the keys from `4096 z`. -/
abbrev seen (z n : ℕ) (R : Fin 32) : Finset ℕ := Finset.Ico (4096 * z) (4096 * z + 512 * min 8 (n - 8 * (R.val / 16)))

variable (Q K V)

/-- Every row holds its partial sums over the keys it has seen. -/
def Inv (z n : ℕ) (s : Stt Ideal) : Prop :=
  ∀ (R i : Fin 32) (d : Fin 128), Part (sc Q K R i) (va V R d) (seen z n R) (s.m (ix3 R i (0 : Fin 1))) (s.l (ix3 R i (0 : Fin 1))) (s.o (ix3 R i d))

theorem Inv_zero (z : ℕ) : Inv Q K V z 0 st0 := by
  intro R i d
  obtain ⟨r, hr⟩ := ninf_real
  have e : seen z 0 R = ∅ := by unfold seen; rw [Nat.zero_sub, Nat.min_zero, Nat.mul_zero, Nat.add_zero, Finset.Ico_self]
  rw [e]
  have hm : (st0 : Stt Ideal).m (ix3 R i (0 : Fin 1)) = Ideal.ofBits .f32 0xF149F2CA#32 := by
    show k0_pay40 (ix3 R i (0 : Fin 1)) = _
    unfold k0_pay40
    rw [shapeCast_self]
    rfl
  have hl : (st0 : Stt Ideal).l (ix3 R i (0 : Fin 1)) = (0 : EReal) := by
    show k0_pay41 (ix3 R i (0 : Fin 1)) = _
    unfold k0_pay41
    rw [shapeCast_self]
    exact Ideal.ofBits_zero_f32
  have ho : (st0 : Stt Ideal).o (ix3 R i d) = (0 : EReal) := by
    show k0_pay42 (ix3 R i d) = _
    unfold k0_pay42
    rw [shapeCast_self]
    exact Ideal.ofBits_zero_f32
  rw [hm, hl, ho, hr]
  exact Part.zero

theorem rowsM_off (t : Fin cfg0.N) (g : Fin 2) (h : t.val / 8 = g.val) : k0_off1 (grid0.coords t) = ![16 * g.val, 0, 0] := by
  have key : ∀ t : Fin 16, ∀ g : Fin 2, t.val / 8 = g.val → k0_off1 (grid0.coords t) = ![16 * g.val, 0, 0] := by decide +kernel
  exact key t g h
theorem rowsO_off (t : Fin cfg0.N) (g : Fin 2) (h : t.val / 8 = g.val) : k0_off2 (grid0.coords t) = ![16 * g.val, 0, 0] := by
  have key : ∀ t : Fin 16, ∀ g : Fin 2, t.val / 8 = g.val → k0_off2 (grid0.coords t) = ![16 * g.val, 0, 0] := by decide +kernel
  exact key t g h

theorem Inv_step (hQ : AllReal Q) (hK : AllReal K) (z : ℕ) (t : Fin cfg0.N) (s : Stt Ideal) (g : Fin 2) (hg : t.val / 8 = g.val)
    {q : Vec Ideal S2x32x8x128 .bf16} {k v : Vec Ideal S2x512x8x128 .bf16} (hB : Blocks Q K V g (4096 * z + 512 * (t.val % 8)) q k v)
    (h : Inv Q K V z t.val s) : Inv Q K V z (t.val + 1) (upd t q k v s) := by
  intro R i d
  have ht : t.val < 16 := t.isLt
  have hoM := rowsM_off t g hg
  have hoO := rowsO_off t g hg
  by_cases hR : R.val / 16 = g.val
  · obtain ⟨r, rfl⟩ := row_of g R hR
    have hp := h (grow g r) i d
    have e1 : seen z t.val (grow g r) = Finset.Ico (4096 * z) (4096 * z + 512 * (t.val % 8)) := by
      unfold seen; congr 3; rw [hR]; omega
    have e2 : seen z (t.val + 1) (grow g r) = Finset.Ico (4096 * z) (4096 * z + 512 * (t.val % 8) + 512) := by
      unfold seen; congr 1; rw [hR]; omega
    rw [e1] at hp
    rw [e2, ← Finset.Ico_union_Ico_eq_Ico (b := 4096 * z + 512 * (t.val % 8)) (by omega) (by omega)]
    have hx := hp.extend (bmax_real hQ hK hB r i) (Finset.Ico_disjoint_Ico_consecutive (4096 * z) (4096 * z + 512 * (t.val % 8)) (4096 * z + 512 * (t.val % 8) + 512))
    rw [sum_block, sum_block] at hx
    have em : mRead t s (ix3 r i (0 : Fin 1)) = s.m (ix3 (grow g r) i (0 : Fin 1)) := rdM g hoM _ s.m r i 0
    have el : lRead t s (ix3 r i (0 : Fin 1)) = s.l (ix3 (grow g r) i (0 : Fin 1)) := rdL g hoM _ s.l r i 0
    have eo : oRead t s (ix3 r i d) = s.o (ix3 (grow g r) i d) := rdO g hoO _ s.o r i d
    have wm : (upd t q k v s).m (ix3 (grow g r) i (0 : Fin 1)) = _ := (wrM g hoM _ s.m _ r i 0).trans (pay49_apply q k (mRead t s) r i 0)
    have wl : (upd t q k v s).l (ix3 (grow g r) i (0 : Fin 1)) = _ := (wrL g hoM _ s.l _ r i 0).trans (pay50_apply q k (mRead t s) (lRead t s) r i)
    have wo : (upd t q k v s).o (ix3 (grow g r) i d) = _ := (wrO g hoO _ s.o _ r i d).trans (pay51_apply q k v (mRead t s) (oRead t s) r i d)
    rw [wm, wl, wo, em, el, eo]
    have b1 : ∀ j : Fin 512, bs q k r i j = (sc Q K (grow g r) i (4096 * z + 512 * (t.val % 8) + j.val) : EReal) := fun j => by
      rw [bs_eq hB, scE_eq Q K hQ hK]
    simp only [b1, bv_eq hB]
    exact hx
  · have hp := h R i d
    have e1 : seen z (t.val + 1) R = seen z t.val R := by
      unfold seen; congr 2; congr 1; have := R.isLt; have := g.isLt; omega
    have wm : (upd t q k v s).m (ix3 R i (0 : Fin 1)) = s.m (ix3 R i (0 : Fin 1)) := wrM_ne g hoM _ s.m _ R hR i 0
    have wl : (upd t q k v s).l (ix3 R i (0 : Fin 1)) = s.l (ix3 R i (0 : Fin 1)) := wrL_ne g hoM _ s.l _ R hR i 0
    have wo : (upd t q k v s).o (ix3 R i d) = s.o (ix3 R i d) := wrO_ne g hoO _ s.o _ R hR i d
    rw [e1, wm, wl, wo]
    exact hp

end Whole

end Cert.KernelIdeal.Merge
-- ==== Proof.Steps.lean ====
/-
The kernel's communication, one rule per step: the signals, the barrier wait, the copies and their waits.
-/
module

public import proofs.«01_k».proof.Proof.State

@[expose] public section

set_option maxRecDepth 16384

noncomputable section

namespace Cert.KernelIdeal.Merge

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ)

abbrev 𝒱₀ : Variants := Variants.none

/-- The weakest precondition of a piece of the body on core `c`. -/
abbrev wpc {α : Type} (c : Dev nD) (p : Prog (TpuEff nD τ sig (Elt F) Λ₀ .tc) α) (Q : α → sProp 𝕄) : sProp 𝕄 :=
  wp frame (wpE (defs₀ (F := F)) 𝒱₀ (c : Thread nD τ) none) Set.univ p Q

/-- What the core owes, whatever it has waited for. -/
def ow (c : Dev nD) (O : CellTallies nD τ sig Unit) : sProp 𝕄 := iprop(∃ W, owes (c : Thread nD τ) O W)

/-- Every cell's invariant and that it has reached round 0. -/
def records (K : Dev nD × CK → ℕ) : sProp 𝕄 :=
  bigSep (Finset.univ : Finset (Dev nD × CK)) fun x => iprop(cellInv ER (Rd m) (K x) (cell x.1 x.2) ∗ reached ER (cell x.1 x.2) 0)

instance records_persistent (K : Dev nD × CK → ℕ) : BI.Persistent (records m K) := by unfold records; infer_instance

theorem records_at (K : Dev nD × CK → ℕ) (c : Dev nD) (x : CK) :
    records m K ⊢ iprop(cellInv ER (Rd m) (K (c, x)) (cell c x) ∗ reached ER (cell c x) 0) :=
  bigSep_elim (Φ := fun x : Dev nD × CK => iprop(cellInv ER (Rd m) (K x) (cell x.1 x.2) ∗ reached ER (cell x.1 x.2) 0)) (Finset.mem_univ (c, x))
theorem records_inv (K : Dev nD × CK → ℕ) (c : Dev nD) (x : CK) : records m K ⊢ cellInv ER (Rd m) (K (c, x)) (cell c x) := by
  iintro H
  ihave H' := (records_at m K c x) $$ H
  icases H' with ⟨H', -⟩
  iexact H'
theorem records_reached (K : Dev nD × CK → ℕ) (c : Dev nD) (x : CK) : records m K ⊢ reached ER (cell c x) 0 := by
  iintro H
  ihave H' := (records_at m K c x) $$ H
  icases H' with ⟨-, H'⟩
  iexact H'

variable (K : Dev nD × CK → ℕ)

/-! ## Signals and the barrier wait -/

/-- A signal to the peer at distance `e + 1` hands over the own slots that peer's copies land in. -/
theorem wp_sig (c n : Dev nD) (e : Fin 3) (hn : n = pe e c) (O : CellTallies nD τ sig Unit)
    {α : Type} {Q : α → sProp 𝕄} {k : PUnit → Prog (TpuEff nD τ sig (Elt F) Λ₀ .tc) α} :
    iprop(records m K ∗ ow c (O + tB c e) ∗ dutyTok ER (cell (pe e c) none) 0 (bk e)
        ∗ (oAny (F := F) c 0 (sl (bk e)) fullShare ∗ sAny (F := F) c 0 (sl (bk e)) fullShare)
        ∗ (oAny (F := F) c 1 (sl (bk e)) fullShare ∗ sAny (F := F) c 1 (sl (bk e)) fullShare))
      ⊢ iprop((ow c O -∗ wpc c (k ⟨⟩) Q) -∗ wpc c (.op (.semSignal (n : Thread nD τ) barS (1#32 : BitVec 32).toInt) k) Q) := by
  subst hn
  iintro ⟨#HR, HO, Ht, H0, H1⟩ Hk
  unfold ow
  icases HO with ⟨%W, HO⟩
  iapply (Rounds.wp_signal 𝒱₀ ER (Rd m) (c : Thread nD τ) none (dst := (pe e c : Thread nD τ)) (κ := K (pe e c, none))
      (d := bk e) (by rw [duties_bar]; exact Finset.mem_univ _) ((amount_bar m (pe e c) (bk e)).trans (by decide)) () O rfl)
    $$ [HO Ht H0 H1]
  · isplitr; · iapply (records_inv m K (pe e c) none); iexact HR
    isplitl [HO]; · iexact HO
    isplitl [Ht]; · iexact Ht
    isplitl [H0 H1]
    · rw [payload_bar]; unfold barPay land; rw [pe_bk]
      isplitl [H0]; · iexact H0
      iexact H1
    iapply (records_reached m K (pe e c) none); iexact HR
  iintro HO
  iapply Hk
  iexists W; iexact HO

/-- The wait for the three peers' signals brings the slots there. -/
theorem wp_barwait (c : Dev nD) (O : CellTallies nD τ sig Unit) (hO : Above 1 O)
    {α : Type} {Q : α → sProp 𝕄} {k : PUnit → Prog (TpuEff nD τ sig (Elt F) Λ₀ .tc) α} :
    iprop(records m K ∗ levAts L lv ∗ ow c O ∗ cred (tallyAt (cell c none) () 3) ∗ atPos ER (cell c none) 0 ∅ 0)
      ⊢ iprop(((ow c O ∗ semVal (cell c none) 0 ∗ (barPay (F := F) c 0 ∗ barPay (F := F) c 1 ∗ barPay (F := F) c 2)) -∗ wpc c (k ⟨⟩) Q)
          -∗ wpc c (.op (.semWait barS (3#32 : BitVec 32).toInt) k) Q) := by
  iintro ⟨#HR, #Hlev, HO, Hc, Ha⟩ Hk
  unfold ow
  icases HO with ⟨%W, HO⟩
  iapply (Rounds.wp_wait_rest_token 𝒱₀ ER (Rd m) (c : Thread nD τ) none (κ := K (c, none))
      (wpE_semWait_eq 𝒱₀ (c : Thread nD τ) none Set.univ) (Set.mem_univ _) () (O := O) (W := W) (R := 0) (m := 0) (T := ∅)
      (by rw [expect_bar]; decide)) $$ [Hc HO Ha]
  · isplitr; · iapply (records_inv m K c none); iexact HR
    isplitl [Hc]; · iexact Hc
    isplitl [HO]; · iexact HO
    isplitr; · iapply (mayWait_of_above c _ 1 (le_of_eq (lv_cell c none ())) hO); iexact Hlev
    iexact Ha
  iintro ⟨HO, Ha, -, Hpay⟩
  ihave Hp := (Entails.of_eq (rest_bar m c)) $$ Hpay
  imod (Rounds.cell_close ER (Rd m) (Set.mem_univ (K (c, none))) (fun h => h) (R := 0 + 1) (duties_later m (cell c none))) $$ [Ha] with Hz
  · isplitr; · iapply (records_inv m K c none); iexact HR
    iexact Ha
  iapply Hk
  isplitl [HO]; · iexists _; iexact HO
  isplitl [Hz]; · iexact Hz
  iexact Hp

/-! ## The copies -/

/-- An element of a slot, by its place in the whole buffer's rectangle. -/
theorem read_slotO (g : Fin 2) (d : Fin 4) (f : (cc0_scratch3 : Ref sig .tc).ty.Contents (Elt F)) (y : S16x32x128.Idx) :
    (slotO g d).view.read (Elt F) f y
      = coM.view.readAt (Elt F) (rectO g d).toLoadRect f (Shape.reshapeEquiv (Shape.Squeezes.numel_eq squeezes_S1x1x16x32x128_S16x32x128) y) := rfl
theorem read_slotS (g : Fin 2) (d : Fin 4) (f : (cc0_scratch4 : Ref sig .tc).ty.Contents (Elt F)) (y : S2x16x32.Idx) :
    (slotS g d).view.read (Elt F) f y
      = csM.view.readAt (Elt F) (rectS g d).toLoadRect f (Shape.reshapeEquiv (Shape.Squeezes.numel_eq squeezes_S1x1x2x16x32_S2x16x32) y) := rfl

/-- After a copy the landing slot reads what the source slot reads. -/
theorem landedO (g : Fin 2) (d d' : Fin 4) (fd fs : (cc0_scratch3 : Ref sig .tc).ty.Contents (Elt F)) :
    coM.view.readAt (Elt F) (rectO g d).toLoadRect ((slotO g d).view.write (Elt F) fd ((slotO g d').view.read (Elt F) fs) Finset.univ)
      = coM.view.readAt (Elt F) (rectO g d').toLoadRect fs := by
  funext x
  obtain ⟨y, rfl⟩ := (Shape.reshapeEquiv (Shape.Squeezes.numel_eq squeezes_S1x1x16x32x128_S16x32x128)).surjective x
  rw [← read_slotO, ← read_slotO, View.read_write_univ]

theorem landedS (g : Fin 2) (d d' : Fin 4) (fd fs : (cc0_scratch4 : Ref sig .tc).ty.Contents (Elt F)) :
    csM.view.readAt (Elt F) (rectS g d).toLoadRect ((slotS g d).view.write (Elt F) fd ((slotS g d').view.read (Elt F) fs) Finset.univ)
      = csM.view.readAt (Elt F) (rectS g d').toLoadRect fs := by
  funext x
  obtain ⟨y, rfl⟩ := (Shape.reshapeEquiv (Shape.Squeezes.numel_eq squeezes_S1x1x2x16x32_S2x16x32)).surjective x
  rw [← read_slotS, ← read_slotS, View.read_write_univ]

/-- A half's index within its slot. -/
def inSlot (j : Fin 2) (x : S1x1x1x16x32.Idx) : S1x1x2x16x32.Idx := fun a => ⟨![0, 0, j.val, (x 3).val, (x 4).val] a, by
  have h3 : (x 3).val < 16 := (x 3).isLt
  have h4 : (x 4).val < 32 := (x 4).isLt
  have hj := j.isLt
  fin_cases a
  · exact Nat.one_pos
  · exact Nat.one_pos
  · exact hj
  · exact h3
  · exact h4⟩

theorem half_eq (g : Fin 2) (d : Fin 4) (j : Fin 2) (f : (cc0_scratch4 : Ref sig .tc).ty.Contents (Elt F)) (x : S1x1x1x16x32.Idx) :
    csM.view.readAt (Elt F) (rectH g d j).toLoadRect f x = csM.view.readAt (Elt F) (rectS g d).toLoadRect f (inSlot j x) := by
  have h0 : (x 0).val < 1 := (x 0).isLt
  have h1 : (x 1).val < 1 := (x 1).isLt
  have h2 : (x 2).val < 1 := (x 2).isLt
  refine congrArg f (funext fun a => Fin.ext ?_)
  show (![g.val, d.val, j.val, 0, 0] : Fin 5 → ℕ) a + 1 * (x a).val = (![g.val, d.val, 0, 0, 0] : Fin 5 → ℕ) a + 1 * (inSlot j x a).val
  fin_cases a
  · show g.val + 1 * (x 0).val = g.val + 1 * 0; omega
  · show d.val + 1 * (x 1).val = d.val + 1 * 0; omega
  · show j.val + 1 * (x 2).val = 0 + 1 * j.val; omega
  · show 0 + 1 * (x 3).val = 0 + 1 * (x 3).val; rfl
  · show 0 + 1 * (x 4).val = 0 + 1 * (x 4).val; rfl

theorem landedH (g : Fin 2) (d d' : Fin 4) (j : Fin 2) (fd fs : (cc0_scratch4 : Ref sig .tc).ty.Contents (Elt F)) :
    csM.view.readAt (Elt F) (rectH g d j).toLoadRect ((slotS g d).view.write (Elt F) fd ((slotS g d').view.read (Elt F) fs) Finset.univ)
      = csM.view.readAt (Elt F) (rectH g d' j).toLoadRect fs := by
  funext x; rw [half_eq, half_eq, landedS]

theorem rO_pe (c : Dev nD) (g : Fin 2) (e : Fin 3) : rO m (pe e c) g e = sO m c g := by unfold rO; rw [pe_bk]
theorem rM_pe (c : Dev nD) (g : Fin 2) (e : Fin 3) : rM m (pe e c) g e = sM m c g := by unfold rM; rw [pe_bk]
theorem rL_pe (c : Dev nD) (g : Fin 2) (e : Fin 3) : rL m (pe e c) g e = sL m c g := by unfold rL; rw [pe_bk]

/-- The copy of group `g`'s accumulators to the peer at distance `e + 1`. -/
theorem wp_sendO (c n : Dev nD) (g : Fin 2) (e : Fin 3) (hn : n = pe e c) (O : CellTallies nD τ sig Unit)
    {hsc : (slotO g (sl e)).view.ref.isScScratch = false} {hsrc : (slotO g 0).view.WordExact} {hdst : (slotO g (sl e)).view.WordExact}
    {hsem : DmaTarget.Typed .vmem (.dma (dsem 1 g e)) (.remote (Dev.tc n : Thread nD τ) (slotO g (sl e)) (.dma (dsem 0 g e)) hsc)}
    {α : Type} {Q : α → sProp 𝕄} {k : PUnit → Prog (TpuEff nD τ sig (Elt F) Λ₀ .tc) α} :
    iprop(records m K ∗ oHas c g 0 (sh e) (sO m c g) ∗ oAny (F := F) (pe e c) g (sl e) fullShare ∗ ow c (O + tO c g e)
        ∗ dutyTok ER (cell c (some (0, g, e))) 0 0 ∗ dutyTok ER (cell (pe e c) (some (1, g, e))) 0 0)
      ⊢ iprop(((cred (tallyAt (cell c (some (0, g, e))) () NO) ∗ ow c O) -∗ wpc c (k ⟨⟩) Q)
          -∗ wpc c (.op (.enqueueDma (slotO g 0) (.remote (Dev.tc n : Thread nD τ) (slotO g (sl e)) (.dma (dsem 0 g e)) hsc)
              (.dma (dsem 1 g e)) hsrc hdst hsem) k) Q) := by
  subst hn
  unfold oHas oAny ow
  iintro ⟨#HR, ⟨%fs, %hfs, Hs⟩, ⟨%fd, Hd⟩, ⟨%W, HO⟩, Ht0, Ht1⟩ Hk
  unfold oPts
  iapply (Rounds.wp_send_pointsTo 𝒱₀ ER (Rd m) (c : Thread nD τ) none (κ₁ := K (c, some (0, g, e))) (κ₂ := K (pe e c, some (1, g, e)))
    (r₁ := 0) (r₂ := 0) (d₁ := 0) (d₂ := 0) (fd := fd) (fs := fs) (q := sh e)
    (by rw [duties_copy]; exact Finset.mem_singleton_self _) (by rw [duties_copy]; exact Finset.mem_singleton_self _)
    () () NO rfl (amount_copy m c 0 g e 0) (amount_copy m (pe e c) 1 g e 0) O rfl (W := W)
    (by rw [payload_copy]; show _ ⊢ oAny c g 0 (sh e); unfold oAny oPts; iintro H; iexists fs; iexact H)
    (by
      rw [payload_copy]
      show _ ⊢ oHas (pe e c) g (sl e) fullShare (rO m (pe e c) g e)
      unfold oHas oPts
      iintro H; iexists _
      isplitr
      · ipureintro; exact ((landedO g (sl e) 0 fd fs).trans hfs).trans (rO_pe m c g e).symm
      iexact H)) $$ [Hs Hd HO Ht0 Ht1]
  · isplitr; · iapply (records_inv m K c (some (0, g, e))); iexact HR
    isplitr; · iapply (records_inv m K (pe e c) (some (1, g, e))); iexact HR
    isplitl [Hs]; · iexact Hs
    isplitl [Hd]; · iexact Hd
    isplitl [HO]; · iexact HO
    isplitl [Ht0]; · iexact Ht0
    isplitr; · iapply (records_reached m K c (some (0, g, e))); iexact HR
    isplitl [Ht1]; · iexact Ht1
    iapply (records_reached m K (pe e c) (some (1, g, e))); iexact HR
  iintro ⟨Hc, HO⟩
  iapply Hk
  isplitl [Hc]; · iexact Hc
  iexists W; iexact HO

/-- The copy of group `g`'s statistics to the peer at distance `e + 1`. -/
theorem wp_sendS (c n : Dev nD) (g : Fin 2) (e : Fin 3) (hn : n = pe e c) (O : CellTallies nD τ sig Unit)
    {hsc : (slotS g (sl e)).view.ref.isScScratch = false} {hsrc : (slotS g 0).view.WordExact} {hdst : (slotS g (sl e)).view.WordExact}
    {hsem : DmaTarget.Typed .vmem (.dma (dsem 3 g e)) (.remote (Dev.tc n : Thread nD τ) (slotS g (sl e)) (.dma (dsem 2 g e)) hsc)}
    {α : Type} {Q : α → sProp 𝕄} {k : PUnit → Prog (TpuEff nD τ sig (Elt F) Λ₀ .tc) α} :
    iprop(records m K ∗ sHas c g 0 (sh e) (sM m c g) (sL m c g) ∗ sAny (F := F) (pe e c) g (sl e) fullShare ∗ ow c (O + tS c g e)
        ∗ dutyTok ER (cell c (some (2, g, e))) 0 0 ∗ dutyTok ER (cell (pe e c) (some (3, g, e))) 0 0)
      ⊢ iprop(((cred (tallyAt (cell c (some (2, g, e))) () NS) ∗ ow c O) -∗ wpc c (k ⟨⟩) Q)
          -∗ wpc c (.op (.enqueueDma (slotS g 0) (.remote (Dev.tc n : Thread nD τ) (slotS g (sl e)) (.dma (dsem 2 g e)) hsc)
              (.dma (dsem 3 g e)) hsrc hdst hsem) k) Q) := by
  subst hn
  unfold sHas sAny ow
  iintro ⟨#HR, ⟨%fs, %hfs, Hs⟩, ⟨%fd, Hd⟩, ⟨%W, HO⟩, Ht0, Ht1⟩ Hk
  unfold sPts
  iapply (Rounds.wp_send_pointsTo 𝒱₀ ER (Rd m) (c : Thread nD τ) none (κ₁ := K (c, some (2, g, e))) (κ₂ := K (pe e c, some (3, g, e)))
    (r₁ := 0) (r₂ := 0) (d₁ := 0) (d₂ := 0) (fd := fd) (fs := fs) (q := sh e)
    (by rw [duties_copy]; exact Finset.mem_singleton_self _) (by rw [duties_copy]; exact Finset.mem_singleton_self _)
    () () NS rfl (amount_copy m c 2 g e 0) (amount_copy m (pe e c) 3 g e 0) O rfl (W := W)
    (by rw [payload_copy]; show _ ⊢ sAny c g 0 (sh e); unfold sAny sPts; iintro H; iexists fs; iexact H)
    (by
      rw [payload_copy]
      show _ ⊢ sHas (pe e c) g (sl e) fullShare (rM m (pe e c) g e) (rL m (pe e c) g e)
      unfold sHas sPts
      iintro H; iexists _
      isplitr
      · ipureintro; exact ⟨((landedH g (sl e) 0 0 fd fs).trans hfs.1).trans (rM_pe m c g e).symm, ((landedH g (sl e) 0 1 fd fs).trans hfs.2).trans (rL_pe m c g e).symm⟩
      iexact H)) $$ [Hs Hd HO Ht0 Ht1]
  · isplitr; · iapply (records_inv m K c (some (2, g, e))); iexact HR
    isplitr; · iapply (records_inv m K (pe e c) (some (3, g, e))); iexact HR
    isplitl [Hs]; · iexact Hs
    isplitl [Hd]; · iexact Hd
    isplitl [HO]; · iexact HO
    isplitl [Ht0]; · iexact Ht0
    isplitr; · iapply (records_reached m K c (some (2, g, e))); iexact HR
    isplitl [Ht1]; · iexact Ht1
    iapply (records_reached m K (pe e c) (some (3, g, e))); iexact HR
  iintro ⟨Hc, HO⟩
  iapply Hk
  isplitl [Hc]; · iexact Hc
  iexists W; iexact HO

/-- A wait on one of a copy's semaphores, nothing owed: what it brings, the semaphore back at zero. -/
theorem wp_copywait (c : Dev nD) (k' : Fin 4) (g : Fin 2) (e : Fin 3)
    {sp sp' : Space} {s s' : Shape} {t t' : EltTy} {κ' : Kind} {src : Memref sig .tc sp' s' t'} {dst : Memref sig κ' sp s t}
    {hsrc : src.view.WordExact} {hdst : dst.view.WordExact} (hcr : dst.view.dmaCredit = NN k')
    {α : Type} {Q : α → sProp 𝕄} {k : PUnit → Prog (TpuEff nD τ sig (Elt F) Λ₀ .tc) α} :
    iprop(records m K ∗ ow c 0 ∗ cred (tallyAt (cell c (some (k', g, e))) () (NN k')) ∗ atPos ER (cell c (some (k', g, e))) 0 ∅ 0)
      ⊢ iprop(((ow c 0 ∗ semVal (cell c (some (k', g, e))) 0 ∗ copyPay m c k' g e) -∗ wpc c (k ⟨⟩) Q)
          -∗ wpc c (.op (.waitDma2 (dsem k' g e) src dst hsrc hdst) k) Q) := by
  iintro ⟨#HR, HO, Hc, Ha⟩ Hk
  unfold ow
  icases HO with ⟨%W, HO⟩
  iapply (Rounds.wp_wait_rest_token 𝒱₀ ER (Rd m) (c : Thread nD τ) none (κ := K (c, some (k', g, e)))
      (wpE_waitDma2_eq 𝒱₀ (c : Thread nD τ) none Set.univ) (Set.mem_univ _) () (O := 0) (W := W) (R := 0) (m := 0) (T := ∅)
      (by rw [Nat.zero_add, expect_copy, hcr])) $$ [Hc HO Ha]
  · isplitr; · iapply (records_inv m K c (some (k', g, e))); iexact HR
    isplitl [Hc]; · rw [hcr]; iexact Hc
    isplitl [HO]; · iexact HO
    isplitr; · rw [MayWait_zero]; iempintro
    iexact Ha
  iintro ⟨HO, Ha, -, Hpay⟩
  ihave Hp := (Entails.of_eq (rest_copy m c k' g e)) $$ Hpay
  imod (Rounds.cell_close ER (Rd m) (Set.mem_univ (K (c, some (k', g, e)))) (fun h => h) (R := 0 + 1) (duties_later m (cell c (some (k', g, e))))) $$ [Ha] with Hz
  · isplitr; · iapply (records_inv m K c (some (k', g, e))); iexact HR
    iexact Ha
  iapply Hk
  isplitl [HO]; · iexists _; iexact HO
  isplitl [Hz]; · iexact Hz
  iexact Hp

end Cert.KernelIdeal.Merge
-- ==== Proof.Slots.lean ====
/-
The communication buffers as slots: cut, joined, shared, loaded and stored.
-/
module

public import proofs.«01_k».proof.Proof.Steps

@[expose] public section

set_option maxRecDepth 16384

noncomputable section

namespace Cert.KernelIdeal.Merge

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

/-! ## The slots' elements -/

theorem slotO_set (g : Fin 2) (d : Fin 4) : (slotO g d).view.set = (rectO g d).set := by
  show ((coM.view.slice (rectO g d)).reshape _ _).set = _
  rw [View.set_reshape]; exact View.set_slice_whole _ _
theorem slotS_set (g : Fin 2) (d : Fin 4) : (slotS g d).view.set = (rectS g d).set := by
  show ((csM.view.slice (rectS g d)).reshape _ _).set = _
  rw [View.set_reshape]; exact View.set_slice_whole _ _

theorem mem_rectO (g : Fin 2) (d : Fin 4) (y : S2x4x16x32x128.Idx) : y ∈ (rectO g d).set ↔ (y 0).val = g.val ∧ (y 1).val = d.val := by
  rw [Rect.mem_set_unit]
  constructor
  · intro h
    have h0 : g.val ≤ (y 0).val ∧ (y 0).val < g.val + 1 := h 0
    have h1 : d.val ≤ (y 1).val ∧ (y 1).val < d.val + 1 := h 1
    omega
  · rintro ⟨h0, h1⟩ a
    fin_cases a
    · show g.val ≤ (y 0).val ∧ (y 0).val < g.val + 1; omega
    · show d.val ≤ (y 1).val ∧ (y 1).val < d.val + 1; omega
    · exact ⟨Nat.zero_le _, lt_of_lt_of_eq (y 2).isLt (Nat.zero_add _).symm⟩
    · exact ⟨Nat.zero_le _, lt_of_lt_of_eq (y 3).isLt (Nat.zero_add _).symm⟩
    · exact ⟨Nat.zero_le _, lt_of_lt_of_eq (y 4).isLt (Nat.zero_add _).symm⟩

theorem mem_rectS (g : Fin 2) (d : Fin 4) (y : S2x4x2x16x32.Idx) : y ∈ (rectS g d).set ↔ (y 0).val = g.val ∧ (y 1).val = d.val := by
  rw [Rect.mem_set_unit]
  constructor
  · intro h
    have h0 : g.val ≤ (y 0).val ∧ (y 0).val < g.val + 1 := h 0
    have h1 : d.val ≤ (y 1).val ∧ (y 1).val < d.val + 1 := h 1
    omega
  · rintro ⟨h0, h1⟩ a
    fin_cases a
    · show g.val ≤ (y 0).val ∧ (y 0).val < g.val + 1; omega
    · show d.val ≤ (y 1).val ∧ (y 1).val < d.val + 1; omega
    · exact ⟨Nat.zero_le _, lt_of_lt_of_eq (y 2).isLt (Nat.zero_add _).symm⟩
    · exact ⟨Nat.zero_le _, lt_of_lt_of_eq (y 3).isLt (Nat.zero_add _).symm⟩
    · exact ⟨Nat.zero_le _, lt_of_lt_of_eq (y 4).isLt (Nat.zero_add _).symm⟩

theorem mem_rectH (g : Fin 2) (d : Fin 4) (j : Fin 2) (y : S2x4x2x16x32.Idx) (h : y ∈ (rectH g d j).set) :
    (y 0).val = g.val ∧ (y 1).val = d.val ∧ (y 2).val = j.val := by
  rw [Rect.mem_set_unit] at h
  have h0 : g.val ≤ (y 0).val ∧ (y 0).val < g.val + 1 := h 0
  have h1 : d.val ≤ (y 1).val ∧ (y 1).val < d.val + 1 := h 1
  have h2 : j.val ≤ (y 2).val ∧ (y 2).val < j.val + 1 := h 2
  omega

theorem halves_sub (g : Fin 2) (d : Fin 4) (j : Fin 2) : (rectH g d j).set ⊆ (slotS g d).view.set := by
  rw [slotS_set]
  intro y hy
  obtain ⟨h0, h1, -⟩ := mem_rectH g d j y hy
  exact (mem_rectS g d y).mpr ⟨h0, h1⟩

theorem halves_disjoint (g : Fin 2) (d : Fin 4) {j j' : Fin 2} (h : j ≠ j') : Disjoint (rectH g d j).set (rectH g d j').set := by
  rw [Finset.disjoint_left]
  intro y hy hy'
  exact h (Fin.ext ((mem_rectH g d j y hy).2.2.symm.trans (mem_rectH g d j' y hy').2.2))

/-! ## Cutting the buffers into slots, and joining them -/

abbrev SlotIx : Type := Fin 2 × Fin 4

theorem slotsO_disjoint : ∀ t ∈ (Finset.univ : Finset SlotIx), ∀ t' ∈ (Finset.univ : Finset SlotIx), t ≠ t' →
    Disjoint (slotO t.1 t.2).view.set (slotO t'.1 t'.2).view.set := by
  rintro ⟨g, d⟩ - ⟨g', d'⟩ - h
  rw [slotO_set, slotO_set, Finset.disjoint_left]
  intro y hy hy'
  obtain ⟨h0, h1⟩ := (mem_rectO g d y).mp hy
  obtain ⟨h0', h1'⟩ := (mem_rectO g' d' y).mp hy'
  exact h (Prod.ext (Fin.ext (h0.symm.trans h0')) (Fin.ext (h1.symm.trans h1')))
theorem slotsS_disjoint : ∀ t ∈ (Finset.univ : Finset SlotIx), ∀ t' ∈ (Finset.univ : Finset SlotIx), t ≠ t' →
    Disjoint (slotS t.1 t.2).view.set (slotS t'.1 t'.2).view.set := by
  rintro ⟨g, d⟩ - ⟨g', d'⟩ - h
  rw [slotS_set, slotS_set, Finset.disjoint_left]
  intro y hy hy'
  obtain ⟨h0, h1⟩ := (mem_rectS g d y).mp hy
  obtain ⟨h0', h1'⟩ := (mem_rectS g' d' y).mp hy'
  exact h (Prod.ext (Fin.ext (h0.symm.trans h0')) (Fin.ext (h1.symm.trans h1')))

theorem slotsO_cover : Finset.biUnion (β := S2x4x16x32x128.Idx) (Finset.univ : Finset SlotIx) (fun t => (slotO t.1 t.2).view.set) = Finset.univ := by
  refine Finset.eq_univ_iff_forall.mpr fun y => ?_
  refine Finset.mem_biUnion.mpr ⟨((⟨(y 0).val, (y 0).isLt⟩ : Fin 2), (⟨(y 1).val, (y 1).isLt⟩ : Fin 4)), Finset.mem_univ _, ?_⟩
  rw [slotO_set]; exact (mem_rectO _ _ y).mpr ⟨rfl, rfl⟩
theorem slotsS_cover : Finset.biUnion (β := S2x4x2x16x32.Idx) (Finset.univ : Finset SlotIx) (fun t => (slotS t.1 t.2).view.set) = Finset.univ := by
  refine Finset.eq_univ_iff_forall.mpr fun y => ?_
  refine Finset.mem_biUnion.mpr ⟨((⟨(y 0).val, (y 0).isLt⟩ : Fin 2), (⟨(y 1).val, (y 1).isLt⟩ : Fin 4)), Finset.mem_univ _, ?_⟩
  rw [slotS_set]; exact (mem_rectS _ _ y).mpr ⟨rfl, rfl⟩

/-- Eight resources, one a slot. -/
abbrev eight (P : Fin 2 → Fin 4 → sProp 𝕄) : sProp 𝕄 :=
  iprop((P 0 0 ∗ P 0 1 ∗ P 0 2 ∗ P 0 3) ∗ (P 1 0 ∗ P 1 1 ∗ P 1 2 ∗ P 1 3))

theorem bigSep_eight (P : SlotIx → sProp 𝕄) : bigSep Finset.univ P ⊣⊢ eight fun g d => P (g, d) := by
  have h : bigSep Finset.univ P = iprop(P (0, 0) ∗ P (0, 1) ∗ P (0, 2) ∗ P (0, 3) ∗ P (1, 0) ∗ P (1, 1) ∗ P (1, 2) ∗ P (1, 3)) := by
    rw [bigSep_univ_eq_bigSepL [(0, 0), (0, 1), (0, 2), (0, 3), (1, 0), (1, 1), (1, 2), (1, 3)] (by decide) (by decide)]
    simp only [bigSepL_cons_cons, bigSepL_singleton]
    rfl
  rw [h]
  constructor
  · iintro ⟨h0, h1, h2, h3, h4, h5, h6, h7⟩
    isplitl [h0 h1 h2 h3]
    · isplitl [h0]; · iexact h0
      isplitl [h1]; · iexact h1
      isplitl [h2]; · iexact h2
      iexact h3
    · isplitl [h4]; · iexact h4
      isplitl [h5]; · iexact h5
      isplitl [h6]; · iexact h6
      iexact h7
  · iintro ⟨⟨h0, h1, h2, h3⟩, h4, h5, h6, h7⟩
    isplitl [h0]; · iexact h0
    isplitl [h1]; · iexact h1
    isplitl [h2]; · iexact h2
    isplitl [h3]; · iexact h3
    isplitl [h4]; · iexact h4
    isplitl [h5]; · iexact h5
    isplitl [h6]; · iexact h6
    iexact h7

theorem cutO (c : Dev nD) : iprop(∃ f : Buf (Elt F) ((c : Thread nD τ).loc cc0_scratch3), ((c : Thread nD τ).loc cc0_scratch3) ↦{fullShare} f)
    ⊢ eight fun g d => oAny (F := F) c g d fullShare := by
  refine Idealize.SL.BI.BIClass.exists_elim fun f => BIBase.Entails.trans ?_ (bigSep_eight fun t => oAny (F := F) c t.1 t.2 fullShare).1
  refine (Entails.of_eq ((congrArg (fun S : Finset S2x4x16x32x128.Idx => (((c : Thread nD τ).loc cc0_scratch3) ↦[S]{fullShare} f : sProp 𝕄)) slotsO_cover.symm).trans
    (pointsTo_biUnion _ _ slotsO_disjoint))).trans ?_
  exact bigSep_mono fun t _ => Idealize.SL.BI.BIClass.exists_intro (Φ := fun f => oPts (F := F) c t.1 t.2 fullShare f) f

theorem joinO (c : Dev nD) : (eight fun g d => oAny (F := F) c g d fullShare)
    ⊢ iprop(∃ f : Buf (Elt F) ((c : Thread nD τ).loc cc0_scratch3), ((c : Thread nD τ).loc cc0_scratch3) ↦{fullShare} f) := by
  iintro H
  ihave H := (bigSep_eight fun t => oAny (F := F) c t.1 t.2 fullShare).2 $$ H
  ihave H := (show bigSep (Finset.univ : Finset SlotIx) (fun t => oAny (F := F) c t.1 t.2 fullShare)
      ⊢ iprop(∃ fs : SlotIx → Buf (Elt F) ((c : Thread nD τ).loc cc0_scratch3), bigSep (Finset.univ : Finset SlotIx) fun t =>
        (((c : Thread nD τ).loc cc0_scratch3) ↦[(slotO t.1 t.2).view.set]{fullShare} fs t : sProp 𝕄)) from
    BI.bigSep_exists_pi (Finset.univ : Finset SlotIx) _) $$ H
  icases H with ⟨%fs, H⟩
  ihave H := (pointsTo_biUnion_join (Finset.univ : Finset SlotIx) _ fs (fs (0, 0)) slotsO_disjoint) $$ H
  icases H with ⟨%f, -, H⟩
  iexists f
  ihave H := (Entails.of_eq (congrArg (fun S : Finset S2x4x16x32x128.Idx => (((c : Thread nD τ).loc cc0_scratch3) ↦[S]{fullShare} f : sProp 𝕄)) slotsO_cover)) $$ H
  iexact H

/-- A slot held in three shares, one a copy. -/
theorem shareO (c : Dev nD) (g : Fin 2) (d : Fin 4) (f) : oPts (F := F) c g d fullShare f
    ⊣⊢ iprop(oPts c g d (sh 0) f ∗ oPts c g d (sh 1) f ∗ oPts c g d (sh 2) f) := by
  unfold oPts sh
  have h1 := pointsTo_share (Ix := Unit) (Name := ℕ) (U := UU) (Lvl := ℕ) (ℓ := (slotO g d).view.loc (c : Thread nD τ)) (I := (slotO g d).view.set) (f := f) (PosShare.mem_left_op_right fullShare)
  have h2 := pointsTo_share (Ix := Unit) (Name := ℕ) (U := UU) (Lvl := ℕ) (ℓ := (slotO g d).view.loc (c : Thread nD τ)) (I := (slotO g d).view.set) (f := f) (PosShare.mem_left_op_right fullShare.right)
  exact ⟨h1.1.trans (sep_mono_right h2.1), (sep_mono_right h2.2).trans h1.2⟩

theorem agreeO (c : Dev nD) (g : Fin 2) (d : Fin 4) (q q' : PosShare TreeShare) (f f') :
    iprop(oPts (F := F) c g d q f ∗ oPts c g d q' f') ⊢ iprop(oPts (F := F) c g d q f ∗ oPts c g d q' f) := by
  unfold oPts
  iintro ⟨H, H'⟩
  ihave %h := pointsTo_agree $$ [H H']
  · isplitl [H]; · iexact H
    iexact H'
  isplitl [H]; · iexact H
  ihave H' := (Entails.of_eq (pointsTo_congr (q := q') (f := f') (g := f) fun i hi => (h i (Finset.mem_inter.mpr ⟨hi, hi⟩)).1.symm)) $$ H'
  iexact H'

theorem unshareO (c : Dev nD) (g : Fin 2) (d : Fin 4) :
    iprop(oAny (F := F) c g d (sh 0) ∗ oAny (F := F) c g d (sh 1) ∗ oAny (F := F) c g d (sh 2)) ⊢ oAny (F := F) c g d fullShare := by
  unfold oAny
  iintro ⟨⟨%f, H0⟩, ⟨%f1, H1⟩, ⟨%f2, H2⟩⟩
  ihave H := (agreeO c g d (sh 0) (sh 1) f f1) $$ [H0 H1]
  · isplitl [H0]; · iexact H0
    iexact H1
  icases H with ⟨H0, H1⟩
  ihave H := (agreeO c g d (sh 0) (sh 2) f f2) $$ [H0 H2]
  · isplitl [H0]; · iexact H0
    iexact H2
  icases H with ⟨H0, H2⟩
  iexists f
  iapply (shareO c g d f).2
  isplitl [H0]; · iexact H0
  isplitl [H1]; · iexact H1
  iexact H2

theorem cutS (c : Dev nD) : iprop(∃ f : Buf (Elt F) ((c : Thread nD τ).loc cc0_scratch4), ((c : Thread nD τ).loc cc0_scratch4) ↦{fullShare} f)
    ⊢ eight fun g d => sAny (F := F) c g d fullShare := by
  refine Idealize.SL.BI.BIClass.exists_elim fun f => BIBase.Entails.trans ?_ (bigSep_eight fun t => sAny (F := F) c t.1 t.2 fullShare).1
  refine (Entails.of_eq ((congrArg (fun S : Finset S2x4x2x16x32.Idx => (((c : Thread nD τ).loc cc0_scratch4) ↦[S]{fullShare} f : sProp 𝕄)) slotsS_cover.symm).trans
    (pointsTo_biUnion _ _ slotsS_disjoint))).trans ?_
  exact bigSep_mono fun t _ => Idealize.SL.BI.BIClass.exists_intro (Φ := fun f => sPts (F := F) c t.1 t.2 fullShare f) f

theorem joinS (c : Dev nD) : (eight fun g d => sAny (F := F) c g d fullShare)
    ⊢ iprop(∃ f : Buf (Elt F) ((c : Thread nD τ).loc cc0_scratch4), ((c : Thread nD τ).loc cc0_scratch4) ↦{fullShare} f) := by
  iintro H
  ihave H := (bigSep_eight fun t => sAny (F := F) c t.1 t.2 fullShare).2 $$ H
  ihave H := (show bigSep (Finset.univ : Finset SlotIx) (fun t => sAny (F := F) c t.1 t.2 fullShare)
      ⊢ iprop(∃ fs : SlotIx → Buf (Elt F) ((c : Thread nD τ).loc cc0_scratch4), bigSep (Finset.univ : Finset SlotIx) fun t =>
        (((c : Thread nD τ).loc cc0_scratch4) ↦[(slotS t.1 t.2).view.set]{fullShare} fs t : sProp 𝕄)) from
    BI.bigSep_exists_pi (Finset.univ : Finset SlotIx) _) $$ H
  icases H with ⟨%fs, H⟩
  ihave H := (pointsTo_biUnion_join (Finset.univ : Finset SlotIx) _ fs (fs (0, 0)) slotsS_disjoint) $$ H
  icases H with ⟨%f, -, H⟩
  iexists f
  ihave H := (Entails.of_eq (congrArg (fun S : Finset S2x4x2x16x32.Idx => (((c : Thread nD τ).loc cc0_scratch4) ↦[S]{fullShare} f : sProp 𝕄)) slotsS_cover)) $$ H
  iexact H

/-- A slot held in three shares, one a copy. -/
theorem shareS (c : Dev nD) (g : Fin 2) (d : Fin 4) (f) : sPts (F := F) c g d fullShare f
    ⊣⊢ iprop(sPts c g d (sh 0) f ∗ sPts c g d (sh 1) f ∗ sPts c g d (sh 2) f) := by
  unfold sPts sh
  have h1 := pointsTo_share (Ix := Unit) (Name := ℕ) (U := UU) (Lvl := ℕ) (ℓ := (slotS g d).view.loc (c : Thread nD τ)) (I := (slotS g d).view.set) (f := f) (PosShare.mem_left_op_right fullShare)
  have h2 := pointsTo_share (Ix := Unit) (Name := ℕ) (U := UU) (Lvl := ℕ) (ℓ := (slotS g d).view.loc (c : Thread nD τ)) (I := (slotS g d).view.set) (f := f) (PosShare.mem_left_op_right fullShare.right)
  exact ⟨h1.1.trans (sep_mono_right h2.1), (sep_mono_right h2.2).trans h1.2⟩

theorem agreeS (c : Dev nD) (g : Fin 2) (d : Fin 4) (q q' : PosShare TreeShare) (f f') :
    iprop(sPts (F := F) c g d q f ∗ sPts c g d q' f') ⊢ iprop(sPts (F := F) c g d q f ∗ sPts c g d q' f) := by
  unfold sPts
  iintro ⟨H, H'⟩
  ihave %h := pointsTo_agree $$ [H H']
  · isplitl [H]; · iexact H
    iexact H'
  isplitl [H]; · iexact H
  ihave H' := (Entails.of_eq (pointsTo_congr (q := q') (f := f') (g := f) fun i hi => (h i (Finset.mem_inter.mpr ⟨hi, hi⟩)).1.symm)) $$ H'
  iexact H'

theorem unshareS (c : Dev nD) (g : Fin 2) (d : Fin 4) :
    iprop(sAny (F := F) c g d (sh 0) ∗ sAny (F := F) c g d (sh 1) ∗ sAny (F := F) c g d (sh 2)) ⊢ sAny (F := F) c g d fullShare := by
  unfold sAny
  iintro ⟨⟨%f, H0⟩, ⟨%f1, H1⟩, ⟨%f2, H2⟩⟩
  ihave H := (agreeS c g d (sh 0) (sh 1) f f1) $$ [H0 H1]
  · isplitl [H0]; · iexact H0
    iexact H1
  icases H with ⟨H0, H1⟩
  ihave H := (agreeS c g d (sh 0) (sh 2) f f2) $$ [H0 H2]
  · isplitl [H0]; · iexact H0
    iexact H2
  icases H with ⟨H0, H2⟩
  iexists f
  iapply (shareS c g d f).2
  isplitl [H0]; · iexact H0
  isplitl [H1]; · iexact H1
  iexact H2

theorem shareHasO (c : Dev nD) (g : Fin 2) (d : Fin 4) (v) : oHas (F := F) c g d fullShare v
    ⊢ iprop(oHas c g d (sh 0) v ∗ oHas c g d (sh 1) v ∗ oHas c g d (sh 2) v) := by
  unfold oHas
  iintro ⟨%f, %h, H⟩
  ihave H := (shareO c g d f).1 $$ H
  icases H with ⟨H0, H1, H2⟩
  isplitl [H0]; · iexists f; isplitr; (· ipureintro; exact h); iexact H0
  isplitl [H1]; · iexists f; isplitr; (· ipureintro; exact h); iexact H1
  iexists f; isplitr; (· ipureintro; exact h); iexact H2

theorem shareHasS (c : Dev nD) (g : Fin 2) (d : Fin 4) (v w) : sHas (F := F) c g d fullShare v w
    ⊢ iprop(sHas c g d (sh 0) v w ∗ sHas c g d (sh 1) v w ∗ sHas c g d (sh 2) v w) := by
  unfold sHas
  iintro ⟨%f, %h, H⟩
  ihave H := (shareS c g d f).1 $$ H
  icases H with ⟨H0, H1, H2⟩
  isplitl [H0]; · iexists f; isplitr; (· ipureintro; exact h); iexact H0
  isplitl [H1]; · iexists f; isplitr; (· ipureintro; exact h); iexact H1
  iexists f; isplitr; (· ipureintro; exact h); iexact H2

theorem oHas_any (c : Dev nD) (g : Fin 2) (d : Fin 4) (q : PosShare TreeShare) (v) : oHas (F := F) c g d q v ⊢ oAny (F := F) c g d q := by
  unfold oHas oAny; iintro ⟨%f, -, H⟩; iexists f; iexact H
theorem sHas_any (c : Dev nD) (g : Fin 2) (d : Fin 4) (q : PosShare TreeShare) (v w) : sHas (F := F) c g d q v w ⊢ sAny (F := F) c g d q := by
  unfold sHas sAny; iintro ⟨%f, -, H⟩; iexists f; iexact H

/-! ## Loads and stores of slots -/

theorem setOn_coM (M) : coM.view.setOn M = M := Finset.map_refl
theorem setOn_csM (M) : csM.view.setOn M = M := Finset.map_refl

theorem rd_wrO (g : Fin 2) (d : Fin 4) (f) (v : Vec F S1x1x16x32x128 .bf16) :
    coM.view.readAt (Elt F) (rectO g d).toLoadRect ((coM.access (rectO g d)).write (Elt F) f v Finset.univ) = v :=
  View.read_write_univ (v := coM.view.slice (rectO g d)) f v
theorem rd_wrH (g : Fin 2) (d : Fin 4) (j : Fin 2) (f) (v : Vec F S1x1x1x16x32 .f32) :
    csM.view.readAt (Elt F) (rectH g d j).toLoadRect ((csM.access (rectH g d j)).write (Elt F) f v Finset.univ) = v :=
  View.read_write_univ (v := csM.view.slice (rectH g d j)) f v
theorem rd_wrH' (g : Fin 2) (d : Fin 4) {j j' : Fin 2} (h : j ≠ j') (f) (v : Vec F S1x1x1x16x32 .f32) :
    csM.view.readAt (Elt F) (rectH g d j).toLoadRect ((csM.access (rectH g d j')).write (Elt F) f v Finset.univ)
      = csM.view.readAt (Elt F) (rectH g d j).toLoadRect f :=
  View.read_slice_write_slice_of_disjoint (v := csM.view) (rectH g d j) (rectH g d j') f v Finset.univ
    (by rw [View.setOn_univ, View.set_slice, View.set_slice]; exact (Finset.disjoint_map _).mpr (halves_disjoint g d h))

theorem accO_sub (g : Fin 2) (d : Fin 4) : (coM.access (rectO g d)).setOn Finset.univ ⊆ (slotO g d).view.set := by
  rw [slotO_set]
  exact subset_of_eq ((View.setOn_univ _).trans (View.set_slice_whole _ _))
theorem accH_sub (g : Fin 2) (d : Fin 4) (j : Fin 2) : (csM.access (rectH g d j)).setOn Finset.univ ⊆ (slotS g d).view.set :=
  (subset_of_eq ((View.setOn_univ _).trans (View.set_slice_whole _ _))).trans (halves_sub g d j)

section Access
variable (c : Dev nD) (g : Fin 2) (d : Fin 4)

theorem wp_ptsO {q : PosShare TreeShare} {f} {hl : coM.view.LoadsAt (rectO g d).toLoadRect}
    {α : Type} {Q : α → sProp 𝕄} {k : Vec F S1x1x16x32x128 .bf16 → Prog (TpuEff nD τ sig (Elt F) Λ₀ .tc) α} :
    oPts (F := F) c g d q f ⊢ iprop((oPts c g d q f -∗ wpc c (k (coM.view.readAt (Elt F) (rectO g d).toLoadRect f)) Q)
      -∗ wpc c (.op (.load coM (rectO g d).toLoadRect hl) k) Q) := by
  unfold oPts
  exact wp_load 𝒱₀ (c : Thread nD τ) none Set.univ (m := coM) (subset_of_eq ((setOn_coM _).trans (slotO_set g d).symm))

theorem wp_ldO {q : PosShare TreeShare} {v} {hl : coM.view.LoadsAt (rectO g d).toLoadRect}
    {α : Type} {Q : α → sProp 𝕄} {k : Vec F S1x1x16x32x128 .bf16 → Prog (TpuEff nD τ sig (Elt F) Λ₀ .tc) α} :
    oHas (F := F) c g d q v ⊢ iprop((oHas c g d q v -∗ wpc c (k v) Q) -∗ wpc c (.op (.load coM (rectO g d).toLoadRect hl) k) Q) := by
  unfold oHas
  iintro ⟨%f, %h, H⟩ Hk
  iapply (wp_ptsO c g d) $$ H
  iintro H
  rw [h]
  iapply Hk
  iexists f; isplitr; (· ipureintro; exact h); iexact H

theorem wp_stO {f} {v : Vec F S1x1x16x32x128 .bf16} {hx : (coM.access (rectO g d)).Stores Finset.univ} {hm}
    {α : Type} {Q : α → sProp 𝕄} {k : PUnit → Prog (TpuEff nD τ sig (Elt F) Λ₀ .tc) α} :
    oPts (F := F) c g d fullShare f ⊢ iprop((oHas c g d fullShare v -∗ wpc c (k ⟨⟩) Q)
      -∗ wpc c (.op (.store coM (rectO g d) v Finset.univ hx hm) k) Q) := by
  unfold oHas oPts
  iintro H Hk
  iapply (wp_store 𝒱₀ (c : Thread nD τ) none Set.univ (m := coM) (r := rectO g d) (Mk := Finset.univ)
    (accO_sub g d)) $$ H
  iintro H
  iapply Hk
  iexists ((coM.access (rectO g d)).write (Elt F) f v Finset.univ)
  isplitr
  · ipureintro; exact rd_wrO g d f v
  iexact H

theorem wp_ptsS (j : Fin 2) {q : PosShare TreeShare} {f} {hl : csM.view.LoadsAt (rectH g d j).toLoadRect}
    {α : Type} {Q : α → sProp 𝕄} {k : Vec F S1x1x1x16x32 .f32 → Prog (TpuEff nD τ sig (Elt F) Λ₀ .tc) α} :
    sPts (F := F) c g d q f ⊢ iprop((sPts c g d q f -∗ wpc c (k (csM.view.readAt (Elt F) (rectH g d j).toLoadRect f)) Q)
      -∗ wpc c (.op (.load csM (rectH g d j).toLoadRect hl) k) Q) := by
  unfold sPts
  exact wp_load 𝒱₀ (c : Thread nD τ) none Set.univ (m := csM) ((subset_of_eq (setOn_csM _)).trans (halves_sub g d j))

theorem wp_ldM {q : PosShare TreeShare} {v w} {hl : csM.view.LoadsAt (rectH g d 0).toLoadRect}
    {α : Type} {Q : α → sProp 𝕄} {k : Vec F S1x1x1x16x32 .f32 → Prog (TpuEff nD τ sig (Elt F) Λ₀ .tc) α} :
    sHas (F := F) c g d q v w ⊢ iprop((sHas c g d q v w -∗ wpc c (k v) Q) -∗ wpc c (.op (.load csM (rectH g d 0).toLoadRect hl) k) Q) := by
  unfold sHas
  iintro ⟨%f, %h, H⟩ Hk
  iapply (wp_ptsS c g d 0) $$ H
  iintro H
  rw [h.1]
  iapply Hk
  iexists f; isplitr; (· ipureintro; exact h); iexact H

theorem wp_ldL {q : PosShare TreeShare} {v w} {hl : csM.view.LoadsAt (rectH g d 1).toLoadRect}
    {α : Type} {Q : α → sProp 𝕄} {k : Vec F S1x1x1x16x32 .f32 → Prog (TpuEff nD τ sig (Elt F) Λ₀ .tc) α} :
    sHas (F := F) c g d q v w ⊢ iprop((sHas c g d q v w -∗ wpc c (k w) Q) -∗ wpc c (.op (.load csM (rectH g d 1).toLoadRect hl) k) Q) := by
  unfold sHas
  iintro ⟨%f, %h, H⟩ Hk
  iapply (wp_ptsS c g d 1) $$ H
  iintro H
  rw [h.2]
  iapply Hk
  iexists f; isplitr; (· ipureintro; exact h); iexact H

/-- The statistics slot, its maxima stored. -/
def sHalf (v : Vec F S1x1x1x16x32 .f32) (f : Buf (Elt F) ((slotS g d).view.loc (c : Thread nD τ))) : sProp 𝕄 :=
  iprop(⌜csM.view.readAt (Elt F) (rectH g d 0).toLoadRect f = v⌝ ∗ sPts c g d fullShare f)

theorem wp_stM {f} {v : Vec F S1x1x1x16x32 .f32} {hx : (csM.access (rectH g d 0)).Stores Finset.univ} {hm}
    {α : Type} {Q : α → sProp 𝕄} {k : PUnit → Prog (TpuEff nD τ sig (Elt F) Λ₀ .tc) α} :
    sPts (F := F) c g d fullShare f ⊢ iprop((∀ f : Buf (Elt F) ((slotS g d).view.loc (c : Thread nD τ)), sHalf c g d v f -∗ wpc c (k ⟨⟩) Q)
      -∗ wpc c (.op (.store csM (rectH g d 0) v Finset.univ hx hm) k) Q) := by
  unfold sHalf sPts
  iintro H Hk
  iapply (wp_store 𝒱₀ (c : Thread nD τ) none Set.univ (m := csM) (r := rectH g d 0) (Mk := Finset.univ)
    (accH_sub g d 0)) $$ H
  iintro H
  iapply Hk $$ %((csM.access (rectH g d 0)).write (Elt F) f v Finset.univ)
  isplitr
  · ipureintro; exact rd_wrH g d 0 f v
  iexact H

theorem wp_stL {f : Buf (Elt F) ((slotS g d).view.loc (c : Thread nD τ))} {v w : Vec F S1x1x1x16x32 .f32} {hx : (csM.access (rectH g d 1)).Stores Finset.univ} {hm}
    (hf : csM.view.readAt (Elt F) (rectH g d 0).toLoadRect f = v)
    {α : Type} {Q : α → sProp 𝕄} {k : PUnit → Prog (TpuEff nD τ sig (Elt F) Λ₀ .tc) α} :
    sPts (F := F) c g d fullShare f ⊢ iprop((sHas c g d fullShare v w -∗ wpc c (k ⟨⟩) Q)
      -∗ wpc c (.op (.store csM (rectH g d 1) w Finset.univ hx hm) k) Q) := by
  unfold sHas sPts
  iintro H Hk
  iapply (wp_store 𝒱₀ (c : Thread nD τ) none Set.univ (m := csM) (r := rectH g d 1) (Mk := Finset.univ)
    (accH_sub g d 1)) $$ H
  iintro H
  iapply Hk
  iexists ((csM.access (rectH g d 1)).write (Elt F) f w Finset.univ)
  isplitr
  · ipureintro; exact ⟨(rd_wrH' g d (j := 0) (j' := 1) (by decide) f w).trans hf, rd_wrH g d 1 f w⟩
  iexact H

end Access

end Cert.KernelIdeal.Merge
-- ==== Proof.Kit.lean ====
/-
The body's resources in bundles, and the body's operations over them.
-/
module

public import proofs.«01_k».proof.Proof.Slots

@[expose] public section

set_option maxRecDepth 16384

noncomputable section

namespace Cert.KernelIdeal.Merge

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ)

theorem wpc_ret (c : Dev nD) {α : Type} (v : α) (Q : α → sProp 𝕄) : Q v ⊢ wpc c (.ret v) Q := by
  unfold wpc
  rw [wp_ret]
  iintro H
  imodintro
  iexact H

theorem wpc_bind (c : Dev nD) {α β : Type} (p : Prog (TpuEff nD τ sig (Elt F) Λ₀ .tc) α) (k : α → Prog (TpuEff nD τ sig (Elt F) Λ₀ .tc) β)
    (Q : β → sProp 𝕄) : wpc c p (fun v => wpc c (k v) Q) ⊢ wpc c (p >>= k) Q := by
  unfold wpc
  rw [wp_bind]

/-! ## The state in scratch -/

/-- The accumulators', maxima's and sums' buffers, at `s`. -/
def stt (c : Dev nD) (s : Stt F) : sProp 𝕄 :=
  iprop((((c : Thread nD τ).loc cc0_scratch0) ↦{fullShare} s.o) ∗ (((c : Thread nD τ).loc cc0_scratch1) ↦{fullShare} s.m)
    ∗ (((c : Thread nD τ).loc cc0_scratch2) ↦{fullShare} s.l))

section State
variable (c : Dev nD) (s : Stt F)

theorem wp_ldo {r : LoadRect S32x32x128} {hl : oM.view.LoadsAt r}
    {α : Type} {Q : α → sProp 𝕄} {k : Vec F r.shape .f32 → Prog (TpuEff nD τ sig (Elt F) Λ₀ .tc) α} :
    stt c s ⊢ iprop((stt c s -∗ wpc c (k (oM.view.readAt (Elt F) r s.o)) Q) -∗ wpc c (.op (.load oM r hl) k) Q) := by
  unfold stt
  iintro ⟨Ho, Hm, Hl⟩ Hk
  iapply (wp_load 𝒱₀ (c : Thread nD τ) none Set.univ (m := oM) (S := Finset.univ) (Finset.subset_univ _)) $$ Ho
  iintro Ho
  iapply Hk
  isplitl [Ho]; · iexact Ho
  isplitl [Hm]; · iexact Hm
  iexact Hl

theorem wp_ldm {r : LoadRect S32x32x1} {hl : mM.view.LoadsAt r}
    {α : Type} {Q : α → sProp 𝕄} {k : Vec F r.shape .f32 → Prog (TpuEff nD τ sig (Elt F) Λ₀ .tc) α} :
    stt c s ⊢ iprop((stt c s -∗ wpc c (k (mM.view.readAt (Elt F) r s.m)) Q) -∗ wpc c (.op (.load mM r hl) k) Q) := by
  unfold stt
  iintro ⟨Ho, Hm, Hl⟩ Hk
  iapply (wp_load 𝒱₀ (c : Thread nD τ) none Set.univ (m := mM) (S := Finset.univ) (Finset.subset_univ _)) $$ Hm
  iintro Hm
  iapply Hk
  isplitl [Ho]; · iexact Ho
  isplitl [Hm]; · iexact Hm
  iexact Hl

theorem wp_ldl {r : LoadRect S32x32x1} {hl : lM.view.LoadsAt r}
    {α : Type} {Q : α → sProp 𝕄} {k : Vec F r.shape .f32 → Prog (TpuEff nD τ sig (Elt F) Λ₀ .tc) α} :
    stt c s ⊢ iprop((stt c s -∗ wpc c (k (lM.view.readAt (Elt F) r s.l)) Q) -∗ wpc c (.op (.load lM r hl) k) Q) := by
  unfold stt
  iintro ⟨Ho, Hm, Hl⟩ Hk
  iapply (wp_load 𝒱₀ (c : Thread nD τ) none Set.univ (m := lM) (S := Finset.univ) (Finset.subset_univ _)) $$ Hl
  iintro Hl
  iapply Hk
  isplitl [Ho]; · iexact Ho
  isplitl [Hm]; · iexact Hm
  iexact Hl

theorem wp_sto {r : Rect S32x32x128} {w : Vec F r.shape .f32} {hx : (oM.access r).Stores Finset.univ} {hm}
    {α : Type} {Q : α → sProp 𝕄} {k : PUnit → Prog (TpuEff nD τ sig (Elt F) Λ₀ .tc) α} :
    stt c s ⊢ iprop((stt c ⟨(oM.access r).write (Elt F) s.o w Finset.univ, s.m, s.l⟩ -∗ wpc c (k ⟨⟩) Q)
      -∗ wpc c (.op (.store oM r w Finset.univ hx hm) k) Q) := by
  unfold stt
  iintro ⟨Ho, Hm, Hl⟩ Hk
  iapply (wp_store 𝒱₀ (c : Thread nD τ) none Set.univ (m := oM) (r := r) (S := Finset.univ) (Finset.subset_univ _)) $$ Ho
  iintro Ho
  iapply Hk
  isplitl [Ho]; · iexact Ho
  isplitl [Hm]; · iexact Hm
  iexact Hl

theorem wp_stm {r : Rect S32x32x1} {w : Vec F r.shape .f32} {hx : (mM.access r).Stores Finset.univ} {hm}
    {α : Type} {Q : α → sProp 𝕄} {k : PUnit → Prog (TpuEff nD τ sig (Elt F) Λ₀ .tc) α} :
    stt c s ⊢ iprop((stt c ⟨s.o, (mM.access r).write (Elt F) s.m w Finset.univ, s.l⟩ -∗ wpc c (k ⟨⟩) Q)
      -∗ wpc c (.op (.store mM r w Finset.univ hx hm) k) Q) := by
  unfold stt
  iintro ⟨Ho, Hm, Hl⟩ Hk
  iapply (wp_store 𝒱₀ (c : Thread nD τ) none Set.univ (m := mM) (r := r) (S := Finset.univ) (Finset.subset_univ _)) $$ Hm
  iintro Hm
  iapply Hk
  isplitl [Ho]; · iexact Ho
  isplitl [Hm]; · iexact Hm
  iexact Hl

theorem wp_stl {r : Rect S32x32x1} {w : Vec F r.shape .f32} {hx : (lM.access r).Stores Finset.univ} {hm}
    {α : Type} {Q : α → sProp 𝕄} {k : PUnit → Prog (TpuEff nD τ sig (Elt F) Λ₀ .tc) α} :
    stt c s ⊢ iprop((stt c ⟨s.o, s.m, (lM.access r).write (Elt F) s.l w Finset.univ⟩ -∗ wpc c (k ⟨⟩) Q)
      -∗ wpc c (.op (.store lM r w Finset.univ hx hm) k) Q) := by
  unfold stt
  iintro ⟨Ho, Hm, Hl⟩ Hk
  iapply (wp_store 𝒱₀ (c : Thread nD τ) none Set.univ (m := lM) (r := r) (S := Finset.univ) (Finset.subset_univ _)) $$ Hl
  iintro Hl
  iapply Hk
  isplitl [Ho]; · iexact Ho
  isplitl [Hm]; · iexact Hm
  iexact Hl

end State

/-! ## The copies' ghost state -/

section Ghost
variable (c : Dev nD) (k : Fin 4) (g : Fin 2) (e : Fin 3)

/-- The position at a copy's own cell. -/
def pos : sProp 𝕄 := atPos ER (cell c (some (k, g, e))) 0 ∅ 0
/-- What a wait takes: the position and the credit. -/
def wt : sProp 𝕄 := iprop(pos (F := F) c k g e ∗ cred (tallyAt (cell c (some (k, g, e))) () (NN k)))
/-- What a wait leaves: the semaphore at zero, and what the copy brought. -/
def got : sProp 𝕄 := iprop(semVal (cell c (some (k, g, e))) 0 ∗ copyPay m c k g e)
/-- The two duties of the copy whose send array is `k`. -/
def toks (k' : Fin 4) : sProp 𝕄 :=
  iprop(dutyTok ER (cell c (some (k, g, e))) 0 0 ∗ dutyTok ER (cell (pe e c) (some (k', g, e))) 0 0)
end Ghost

variable (K : Dev nD × CK → ℕ)

theorem wp_wt (c : Dev nD) (k' : Fin 4) (g : Fin 2) (e : Fin 3)
    {sp sp' : Space} {s s' : Shape} {t t' : EltTy} {κ' : Kind} {src : Memref sig .tc sp' s' t'} {dst : Memref sig κ' sp s t}
    {hsrc : src.view.WordExact} {hdst : dst.view.WordExact} (hcr : dst.view.dmaCredit = NN k')
    {α : Type} {Q : α → sProp 𝕄} {k : PUnit → Prog (TpuEff nD τ sig (Elt F) Λ₀ .tc) α} :
    iprop(records m K ∗ ow c 0 ∗ wt (F := F) c k' g e)
      ⊢ iprop(((ow c 0 ∗ got m c k' g e) -∗ wpc c (k ⟨⟩) Q) -∗ wpc c (.op (.waitDma2 (dsem k' g e) src dst hsrc hdst) k) Q) := by
  unfold wt got pos
  iintro ⟨#HR, HO, Ha, Hc⟩ Hk
  iapply (wp_copywait m K c k' g e hcr) $$ [HO Ha Hc]
  · isplitr; · iexact HR
    isplitl [HO]; · iexact HO
    isplitl [Hc]; · iexact Hc
    iexact Ha
  iintro ⟨HO, Hz, Hp⟩
  iapply Hk
  isplitl [HO]; · iexact HO
  isplitl [Hz]; · iexact Hz
  iexact Hp

theorem wp_wtO (c : Dev nD) (k' : Fin 4) (g : Fin 2) (e : Fin 3) (hk : k'.val < 2) {src dst : Memref sig .tc .vmem S16x32x128 .bf16}
    {hsrc : src.view.WordExact} {hdst : dst.view.WordExact}
    {α : Type} {Q : α → sProp 𝕄} {k : PUnit → Prog (TpuEff nD τ sig (Elt F) Λ₀ .tc) α} :
    iprop(records m K ∗ ow c 0 ∗ wt (F := F) c k' g e)
      ⊢ iprop(((ow c 0 ∗ got m c k' g e) -∗ wpc c (k ⟨⟩) Q) -∗ wpc c (.op (.waitDma2 (dsem k' g e) src dst hsrc hdst) k) Q) :=
  wp_wt m K c k' g e (show dst.view.dmaCredit = NN k' from Eq.symm (if_pos hk))
theorem wp_wtS (c : Dev nD) (k' : Fin 4) (g : Fin 2) (e : Fin 3) (hk : ¬ k'.val < 2) {src dst : Memref sig .tc .vmem S2x16x32 .f32}
    {hsrc : src.view.WordExact} {hdst : dst.view.WordExact}
    {α : Type} {Q : α → sProp 𝕄} {k : PUnit → Prog (TpuEff nD τ sig (Elt F) Λ₀ .tc) α} :
    iprop(records m K ∗ ow c 0 ∗ wt (F := F) c k' g e)
      ⊢ iprop(((ow c 0 ∗ got m c k' g e) -∗ wpc c (k ⟨⟩) Q) -∗ wpc c (.op (.waitDma2 (dsem k' g e) src dst hsrc hdst) k) Q) :=
  wp_wt m K c k' g e (show dst.view.dmaCredit = NN k' from Eq.symm (if_neg hk))

/-- What a copy takes: the share it reads, the slot it lands in, its two duties and the sender's position. -/
def sndO (c : Dev nD) (g : Fin 2) (e : Fin 3) : sProp 𝕄 :=
  iprop(oHas c g 0 (sh e) (sO m c g) ∗ oAny (F := F) (pe e c) g (sl e) fullShare ∗ toks (F := F) c 0 g e 1 ∗ pos (F := F) c 0 g e)

theorem wp_putO (c n : Dev nD) (g : Fin 2) (e : Fin 3) (hn : n = pe e c) (O : CellTallies nD τ sig Unit)
    {hsc : (slotO g (sl e)).view.ref.isScScratch = false} {hsrc : (slotO g 0).view.WordExact} {hdst : (slotO g (sl e)).view.WordExact}
    {hsem : DmaTarget.Typed .vmem (.dma (dsem 1 g e)) (.remote (Dev.tc n : Thread nD τ) (slotO g (sl e)) (.dma (dsem 0 g e)) hsc)}
    {α : Type} {Q : α → sProp 𝕄} {k : PUnit → Prog (TpuEff nD τ sig (Elt F) Λ₀ .tc) α} :
    iprop(records m K ∗ ow c (O + tO c g e) ∗ sndO m c g e)
      ⊢ iprop(((ow c O ∗ wt (F := F) c 0 g e) -∗ wpc c (k ⟨⟩) Q)
          -∗ wpc c (.op (.enqueueDma (slotO g 0) (.remote (Dev.tc n : Thread nD τ) (slotO g (sl e)) (.dma (dsem 0 g e)) hsc)
              (.dma (dsem 1 g e)) hsrc hdst hsem) k) Q) := by
  unfold sndO toks wt
  iintro ⟨#HR, HO, Hs, Hd, ⟨Ht0, Ht1⟩, Hp⟩ Hk
  iapply (wp_sendO m K c n g e hn O) $$ [Hs Hd HO Ht0 Ht1]
  · isplitr; · iexact HR
    isplitl [Hs]; · iexact Hs
    isplitl [Hd]; · iexact Hd
    isplitl [HO]; · iexact HO
    isplitl [Ht0]; · iexact Ht0
    iexact Ht1
  iintro ⟨Hc, HO⟩
  iapply Hk
  isplitl [HO]; · iexact HO
  isplitl [Hp]; · iexact Hp
  iexact Hc

/-- What a copy takes: the share it reads, the slot it lands in, its two duties and the sender's position. -/
def sndS (c : Dev nD) (g : Fin 2) (e : Fin 3) : sProp 𝕄 :=
  iprop(sHas c g 0 (sh e) (sM m c g) (sL m c g) ∗ sAny (F := F) (pe e c) g (sl e) fullShare ∗ toks (F := F) c 2 g e 3 ∗ pos (F := F) c 2 g e)

theorem wp_putS (c n : Dev nD) (g : Fin 2) (e : Fin 3) (hn : n = pe e c) (O : CellTallies nD τ sig Unit)
    {hsc : (slotS g (sl e)).view.ref.isScScratch = false} {hsrc : (slotS g 0).view.WordExact} {hdst : (slotS g (sl e)).view.WordExact}
    {hsem : DmaTarget.Typed .vmem (.dma (dsem 3 g e)) (.remote (Dev.tc n : Thread nD τ) (slotS g (sl e)) (.dma (dsem 2 g e)) hsc)}
    {α : Type} {Q : α → sProp 𝕄} {k : PUnit → Prog (TpuEff nD τ sig (Elt F) Λ₀ .tc) α} :
    iprop(records m K ∗ ow c (O + tS c g e) ∗ sndS m c g e)
      ⊢ iprop(((ow c O ∗ wt (F := F) c 2 g e) -∗ wpc c (k ⟨⟩) Q)
          -∗ wpc c (.op (.enqueueDma (slotS g 0) (.remote (Dev.tc n : Thread nD τ) (slotS g (sl e)) (.dma (dsem 2 g e)) hsc)
              (.dma (dsem 3 g e)) hsrc hdst hsem) k) Q) := by
  unfold sndS toks wt
  iintro ⟨#HR, HO, Hs, Hd, ⟨Ht0, Ht1⟩, Hp⟩ Hk
  iapply (wp_sendS m K c n g e hn O) $$ [Hs Hd HO Ht0 Ht1]
  · isplitr; · iexact HR
    isplitl [Hs]; · iexact Hs
    isplitl [Hd]; · iexact Hd
    isplitl [HO]; · iexact HO
    isplitl [Ht0]; · iexact Ht0
    iexact Ht1
  iintro ⟨Hc, HO⟩
  iapply Hk
  isplitl [HO]; · iexact HO
  isplitl [Hp]; · iexact Hp
  iexact Hc

/-! ## The barrier -/

/-- The barrier semaphore, as the body names it. -/
abbrev barSS : Sems sig S_ := SemArray.scalar (sig.barrier 0 rfl)

/-- What a signal to the peer at distance `e + 1` takes: its duty, and the own slots that peer's copies land in. -/
def sg (c : Dev nD) (e : Fin 3) : sProp 𝕄 :=
  iprop(dutyTok ER (cell (pe e c) none) 0 (bk e)
    ∗ (oAny (F := F) c 0 (sl (bk e)) fullShare ∗ sAny (F := F) c 0 (sl (bk e)) fullShare)
    ∗ (oAny (F := F) c 1 (sl (bk e)) fullShare ∗ sAny (F := F) c 1 (sl (bk e)) fullShare))

theorem wp_sgn (c n : Dev nD) (e : Fin 3) (hn : n = pe e c) (O : CellTallies nD τ sig Unit)
    {α : Type} {Q : α → sProp 𝕄} {k : PUnit → Prog (TpuEff nD τ sig (Elt F) Λ₀ .tc) α} :
    iprop(records m K ∗ ow c (O + tB c e) ∗ sg (F := F) c e)
      ⊢ iprop((ow c O -∗ wpc c (k ⟨⟩) Q) -∗ wpc c (.op (.semSignal (n : Thread nD τ) barS (1#32 : BitVec 32).toInt) k) Q) := by
  unfold sg
  exact wp_sig m K c n e hn O

/-- What the barrier's wait takes. -/
def wtB (c : Dev nD) : sProp 𝕄 := iprop(cred (tallyAt (cell c none) () 3) ∗ atPos ER (cell c none) 0 ∅ 0)

theorem wp_bar (c : Dev nD) (O : CellTallies nD τ sig Unit) (hO : Above 1 O)
    {α : Type} {Q : α → sProp 𝕄} {k : PUnit → Prog (TpuEff nD τ sig (Elt F) Λ₀ .tc) α} :
    iprop(records m K ∗ levAts L lv ∗ ow c O ∗ wtB (F := F) c)
      ⊢ iprop(((ow c O ∗ semVal (cell c none) 0 ∗ (barPay (F := F) c 0 ∗ barPay (F := F) c 1 ∗ barPay (F := F) c 2)) -∗ wpc c (k ⟨⟩) Q)
          -∗ wpc c (.op (.semWait barS (3#32 : BitVec 32).toInt) k) Q) := by
  unfold wtB
  exact wp_barwait m K c O hO

/-! ## Loads of what has landed -/

section Landed
variable (c : Dev nD) (g : Fin 2) (e : Fin 3)

theorem wp_gotO {hl : coM.view.LoadsAt (rectO g (sl e)).toLoadRect}
    {α : Type} {Q : α → sProp 𝕄} {k : Vec F S1x1x16x32x128 .bf16 → Prog (TpuEff nD τ sig (Elt F) Λ₀ .tc) α} :
    got m c 1 g e ⊢ iprop((got m c 1 g e -∗ wpc c (k (rO m c g e)) Q) -∗ wpc c (.op (.load coM (rectO g (sl e)).toLoadRect hl) k) Q) := by
  unfold got copyPay
  iintro ⟨Hz, H⟩ Hk
  iapply (wp_ldO c g (sl e)) $$ H
  iintro H
  iapply Hk
  isplitl [Hz]; · iexact Hz
  iexact H

theorem wp_gotM {hl : csM.view.LoadsAt (rectH g (sl e) 0).toLoadRect}
    {α : Type} {Q : α → sProp 𝕄} {k : Vec F S1x1x1x16x32 .f32 → Prog (TpuEff nD τ sig (Elt F) Λ₀ .tc) α} :
    got m c 3 g e ⊢ iprop((got m c 3 g e -∗ wpc c (k (rM m c g e)) Q) -∗ wpc c (.op (.load csM (rectH g (sl e) 0).toLoadRect hl) k) Q) := by
  unfold got copyPay
  iintro ⟨Hz, H⟩ Hk
  iapply (wp_ldM c g (sl e)) $$ H
  iintro H
  iapply Hk
  isplitl [Hz]; · iexact Hz
  iexact H

theorem wp_gotL {hl : csM.view.LoadsAt (rectH g (sl e) 1).toLoadRect}
    {α : Type} {Q : α → sProp 𝕄} {k : Vec F S1x1x1x16x32 .f32 → Prog (TpuEff nD τ sig (Elt F) Λ₀ .tc) α} :
    got m c 3 g e ⊢ iprop((got m c 3 g e -∗ wpc c (k (rL m c g e)) Q) -∗ wpc c (.op (.load csM (rectH g (sl e) 1).toLoadRect hl) k) Q) := by
  unfold got copyPay
  iintro ⟨Hz, H⟩ Hk
  iapply (wp_ldL c g (sl e)) $$ H
  iintro H
  iapply Hk
  isplitl [Hz]; · iexact Hz
  iexact H

end Landed

end Cert.KernelIdeal.Merge
-- ==== Proof.PartsA.lean ====
/-
The pieces of the exchange's first half: group 0's copies.
-/
module

public import proofs.«01_k».proof.Proof.Kit

@[expose] public section

set_option maxRecDepth 16384

noncomputable section

namespace Cert.KernelIdeal.Merge

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (K : Dev nD × CK → ℕ) (i : grid0.Coords) (c : Dev nD)
variable (a2 : Memref sig .tc .vmem S2x32x8x128 .bf16) (h2 : a2.IsWhole) (a3 : Memref sig .tc .vmem S2x512x8x128 .bf16) (h3 : a3.IsWhole)
  (a4 : Memref sig .tc .vmem S2x512x8x128 .bf16) (h4 : a4.IsWhole) (a5 : Memref sig .tc .vmem S4x32x8x128 .f32) (h5 : a5.IsWhole)

/-- Group 0's accumulators, maxima and sums into its own slots. -/
theorem part1_run (s : Stt F) (v64 : BitVec 32) {Q : _ → sProp 𝕄} :
    iprop(stt c s ∗ oAny (F := F) c 0 0 fullShare ∗ sAny (F := F) c 0 0 fullShare)
      ⊢ iprop((∀ r, (stt c s ∗ oHas c 0 0 fullShare (k0_pay3 (gO 0 s)) ∗ sHas c 0 0 fullShare (k0_pay4 (gM 0 s)) (k0_pay5 (gL 0 s))) -∗ Q ⟨barSS, r⟩)
        -∗ wpc c (k0_part1 (F := F) i a2 h2 a3 h3 a4 h4 a5 h5 oM (Memref.isWhole_whole _) mM (Memref.isWhole_whole _) lM (Memref.isWhole_whole _) coM (Memref.isWhole_whole _) csM (Memref.isWhole_whole _) cc0_scratch5 cc0_scratch6 cc0_scratch7 cc0_scratch8 v64) Q) := by
  rw [k0_part1_eq_skeleton]
  unfold k0_part1_skel
  simp only [semSignalWord, semWaitWord, Prog.lift, Prog.bind_op, Prog.bind_ret, Prog.pure_eq_ret]
  unfold oAny sAny
  iintro ⟨Hst, Ho, Hs⟩ Hk
  iapply (wp_ldo c _) $$ Hst
  iintro Hst
  icases Ho with ⟨%fo, Ho⟩
  icases Hs with ⟨%fs, Hs⟩
  iapply (wp_ptsO c 0 0) $$ Ho
  iintro Ho
  iapply (wp_stO c 0 0) $$ Ho
  iintro Ho
  iapply (wp_ldm c _) $$ Hst
  iintro Hst
  iapply (wp_ptsS c 0 0 0) $$ Hs
  iintro Hs
  iapply (wp_stM c 0 0) $$ Hs
  iintro %f Hs
  iapply (wp_ldl c _) $$ Hst
  iintro Hst
  unfold sHalf
  icases Hs with ⟨%hf, Hs⟩
  iapply (wp_ptsS c 0 0 1) $$ Hs
  iintro Hs
  iapply (wp_stL c 0 0 hf) $$ Hs
  iintro Hs
  iapply wpc_ret
  iapply Hk $$ %_
  isplitl [Hst]; · iexact Hst
  isplitl [Ho]; · iexact Ho
  iexact Hs

/-- Signals to the peers. -/
theorem part2_run (d : Dev nD) (hd : d = c) (v58 : BitVec 32) (v61 : BitVec 32) (v64 : BitVec 32) (k0_h2 : k0_cond2 i = 1#1) (v94 : BitVec 32) (v99 : BitVec 1) (v100 : BitVec 32) {Q : _ → sProp 𝕄} :
    iprop(records m K ∗ ow c (OA c + tB c 2 + tB c 1 + tB c 0) ∗ sg (F := F) c 0 ∗ sg (F := F) c 1)
      ⊢ iprop((∀ r, (ow c (OA c + tB c 2)) -∗ Q r)
        -∗ wpc c (k0_part2 (F := F) i a2 h2 a3 h3 a4 h4 a5 h5 oM (Memref.isWhole_whole _) mM (Memref.isWhole_whole _) lM (Memref.isWhole_whole _) coM (Memref.isWhole_whole _) csM (Memref.isWhole_whole _) cc0_scratch5 cc0_scratch6 cc0_scratch7 cc0_scratch8 d v58 v61 v64 k0_h2 barSS v94 v99 v100) Q) := by
  subst hd
  rw [k0_part2_eq_skeleton]
  unfold k0_part2_skel
  simp only [semSignalWord, semWaitWord, Prog.lift, Prog.bind_op, Prog.bind_ret, Prog.pure_eq_ret]
  iintro ⟨#HR, HO, T0, T1⟩ Hk
  iapply (wp_sgn m K d _ 0 (Fin.ext (dev1_eq d)) (OA d + tB d 2 + tB d 1)) $$ [HO T0]
  · isplitr; · iexact HR
    isplitl [HO]; · iexact HO
    iexact T0
  iintro HO
  iapply (wp_sgn m K d _ 1 (Fin.ext (dev2_eq d)) (OA d + tB d 2)) $$ [HO T1]
  · isplitr; · iexact HR
    isplitl [HO]; · iexact HO
    iexact T1
  iintro HO
  iapply wpc_ret
  iapply Hk $$ %_
  iexact HO

/-- Signals to the peers, and the wait for theirs. -/
theorem part3_run (d : Dev nD) (hd : d = c) (v58 : BitVec 32) (v61 : BitVec 32) (v64 : BitVec 32) (k0_h2 : k0_cond2 i = 1#1) (v128 : BitVec 32) (v133 : BitVec 1) (v134 : BitVec 32) {Q : _ → sProp 𝕄} :
    iprop(records m K ∗ ow c (OA c + tB c 2) ∗ sg (F := F) c 2 ∗ levAts L lv ∗ wtB (F := F) c)
      ⊢ iprop((∀ r, (ow c (OA c) ∗ semVal (cell c none) 0 ∗ (barPay (F := F) c 0 ∗ barPay (F := F) c 1 ∗ barPay (F := F) c 2)) -∗ Q r)
        -∗ wpc c (k0_part3 (F := F) i a2 h2 a3 h3 a4 h4 a5 h5 oM (Memref.isWhole_whole _) mM (Memref.isWhole_whole _) lM (Memref.isWhole_whole _) coM (Memref.isWhole_whole _) csM (Memref.isWhole_whole _) cc0_scratch5 cc0_scratch6 cc0_scratch7 cc0_scratch8 d v58 v61 v64 k0_h2 barSS v128 v133 v134) Q) := by
  subst hd
  rw [k0_part3_eq_skeleton]
  unfold k0_part3_skel
  simp only [semSignalWord, semWaitWord, Prog.lift, Prog.bind_op, Prog.bind_ret, Prog.pure_eq_ret]
  iintro ⟨#HR, HO, T2, Hl, Hb⟩ Hk
  iapply (wp_sgn m K d _ 2 (Fin.ext (dev3_eq d)) (OA d)) $$ [HO T2]
  · isplitr; · iexact HR
    isplitl [HO]; · iexact HO
    iexact T2
  iintro HO
  iapply (wp_bar m K d (OA d) (above_OA d)) $$ [Hl HO Hb]
  · isplitr; · iexact HR
    isplitl [Hl]; · iexact Hl
    isplitl [HO]; · iexact HO
    iexact Hb
  iintro ⟨HO, Hz, Hp⟩
  iapply wpc_ret
  iapply Hk $$ %_
  isplitl [HO]; · iexact HO
  isplitl [Hz]; · iexact Hz
  iexact Hp

/-- Copies started. -/
theorem part4_run (O : CellTallies nD τ sig Unit) (d : Dev nD) (hd : d = c) (v58 : BitVec 32) (v61 : BitVec 32) (k0_h2 : k0_cond2 i = 1#1) (v152 : BitVec 32) (v166 : BitVec 32) (v167 : BitVec 32) {Q : _ → sProp 𝕄} :
    iprop(records m K ∗ ow c (O + tO c 0 0) ∗ sndO m c 0 0)
      ⊢ iprop((∀ r, (ow c O ∗ wt (F := F) c 0 0 0) -∗ Q r)
        -∗ wpc c (k0_part4 (F := F) i a2 h2 a3 h3 a4 h4 a5 h5 oM (Memref.isWhole_whole _) mM (Memref.isWhole_whole _) lM (Memref.isWhole_whole _) coM (Memref.isWhole_whole _) csM (Memref.isWhole_whole _) cc0_scratch5 cc0_scratch6 cc0_scratch7 cc0_scratch8 d v58 v61 k0_h2 v152 v166 v167) Q) := by
  subst hd
  rw [k0_part4_eq_skeleton]
  unfold k0_part4_skel
  simp only [semSignalWord, semWaitWord, Prog.lift, Prog.bind_op, Prog.bind_ret, Prog.pure_eq_ret]
  iintro ⟨#HR, HO, SO00⟩ Hk
  iapply (wp_putO m K d _ 0 0 (Fin.ext (dev4_eq d)) (O)) $$ [HO SO00]
  · isplitr; · iexact HR
    isplitl [HO]; · iexact HO
    iexact SO00
  iintro ⟨HO, G000⟩
  iapply wpc_ret
  iapply Hk $$ %_
  isplitl [HO]; · iexact HO
  iexact G000

/-- Copies started. -/
theorem part5_run (O : CellTallies nD τ sig Unit) (d : Dev nD) (hd : d = c) (v58 : BitVec 32) (v61 : BitVec 32) (k0_h2 : k0_cond2 i = 1#1) (v163 : BitVec 32) (v192 : BitVec 32) (v193 : BitVec 32) {Q : _ → sProp 𝕄} :
    iprop(records m K ∗ ow c (O + tO c 0 1 + tS c 0 0) ∗ sndS m c 0 0 ∗ sndO m c 0 1)
      ⊢ iprop((∀ r, (ow c O ∗ wt (F := F) c 2 0 0 ∗ wt (F := F) c 0 0 1) -∗ Q r)
        -∗ wpc c (k0_part5 (F := F) i a2 h2 a3 h3 a4 h4 a5 h5 oM (Memref.isWhole_whole _) mM (Memref.isWhole_whole _) lM (Memref.isWhole_whole _) coM (Memref.isWhole_whole _) csM (Memref.isWhole_whole _) cc0_scratch5 cc0_scratch6 cc0_scratch7 cc0_scratch8 d v58 v61 k0_h2 v163 v192 v193) Q) := by
  subst hd
  rw [k0_part5_eq_skeleton]
  unfold k0_part5_skel
  simp only [semSignalWord, semWaitWord, Prog.lift, Prog.bind_op, Prog.bind_ret, Prog.pure_eq_ret]
  iintro ⟨#HR, HO, SS00, SO01⟩ Hk
  iapply (wp_putS m K d _ 0 0 (Fin.ext (dev5_eq d)) (O + tO d 0 1)) $$ [HO SS00]
  · isplitr; · iexact HR
    isplitl [HO]; · iexact HO
    iexact SS00
  iintro ⟨HO, G200⟩
  iapply (wp_putO m K d _ 0 1 (Fin.ext (dev6_eq d)) (O)) $$ [HO SO01]
  · isplitr; · iexact HR
    isplitl [HO]; · iexact HO
    iexact SO01
  iintro ⟨HO, G001⟩
  iapply wpc_ret
  iapply Hk $$ %_
  isplitl [HO]; · iexact HO
  isplitl [G200]; · iexact G200
  iexact G001

/-- Copies started. -/
theorem part6_run (O : CellTallies nD τ sig Unit) (d : Dev nD) (hd : d = c) (v58 : BitVec 32) (v61 : BitVec 32) (k0_h2 : k0_cond2 i = 1#1) (v163 : BitVec 32) (v174 : BitVec 32) (v217 : BitVec 32) (c0_i32_180 : BitVec 32) {Q : _ → sProp 𝕄} :
    iprop(records m K ∗ ow c (O + tO c 0 2 + tS c 0 1) ∗ sndS m c 0 1 ∗ sndO m c 0 2)
      ⊢ iprop((∀ r, (ow c O ∗ wt (F := F) c 2 0 1 ∗ wt (F := F) c 0 0 2) -∗ Q r)
        -∗ wpc c (k0_part6 (F := F) i a2 h2 a3 h3 a4 h4 a5 h5 oM (Memref.isWhole_whole _) mM (Memref.isWhole_whole _) lM (Memref.isWhole_whole _) coM (Memref.isWhole_whole _) csM (Memref.isWhole_whole _) cc0_scratch5 cc0_scratch6 cc0_scratch7 cc0_scratch8 d v58 v61 k0_h2 v163 v174 v217 c0_i32_180) Q) := by
  subst hd
  rw [k0_part6_eq_skeleton]
  unfold k0_part6_skel
  simp only [semSignalWord, semWaitWord, Prog.lift, Prog.bind_op, Prog.bind_ret, Prog.pure_eq_ret]
  iintro ⟨#HR, HO, SS01, SO02⟩ Hk
  iapply (wp_putS m K d _ 0 1 (Fin.ext (dev7_eq d)) (O + tO d 0 2)) $$ [HO SS01]
  · isplitr; · iexact HR
    isplitl [HO]; · iexact HO
    iexact SS01
  iintro ⟨HO, G201⟩
  iapply (wp_putO m K d _ 0 2 (Fin.ext (dev8_eq d)) (O)) $$ [HO SO02]
  · isplitr; · iexact HR
    isplitl [HO]; · iexact HO
    iexact SO02
  iintro ⟨HO, G002⟩
  iapply wpc_ret
  iapply Hk $$ %_
  isplitl [HO]; · iexact HO
  isplitl [G201]; · iexact G201
  iexact G002

end Cert.KernelIdeal.Merge
-- ==== Proof.PhaseA.lean ====
/-
The body's first half: the grid point's update of the running softmax, and group 0's exchange.
-/
module

public import proofs.«01_k».proof.Proof.PartsA

@[expose] public section

set_option maxRecDepth 16384

noncomputable section

namespace Cert.KernelIdeal.Merge

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

section Bundles
variable (m : (ℓ : Loc nD τ sig) → Buf (Elt F) ℓ) (K : Dev nD × CK → ℕ) (c : Dev nD)

/-! ## Bundles -/

/-- Group `g`'s duties and the senders' positions, in the order of the copies. -/
def kit (g : Fin 2) : sProp 𝕄 := iprop((toks (F := F) c 0 g 0 1 ∗ pos (F := F) c 0 g 0) ∗ (toks (F := F) c 2 g 0 3 ∗ pos (F := F) c 2 g 0) ∗ (toks (F := F) c 0 g 1 1 ∗ pos (F := F) c 0 g 1) ∗ (toks (F := F) c 2 g 1 3 ∗ pos (F := F) c 2 g 1) ∗ (toks (F := F) c 0 g 2 1 ∗ pos (F := F) c 0 g 2) ∗ (toks (F := F) c 2 g 2 3 ∗ pos (F := F) c 2 g 2))
/-- What group `g`'s copies take. -/
def snds (g : Fin 2) : sProp 𝕄 := iprop(sndO m c g 0 ∗ sndS m c g 0 ∗ sndO m c g 1 ∗ sndS m c g 1 ∗ sndO m c g 2 ∗ sndS m c g 2)
/-- What the waits for group `g`'s sends take. -/
def fly (g : Fin 2) : sProp 𝕄 := iprop(wt (F := F) c 0 g 0 ∗ wt (F := F) c 2 g 0 ∗ wt (F := F) c 0 g 1 ∗ wt (F := F) c 2 g 1 ∗ wt (F := F) c 0 g 2 ∗ wt (F := F) c 2 g 2)
/-- What the waits for group `g`'s receives take. -/
def rcv (g : Fin 2) : sProp 𝕄 := iprop(wt (F := F) c 1 g 0 ∗ wt (F := F) c 3 g 0 ∗ wt (F := F) c 1 g 1 ∗ wt (F := F) c 3 g 1 ∗ wt (F := F) c 1 g 2 ∗ wt (F := F) c 3 g 2)
/-- The peers' slots that group `g`'s copies land in. -/
def lands (g : Fin 2) : sProp 𝕄 := iprop(land (F := F) c g 0 ∗ land (F := F) c g 1 ∗ land (F := F) c g 2)
/-- The duties of the three signals. -/
def bars : sProp 𝕄 :=
  iprop(dutyTok ER (cell (pe 0 c) none) 0 (bk 0) ∗ dutyTok ER (cell (pe 1 c) none) 0 (bk 1) ∗ dutyTok ER (cell (pe 2 c) none) 0 (bk 2))

theorem arm (g : Fin 2) : iprop(oHas c g 0 fullShare (sO m c g) ∗ sHas c g 0 fullShare (sM m c g) (sL m c g) ∗ lands (F := F) c g ∗ kit (F := F) c g)
    ⊢ snds m c g := by
  unfold lands land kit snds sndO sndS
  iintro ⟨Ho, Hs, ⟨⟨LO0, LS0⟩, ⟨LO1, LS1⟩, LO2, LS2⟩, ⟨TO0, PO0⟩, ⟨TS0, PS0⟩, ⟨TO1, PO1⟩, ⟨TS1, PS1⟩, ⟨TO2, PO2⟩, TS2, PS2⟩
  ihave Ho := (shareHasO c g 0 _) $$ Ho
  icases Ho with ⟨HO0, HO1, HO2⟩
  ihave Hs := (shareHasS c g 0 _ _) $$ Hs
  icases Hs with ⟨HS0, HS1, HS2⟩
  isplitl [HO0 LO0 TO0 PO0]
  · isplitl [HO0]; · iexact HO0
    isplitl [LO0]; · iexact LO0
    isplitl [TO0]; · iexact TO0
    iexact PO0
  isplitl [HS0 LS0 TS0 PS0]
  · isplitl [HS0]; · iexact HS0
    isplitl [LS0]; · iexact LS0
    isplitl [TS0]; · iexact TS0
    iexact PS0
  isplitl [HO1 LO1 TO1 PO1]
  · isplitl [HO1]; · iexact HO1
    isplitl [LO1]; · iexact LO1
    isplitl [TO1]; · iexact TO1
    iexact PO1
  isplitl [HS1 LS1 TS1 PS1]
  · isplitl [HS1]; · iexact HS1
    isplitl [LS1]; · iexact LS1
    isplitl [TS1]; · iexact TS1
    iexact PS1
  isplitl [HO2 LO2 TO2 PO2]
  · isplitl [HO2]; · iexact HO2
    isplitl [LO2]; · iexact LO2
    isplitl [TO2]; · iexact TO2
    iexact PO2
  isplitl [HS2]; · iexact HS2
  isplitl [LS2]; · iexact LS2
  isplitl [TS2]; · iexact TS2
  iexact PS2

/-- The buffers' slots, cut: what the three signals take, and the own slots. -/
theorem dispense : iprop(bars (F := F) c ∗ (eight fun g d => oAny (F := F) c g d fullShare) ∗ (eight fun g d => sAny (F := F) c g d fullShare))
    ⊢ iprop((sg (F := F) c 0 ∗ sg (F := F) c 1 ∗ sg (F := F) c 2) ∗ (oAny (F := F) c 0 0 fullShare ∗ sAny (F := F) c 0 0 fullShare)
        ∗ (oAny (F := F) c 1 0 fullShare ∗ sAny (F := F) c 1 0 fullShare)) := by
  unfold bars eight
  iintro ⟨⟨T0, T1, T2⟩, ⟨⟨O00, O01, O02, O03⟩, O10, O11, O12, O13⟩, ⟨S00, S01, S02, S03⟩, S10, S11, S12, S13⟩
  isplitl [T0 T1 T2 O01 O02 O03 O11 O12 O13 S01 S02 S03 S11 S12 S13]
  · isplitl [T0 O03 S03 O13 S13]
    · unfold sg
      isplitl [T0]; · iexact T0
      isplitl [O03 S03]
      · isplitl [O03]; · iexact O03
        iexact S03
      isplitl [O13]; · iexact O13
      iexact S13
    isplitl [T1 O02 S02 O12 S12]
    · unfold sg
      isplitl [T1]; · iexact T1
      isplitl [O02 S02]
      · isplitl [O02]; · iexact O02
        iexact S02
      isplitl [O12]; · iexact O12
      iexact S12
    unfold sg
    isplitl [T2]; · iexact T2
    isplitl [O01 S01]
    · isplitl [O01]; · iexact O01
      iexact S01
    isplitl [O11]; · iexact O11
    iexact S11
  isplitl [O00 S00]
  · isplitl [O00]; · iexact O00
    iexact S00
  isplitl [O10]; · iexact O10
  iexact S10

theorem barPays : iprop(barPay (F := F) c 0 ∗ barPay (F := F) c 1 ∗ barPay (F := F) c 2) ⊢ iprop(lands (F := F) c 0 ∗ lands (F := F) c 1) := by
  unfold barPay lands
  iintro ⟨⟨A0, B0⟩, ⟨A1, B1⟩, A2, B2⟩
  isplitl [A0 A1 A2]
  · isplitl [A0]; · iexact A0
    isplitl [A1]; · iexact A1
    iexact A2
  isplitl [B0]; · iexact B0
  isplitl [B1]; · iexact B1
  iexact B2

end Bundles

theorem stt_of_eq (c : Dev nD) {s s' : Stt F} (h : s = s') : stt c s ⊢ stt c s' := by rw [h]

theorem wpc_dev (c : Dev nD) {α : Type} {Q : α → sProp 𝕄} {k : Dev nD → Prog (TpuEff nD τ sig (Elt F) Λ₀ .tc) α} :
    wpc c (k c) Q ⊢ wpc c (.op .deviceId k) Q := by
  unfold wpc
  rw [wp_deviceId]

variable (m : (ℓ : Loc nD τ sig) → Buf (Elt F) ℓ) (K : Dev nD × CK → ℕ) (i : grid0.Coords) (c : Dev nD)
variable (a2 : Memref sig .tc .vmem S2x32x8x128 .bf16) (h2 : a2.IsWhole) (a3 : Memref sig .tc .vmem S2x512x8x128 .bf16) (h3 : a3.IsWhole)
  (a4 : Memref sig .tc .vmem S2x512x8x128 .bf16) (h4 : a4.IsWhole) (a5 : Memref sig .tc .vmem S4x32x8x128 .f32) (h5 : a5.IsWhole)

/-! ## The update -/

/-- The state the second piece leaves. -/
abbrev upd30 (s : Stt F) (v17 : FVec F S16x512x128 .bf16) (v25 v27 : FVec F S16x32x1 .f32) (v30 : FVec F S16x32x512 .f32) (v33 : FVec F S16x32x1 .f32) : Stt F where
  o := (oM.access (Rect.unit (s := S32x32x128) (k0_off2 i) S16x32x128.size (k0_off2_inb i))).write (Elt F) s.o
    (k0_pay51 v17 v27 v30 (oM.view.readAt (Elt F) (Rect.unit (s := S32x32x128) (k0_off2 i) S16x32x128.size (k0_off2_inb i)).toLoadRect s.o)) Finset.univ
  m := (mM.access (Rect.unit (s := S32x32x1) (k0_off1 i) S16x32x1.size (k0_off1_inb i))).write (Elt F) s.m (k0_pay49 v25) Finset.univ
  l := (lM.access (Rect.unit (s := S32x32x1) (k0_off1 i) S16x32x1.size (k0_off1_inb i))).write (Elt F) s.l (k0_pay50 v30 v33) Finset.univ

/-- The second piece away from group 0's exchange. -/
theorem part30_run (hc : ¬ k0_cond2 i = 1#1) (s : Stt F) (arg0 arg1 v0 : BitVec 32) (v17 : FVec F S16x512x128 .bf16) (v25 v27 : FVec F S16x32x1 .f32)
    (v30 : FVec F S16x32x512 .f32) (v33 : FVec F S16x32x1 .f32) {Q : _ → sProp 𝕄} :
    stt c s ⊢ iprop((∀ w, stt c (upd30 i s v17 v25 v27 v30 v33) -∗ Q ⟨c, w⟩)
        -∗ wpc c (k0_part30 (F := F) i a2 h2 a3 h3 a4 h4 a5 h5 oM (Memref.isWhole_whole _) mM (Memref.isWhole_whole _) lM (Memref.isWhole_whole _) coM (Memref.isWhole_whole _) csM (Memref.isWhole_whole _) cc0_scratch5 cc0_scratch6 cc0_scratch7 cc0_scratch8 arg0 arg1 v0 v17 v25 v27 v30 v33) Q) := by
  rw [k0_part30_eq_skeleton]
  unfold k0_part30_skel
  simp only [Prog.lift, Prog.bind_op, Prog.bind_ret, Prog.pure_eq_ret, dif_neg hc]
  iintro Hst Hk
  iapply (wp_ldo c _) $$ Hst
  iintro Hst
  iapply (wp_ldm c _) $$ Hst
  iintro Hst
  iapply (wp_stm c _) $$ Hst
  iintro Hst
  iapply (wp_ldl c _) $$ Hst
  iintro Hst
  iapply (wp_stl c _) $$ Hst
  iintro Hst
  iapply (wp_ldo c _) $$ Hst
  iintro Hst
  iapply (wp_sto c _) $$ Hst
  iintro Hst
  iapply wpc_dev
  iapply wpc_ret
  iapply Hk $$ %_
  iexact Hst

set_option maxHeartbeats 400000 in
/-- The second piece at group 0's exchange. -/
theorem part30_run' (hc : k0_cond2 i = 1#1) (s : Stt F) (arg0 arg1 v0 : BitVec 32) (v17 : FVec F S16x512x128 .bf16) (v25 v27 : FVec F S16x32x1 .f32)
    (v30 : FVec F S16x32x512 .f32) (v33 : FVec F S16x32x1 .f32) (s' : Stt F) (hs' : upd30 i s v17 v25 v27 v30 v33 = s') (hs : St m c 8 = s') {Q : _ → sProp 𝕄} :
    iprop(records m K ∗ levAts L lv ∗ ow c (O₀ c) ∗ stt c s ∗ (eight fun g d => oAny (F := F) c g d fullShare)
        ∗ (eight fun g d => sAny (F := F) c g d fullShare) ∗ bars (F := F) c ∗ wtB (F := F) c ∗ kit (F := F) c 0)
      ⊢ iprop((∀ w, (ow c (OB c) ∗ stt c (St m c 8) ∗ semVal (cell c none) 0 ∗ fly (F := F) c 0 ∗ lands (F := F) c 1
            ∗ oAny (F := F) c 1 0 fullShare ∗ sAny (F := F) c 1 0 fullShare) -∗ Q ⟨c, w⟩)
        -∗ wpc c (k0_part30 (F := F) i a2 h2 a3 h3 a4 h4 a5 h5 oM (Memref.isWhole_whole _) mM (Memref.isWhole_whole _) lM (Memref.isWhole_whole _) coM (Memref.isWhole_whole _) csM (Memref.isWhole_whole _) cc0_scratch5 cc0_scratch6 cc0_scratch7 cc0_scratch8 arg0 arg1 v0 v17 v25 v27 v30 v33) Q) := by
  rw [hs, k0_part30_eq_skeleton]
  unfold k0_part30_skel
  simp only [Prog.lift, Prog.bind_op, Prog.bind_ret, Prog.pure_eq_ret, dif_pos hc]
  iintro ⟨#HR, Hl, HO, Hst, E1, E2, Hbars, Hb, Hkit⟩ Hk
  iapply (wp_ldo c _) $$ Hst
  iintro Hst
  iapply (wp_ldm c _) $$ Hst
  iintro Hst
  iapply (wp_stm c _) $$ Hst
  iintro Hst
  iapply (wp_ldl c _) $$ Hst
  iintro Hst
  iapply (wp_stl c _) $$ Hst
  iintro Hst
  iapply (wp_ldo c _) $$ Hst
  iintro Hst
  iapply (wp_sto c _) $$ Hst
  iintro Hst
  iapply wpc_dev
  ihave Hst := (stt_of_eq c hs') $$ Hst
  ihave H := (dispense c) $$ [Hbars E1 E2]
  · isplitl [Hbars]; · iexact Hbars
    isplitl [E1]; · iexact E1
    iexact E2
  icases H with ⟨⟨SG0, SG1, SG2⟩, ⟨O00, S00⟩, O10, S10⟩
  iapply wpc_bind
  iapply (part1_run i c a2 h2 a3 h3 a4 h4 a5 h5 s' _) $$ [Hst O00 S00]
  · isplitl [Hst]; · iexact Hst
    isplitl [O00]; · iexact O00
    iexact S00
  iintro %r ⟨Hst, O00, S00⟩
  obtain ⟨r1, r2, r3⟩ := r
  dsimp only
  iapply wpc_bind
  iapply (part2_run m K i c a2 h2 a3 h3 a4 h4 a5 h5 c rfl _ _ _ hc _ _ _) $$ [HO SG0 SG1]
  · isplitr; · iexact HR
    isplitl [HO]; · iexact HO
    isplitl [SG0]; · iexact SG0
    iexact SG1
  iintro %r HO
  obtain ⟨r1, r2, r3⟩ := r
  dsimp only
  iapply wpc_bind
  iapply (part3_run m K i c a2 h2 a3 h3 a4 h4 a5 h5 c rfl _ _ _ hc _ _ _) $$ [HO SG2 Hl Hb]
  · isplitr; · iexact HR
    isplitl [HO]; · iexact HO
    isplitl [SG2]; · iexact SG2
    isplitl [Hl]; · iexact Hl
    iexact Hb
  iintro %r ⟨HO, Hz, Hp⟩
  obtain ⟨r1, r2, r3, r4⟩ := r
  dsimp only
  ihave Hp := (barPays c) $$ Hp
  icases Hp with ⟨L0, L1⟩
  ihave Hsnd := (arm m c 0) $$ [O00 S00 L0 Hkit]
  · unfold sO sM sL
    isplitl [O00]; · rw [show 8 * ((0 : Fin 2).val + 1) = 8 from rfl, hs]; iexact O00
    isplitl [S00]; · rw [show 8 * ((0 : Fin 2).val + 1) = 8 from rfl, hs]; iexact S00
    isplitl [L0]; · iexact L0
    iexact Hkit
  unfold snds
  icases Hsnd with ⟨SO0, SS0, SO1, SS1, SO2, SS2⟩
  iapply wpc_bind
  iapply (part4_run m K i c a2 h2 a3 h3 a4 h4 a5 h5 (OB c + tS c 0 2 + tO c 0 2 + tS c 0 1 + tO c 0 1 + tS c 0 0) c rfl _ _ hc _ _ _) $$ [HO SO0]
  · isplitr; · iexact HR
    isplitl [HO]; · unfold OA owesG; iexact HO
    iexact SO0
  iintro %r ⟨HO, F0⟩
  obtain ⟨r1, r2, r3⟩ := r
  dsimp only
  iapply wpc_bind
  iapply (part5_run m K i c a2 h2 a3 h3 a4 h4 a5 h5 (OB c + tS c 0 2 + tO c 0 2 + tS c 0 1) c rfl _ _ hc _ _ _) $$ [HO SS0 SO1]
  · isplitr; · iexact HR
    isplitl [HO]; · iexact HO
    isplitl [SS0]; · iexact SS0
    iexact SO1
  iintro %r ⟨HO, F1, F2⟩
  obtain ⟨r1, r2⟩ := r
  dsimp only
  iapply wpc_bind
  iapply (part6_run m K i c a2 h2 a3 h3 a4 h4 a5 h5 (OB c + tS c 0 2) c rfl _ _ hc _ _ _ _) $$ [HO SS1 SO2]
  · isplitr; · iexact HR
    isplitl [HO]; · iexact HO
    isplitl [SS1]; · iexact SS1
    iexact SO2
  iintro %r ⟨HO, F3, F4⟩
  iapply (wp_putS m K c _ 0 2 (Fin.ext (dev9_eq c)) (OB c)) $$ [HO SS2]
  · isplitr; · iexact HR
    isplitl [HO]; · iexact HO
    iexact SS2
  iintro ⟨HO, F5⟩
  iapply wpc_ret
  iapply Hk $$ %_
  unfold fly
  isplitl [HO]; · iexact HO
  isplitl [Hst]; · iexact Hst
  isplitl [Hz]; · iexact Hz
  isplitl [F0 F1 F2 F3 F4 F5]
  · isplitl [F0]; · iexact F0
    isplitl [F1]; · iexact F1
    isplitl [F2]; · iexact F2
    isplitl [F3]; · iexact F3
    isplitl [F4]; · iexact F4
    iexact F5
  isplitl [L1]; · iexact L1
  isplitl [O10]; · iexact O10
  iexact S10

end Cert.KernelIdeal.Merge
-- ==== Proof.PartsB.lean ====
/-
The pieces of the exchange's second half: group 1's copies, the waits and the merges.
-/
module

public import proofs.«01_k».proof.Proof.Kit

@[expose] public section

set_option maxRecDepth 16384

noncomputable section

namespace Cert.KernelIdeal.Merge

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (K : Dev nD × CK → ℕ) (i : grid0.Coords) (c : Dev nD)
variable (a2 : Memref sig .tc .vmem S2x32x8x128 .bf16) (h2 : a2.IsWhole) (a3 : Memref sig .tc .vmem S2x512x8x128 .bf16) (h3 : a3.IsWhole)
  (a4 : Memref sig .tc .vmem S2x512x8x128 .bf16) (h4 : a4.IsWhole) (a5 : Memref sig .tc .vmem S4x32x8x128 .f32) (h5 : a5.IsWhole)

/-- Group 1's accumulators, maxima and sums into its own slots. -/
theorem part7_run (s : Stt F) (v64 : BitVec 32) {Q : _ → sProp 𝕄} :
    iprop(stt c s ∗ oAny (F := F) c 1 0 fullShare ∗ sAny (F := F) c 1 0 fullShare)
      ⊢ iprop((∀ r, (stt c s ∗ oHas c 1 0 fullShare (k0_pay6 (gO 1 s)) ∗ sHas c 1 0 fullShare (k0_pay7 (gM 1 s)) (k0_pay8 (gL 1 s))) -∗ Q r)
        -∗ wpc c (k0_part7 (F := F) i a2 h2 a3 h3 a4 h4 a5 h5 oM (Memref.isWhole_whole _) mM (Memref.isWhole_whole _) lM (Memref.isWhole_whole _) coM (Memref.isWhole_whole _) csM (Memref.isWhole_whole _) cc0_scratch5 cc0_scratch6 cc0_scratch7 cc0_scratch8 v64) Q) := by
  rw [k0_part7_eq_skeleton]
  unfold k0_part7_skel
  simp only [semSignalWord, semWaitWord, Prog.lift, Prog.bind_op, Prog.bind_ret, Prog.pure_eq_ret]
  unfold oAny sAny
  iintro ⟨Hst, Ho, Hs⟩ Hk
  iapply (wp_ldo c _) $$ Hst
  iintro Hst
  icases Ho with ⟨%fo, Ho⟩
  icases Hs with ⟨%fs, Hs⟩
  iapply (wp_ptsO c 1 0) $$ Ho
  iintro Ho
  iapply (wp_stO c 1 0) $$ Ho
  iintro Ho
  iapply (wp_ldm c _) $$ Hst
  iintro Hst
  iapply (wp_ptsS c 1 0 0) $$ Hs
  iintro Hs
  iapply (wp_stM c 1 0) $$ Hs
  iintro %f Hs
  iapply (wp_ldl c _) $$ Hst
  iintro Hst
  unfold sHalf
  icases Hs with ⟨%hf, Hs⟩
  iapply (wp_ptsS c 1 0 1) $$ Hs
  iintro Hs
  iapply (wp_stL c 1 0 hf) $$ Hs
  iintro Hs
  iapply wpc_ret
  iapply Hk $$ %_
  isplitl [Hst]; · iexact Hst
  isplitl [Ho]; · iexact Ho
  iexact Hs

/-- Words only. -/
theorem part8_run (v58 : BitVec 32) (v61 : BitVec 32) (v64 : BitVec 32) (v100 : BitVec 32) {Q : _ → sProp 𝕄} :
    iprop(∀ r, Q r) ⊢ wpc c (k0_part8 (F := F) i a2 h2 a3 h3 a4 h4 a5 h5 oM (Memref.isWhole_whole _) mM (Memref.isWhole_whole _) lM (Memref.isWhole_whole _) coM (Memref.isWhole_whole _) csM (Memref.isWhole_whole _) cc0_scratch5 cc0_scratch6 cc0_scratch7 cc0_scratch8 v58 v61 v64 v100) Q := by
  rw [k0_part8_eq_skeleton]
  unfold k0_part8_skel
  simp only [Prog.lift, Prog.bind_op, Prog.bind_ret, Prog.pure_eq_ret]
  iintro Hk
  iapply wpc_ret
  iapply Hk $$ %_

/-- Copies started. -/
theorem part9_run (O : CellTallies nD τ sig Unit) (d : Dev nD) (hd : d = c) (v58 : BitVec 32) (v61 : BitVec 32) (k0_h3 : k0_cond3 i = 1#1) (v100 : BitVec 32) (v111 : BitVec 32) {Q : _ → sProp 𝕄} :
    iprop(records m K ∗ ow c (O + tS c 1 0 + tO c 1 0) ∗ sndO m c 1 0 ∗ sndS m c 1 0)
      ⊢ iprop((∀ r, (ow c O ∗ wt (F := F) c 0 1 0 ∗ wt (F := F) c 2 1 0) -∗ Q r)
        -∗ wpc c (k0_part9 (F := F) i a2 h2 a3 h3 a4 h4 a5 h5 oM (Memref.isWhole_whole _) mM (Memref.isWhole_whole _) lM (Memref.isWhole_whole _) coM (Memref.isWhole_whole _) csM (Memref.isWhole_whole _) cc0_scratch5 cc0_scratch6 cc0_scratch7 cc0_scratch8 d v58 v61 k0_h3 v100 v111) Q) := by
  subst hd
  rw [k0_part9_eq_skeleton]
  unfold k0_part9_skel
  simp only [semSignalWord, semWaitWord, Prog.lift, Prog.bind_op, Prog.bind_ret, Prog.pure_eq_ret]
  iintro ⟨#HR, HO, SO10, SS10⟩ Hk
  iapply (wp_putO m K d _ 1 0 (Fin.ext (dev10_eq d)) (O + tS d 1 0)) $$ [HO SO10]
  · isplitr; · iexact HR
    isplitl [HO]; · iexact HO
    iexact SO10
  iintro ⟨HO, G010⟩
  iapply (wp_putS m K d _ 1 0 (Fin.ext (dev11_eq d)) (O)) $$ [HO SS10]
  · isplitr; · iexact HR
    isplitl [HO]; · iexact HO
    iexact SS10
  iintro ⟨HO, G210⟩
  iapply wpc_ret
  iapply Hk $$ %_
  isplitl [HO]; · iexact HO
  isplitl [G010]; · iexact G010
  iexact G210

/-- Copies started. -/
theorem part10_run (O : CellTallies nD τ sig Unit) (d : Dev nD) (hd : d = c) (v58 : BitVec 32) (v61 : BitVec 32) (k0_h3 : k0_cond3 i = 1#1) (v111 : BitVec 32) {Q : _ → sProp 𝕄} :
    iprop(records m K ∗ ow c (O + tS c 1 1 + tO c 1 1) ∗ sndO m c 1 1 ∗ sndS m c 1 1)
      ⊢ iprop((∀ r, (ow c O ∗ wt (F := F) c 0 1 1 ∗ wt (F := F) c 2 1 1) -∗ Q r)
        -∗ wpc c (k0_part10 (F := F) i a2 h2 a3 h3 a4 h4 a5 h5 oM (Memref.isWhole_whole _) mM (Memref.isWhole_whole _) lM (Memref.isWhole_whole _) coM (Memref.isWhole_whole _) csM (Memref.isWhole_whole _) cc0_scratch5 cc0_scratch6 cc0_scratch7 cc0_scratch8 d v58 v61 k0_h3 v111) Q) := by
  subst hd
  rw [k0_part10_eq_skeleton]
  unfold k0_part10_skel
  simp only [semSignalWord, semWaitWord, Prog.lift, Prog.bind_op, Prog.bind_ret, Prog.pure_eq_ret]
  iintro ⟨#HR, HO, SO11, SS11⟩ Hk
  iapply (wp_putO m K d _ 1 1 (Fin.ext (dev12_eq d)) (O + tS d 1 1)) $$ [HO SO11]
  · isplitr; · iexact HR
    isplitl [HO]; · iexact HO
    iexact SO11
  iintro ⟨HO, G011⟩
  iapply (wp_putS m K d _ 1 1 (Fin.ext (dev13_eq d)) (O)) $$ [HO SS11]
  · isplitr; · iexact HR
    isplitl [HO]; · iexact HO
    iexact SS11
  iintro ⟨HO, G211⟩
  iapply wpc_ret
  iapply Hk $$ %_
  isplitl [HO]; · iexact HO
  isplitl [G011]; · iexact G011
  iexact G211

/-- Copies started. -/
theorem part11_run (O : CellTallies nD τ sig Unit) (d : Dev nD) (hd : d = c) (v58 : BitVec 32) (v61 : BitVec 32) (v64 : BitVec 32) (k0_h3 : k0_cond3 i = 1#1) (v122 : BitVec 32) (v180 : BitVec 32) {Q : _ → sProp 𝕄} :
    iprop(records m K ∗ ow c (O + tS c 1 2 + tO c 1 2) ∗ sndO m c 1 2 ∗ sndS m c 1 2)
      ⊢ iprop((∀ r, (ow c O ∗ wt (F := F) c 0 1 2 ∗ wt (F := F) c 2 1 2) -∗ Q r)
        -∗ wpc c (k0_part11 (F := F) i a2 h2 a3 h3 a4 h4 a5 h5 oM (Memref.isWhole_whole _) mM (Memref.isWhole_whole _) lM (Memref.isWhole_whole _) coM (Memref.isWhole_whole _) csM (Memref.isWhole_whole _) cc0_scratch5 cc0_scratch6 cc0_scratch7 cc0_scratch8 d v58 v61 v64 k0_h3 v122 v180) Q) := by
  subst hd
  rw [k0_part11_eq_skeleton]
  unfold k0_part11_skel
  simp only [semSignalWord, semWaitWord, Prog.lift, Prog.bind_op, Prog.bind_ret, Prog.pure_eq_ret]
  iintro ⟨#HR, HO, SO12, SS12⟩ Hk
  iapply (wp_putO m K d _ 1 2 (Fin.ext (dev14_eq d)) (O + tS d 1 2)) $$ [HO SO12]
  · isplitr; · iexact HR
    isplitl [HO]; · iexact HO
    iexact SO12
  iintro ⟨HO, G012⟩
  iapply (wp_putS m K d _ 1 2 (Fin.ext (dev15_eq d)) (O)) $$ [HO SS12]
  · isplitr; · iexact HR
    isplitl [HO]; · iexact HO
    iexact SS12
  iintro ⟨HO, G212⟩
  iapply wpc_ret
  iapply Hk $$ %_
  isplitl [HO]; · iexact HO
  isplitl [G012]; · iexact G012
  iexact G212

/-- Words only. -/
theorem part12_run (v64 : BitVec 32) (v207 : BitVec 32) (c4_i32_188 : BitVec 32) (v208 : BitVec 1) (c1_i32_190 : BitVec 32) {Q : _ → sProp 𝕄} :
    iprop(∀ r, Q r) ⊢ wpc c (k0_part12 (F := F) i a2 h2 a3 h3 a4 h4 a5 h5 oM (Memref.isWhole_whole _) mM (Memref.isWhole_whole _) lM (Memref.isWhole_whole _) coM (Memref.isWhole_whole _) csM (Memref.isWhole_whole _) cc0_scratch5 cc0_scratch6 cc0_scratch7 cc0_scratch8 v64 v207 c4_i32_188 v208 c1_i32_190) Q := by
  rw [k0_part12_eq_skeleton]
  unfold k0_part12_skel
  simp only [Prog.lift, Prog.bind_op, Prog.bind_ret, Prog.pure_eq_ret]
  iintro Hk
  iapply wpc_ret
  iapply Hk $$ %_

/-- Waits on copies. -/
theorem part13_run (v58 : BitVec 32) (v61 : BitVec 32) (v217 : BitVec 32) {Q : _ → sProp 𝕄} :
    iprop(records m K ∗ ow c 0 ∗ wt (F := F) c 0 0 0 ∗ wt (F := F) c 1 0 0)
      ⊢ iprop((∀ r, (ow c 0 ∗ got m c 0 0 0 ∗ got m c 1 0 0) -∗ Q r)
        -∗ wpc c (k0_part13 (F := F) i a2 h2 a3 h3 a4 h4 a5 h5 oM (Memref.isWhole_whole _) mM (Memref.isWhole_whole _) lM (Memref.isWhole_whole _) coM (Memref.isWhole_whole _) csM (Memref.isWhole_whole _) cc0_scratch5 cc0_scratch6 cc0_scratch7 cc0_scratch8 v58 v61 v217) Q) := by
  rw [k0_part13_eq_skeleton]
  unfold k0_part13_skel
  simp only [semSignalWord, semWaitWord, Prog.lift, Prog.bind_op, Prog.bind_ret, Prog.pure_eq_ret]
  iintro ⟨#HR, HO, G000, G100⟩ Hk
  iapply (wp_wtO m K c 0 0 0 (by decide)) $$ [HO G000]
  · isplitr; · iexact HR
    isplitl [HO]; · iexact HO
    iexact G000
  iintro ⟨HO, G000⟩
  iapply (wp_wtO m K c 1 0 0 (by decide)) $$ [HO G100]
  · isplitr; · iexact HR
    isplitl [HO]; · iexact HO
    iexact G100
  iintro ⟨HO, G100⟩
  iapply wpc_ret
  iapply Hk $$ %_
  isplitl [HO]; · iexact HO
  isplitl [G000]; · iexact G000
  iexact G100

/-- Waits on copies. -/
theorem part14_run (v58 : BitVec 32) (v61 : BitVec 32) (v217 : BitVec 32) {Q : _ → sProp 𝕄} :
    iprop(records m K ∗ ow c 0 ∗ wt (F := F) c 2 0 0 ∗ wt (F := F) c 3 0 0 ∗ wt (F := F) c 0 0 1)
      ⊢ iprop((∀ r, (ow c 0 ∗ got m c 2 0 0 ∗ got m c 3 0 0 ∗ got m c 0 0 1) -∗ Q r)
        -∗ wpc c (k0_part14 (F := F) i a2 h2 a3 h3 a4 h4 a5 h5 oM (Memref.isWhole_whole _) mM (Memref.isWhole_whole _) lM (Memref.isWhole_whole _) coM (Memref.isWhole_whole _) csM (Memref.isWhole_whole _) cc0_scratch5 cc0_scratch6 cc0_scratch7 cc0_scratch8 v58 v61 v217) Q) := by
  rw [k0_part14_eq_skeleton]
  unfold k0_part14_skel
  simp only [semSignalWord, semWaitWord, Prog.lift, Prog.bind_op, Prog.bind_ret, Prog.pure_eq_ret]
  iintro ⟨#HR, HO, G200, G300, G001⟩ Hk
  iapply (wp_wtS m K c 2 0 0 (by decide)) $$ [HO G200]
  · isplitr; · iexact HR
    isplitl [HO]; · iexact HO
    iexact G200
  iintro ⟨HO, G200⟩
  iapply (wp_wtS m K c 3 0 0 (by decide)) $$ [HO G300]
  · isplitr; · iexact HR
    isplitl [HO]; · iexact HO
    iexact G300
  iintro ⟨HO, G300⟩
  iapply (wp_wtO m K c 0 0 1 (by decide)) $$ [HO G001]
  · isplitr; · iexact HR
    isplitl [HO]; · iexact HO
    iexact G001
  iintro ⟨HO, G001⟩
  iapply wpc_ret
  iapply Hk $$ %_
  isplitl [HO]; · iexact HO
  isplitl [G200]; · iexact G200
  isplitl [G300]; · iexact G300
  iexact G001

/-- Waits on copies. -/
theorem part15_run (v58 : BitVec 32) (v61 : BitVec 32) (v228 : BitVec 32) {Q : _ → sProp 𝕄} :
    iprop(records m K ∗ ow c 0 ∗ wt (F := F) c 1 0 1 ∗ wt (F := F) c 2 0 1)
      ⊢ iprop((∀ r, (ow c 0 ∗ got m c 1 0 1 ∗ got m c 2 0 1) -∗ Q r)
        -∗ wpc c (k0_part15 (F := F) i a2 h2 a3 h3 a4 h4 a5 h5 oM (Memref.isWhole_whole _) mM (Memref.isWhole_whole _) lM (Memref.isWhole_whole _) coM (Memref.isWhole_whole _) csM (Memref.isWhole_whole _) cc0_scratch5 cc0_scratch6 cc0_scratch7 cc0_scratch8 v58 v61 v228) Q) := by
  rw [k0_part15_eq_skeleton]
  unfold k0_part15_skel
  simp only [semSignalWord, semWaitWord, Prog.lift, Prog.bind_op, Prog.bind_ret, Prog.pure_eq_ret]
  iintro ⟨#HR, HO, G101, G201⟩ Hk
  iapply (wp_wtO m K c 1 0 1 (by decide)) $$ [HO G101]
  · isplitr; · iexact HR
    isplitl [HO]; · iexact HO
    iexact G101
  iintro ⟨HO, G101⟩
  iapply (wp_wtS m K c 2 0 1 (by decide)) $$ [HO G201]
  · isplitr; · iexact HR
    isplitl [HO]; · iexact HO
    iexact G201
  iintro ⟨HO, G201⟩
  iapply wpc_ret
  iapply Hk $$ %_
  isplitl [HO]; · iexact HO
  isplitl [G101]; · iexact G101
  iexact G201

/-- Waits on copies. -/
theorem part16_run (v58 : BitVec 32) (v61 : BitVec 32) (v228 : BitVec 32) (v239 : BitVec 32) (v300 : BitVec 32) (c0_i32_331 : BitVec 32) {Q : _ → sProp 𝕄} :
    iprop(records m K ∗ ow c 0 ∗ wt (F := F) c 3 0 1 ∗ wt (F := F) c 0 0 2)
      ⊢ iprop((∀ r, (ow c 0 ∗ got m c 3 0 1 ∗ got m c 0 0 2) -∗ Q r)
        -∗ wpc c (k0_part16 (F := F) i a2 h2 a3 h3 a4 h4 a5 h5 oM (Memref.isWhole_whole _) mM (Memref.isWhole_whole _) lM (Memref.isWhole_whole _) coM (Memref.isWhole_whole _) csM (Memref.isWhole_whole _) cc0_scratch5 cc0_scratch6 cc0_scratch7 cc0_scratch8 v58 v61 v228 v239 v300 c0_i32_331) Q) := by
  rw [k0_part16_eq_skeleton]
  unfold k0_part16_skel
  simp only [semSignalWord, semWaitWord, Prog.lift, Prog.bind_op, Prog.bind_ret, Prog.pure_eq_ret]
  iintro ⟨#HR, HO, G301, G002⟩ Hk
  iapply (wp_wtS m K c 3 0 1 (by decide)) $$ [HO G301]
  · isplitr; · iexact HR
    isplitl [HO]; · iexact HO
    iexact G301
  iintro ⟨HO, G301⟩
  iapply (wp_wtO m K c 0 0 2 (by decide)) $$ [HO G002]
  · isplitr; · iexact HR
    isplitl [HO]; · iexact HO
    iexact G002
  iintro ⟨HO, G002⟩
  iapply wpc_ret
  iapply Hk $$ %_
  isplitl [HO]; · iexact HO
  isplitl [G301]; · iexact G301
  iexact G002

/-- Waits on copies. -/
theorem part17_run (v58 : BitVec 32) (v61 : BitVec 32) (v239 : BitVec 32) {Q : _ → sProp 𝕄} :
    iprop(records m K ∗ ow c 0 ∗ wt (F := F) c 1 0 2 ∗ wt (F := F) c 2 0 2)
      ⊢ iprop((∀ r, (ow c 0 ∗ got m c 1 0 2 ∗ got m c 2 0 2) -∗ Q r)
        -∗ wpc c (k0_part17 (F := F) i a2 h2 a3 h3 a4 h4 a5 h5 oM (Memref.isWhole_whole _) mM (Memref.isWhole_whole _) lM (Memref.isWhole_whole _) coM (Memref.isWhole_whole _) csM (Memref.isWhole_whole _) cc0_scratch5 cc0_scratch6 cc0_scratch7 cc0_scratch8 v58 v61 v239) Q) := by
  rw [k0_part17_eq_skeleton]
  unfold k0_part17_skel
  simp only [semSignalWord, semWaitWord, Prog.lift, Prog.bind_op, Prog.bind_ret, Prog.pure_eq_ret]
  iintro ⟨#HR, HO, G102, G202⟩ Hk
  iapply (wp_wtO m K c 1 0 2 (by decide)) $$ [HO G102]
  · isplitr; · iexact HR
    isplitl [HO]; · iexact HO
    iexact G102
  iintro ⟨HO, G102⟩
  iapply (wp_wtS m K c 2 0 2 (by decide)) $$ [HO G202]
  · isplitr; · iexact HR
    isplitl [HO]; · iexact HO
    iexact G202
  iintro ⟨HO, G202⟩
  iapply wpc_ret
  iapply Hk $$ %_
  isplitl [HO]; · iexact HO
  isplitl [G102]; · iexact G102
  iexact G202

/-- The last wait of group 0 and the loads of the first merge. -/
theorem part18_run (s : Stt F)  {Q : _ → sProp 𝕄} :
    iprop(records m K ∗ ow c 0 ∗ stt c s ∗ got m c 3 0 0 ∗ got m c 1 0 0 ∗ wt (F := F) c 3 0 2)
      ⊢ iprop(((ow c 0 ∗ stt c s ∗ got m c 3 0 0 ∗ got m c 1 0 0 ∗ got m c 3 0 2) -∗ Q ⟨k0_pay10 (gM 0 s) (rM m c 0 0), k0_pay13 (gM 0 s) (gO 0 s) (rM m c 0 0) (rO m c 0 0), k0_pay14 (gM 0 s) (gL 0 s) (rM m c 0 0) (rL m c 0 0)⟩)
        -∗ wpc c (k0_part18 (F := F) i a2 h2 a3 h3 a4 h4 a5 h5 oM (Memref.isWhole_whole _) mM (Memref.isWhole_whole _) lM (Memref.isWhole_whole _) coM (Memref.isWhole_whole _) csM (Memref.isWhole_whole _) cc0_scratch5 cc0_scratch6 cc0_scratch7 cc0_scratch8 ) Q) := by
  rw [k0_part18_eq_skeleton]
  unfold k0_part18_skel
  simp only [semSignalWord, semWaitWord, Prog.lift, Prog.bind_op, Prog.bind_ret, Prog.pure_eq_ret]
  iintro ⟨#HR, HO, Hst, G300, G100, G302⟩ Hk
  iapply (wp_wtS m K c 3 0 2 (by decide)) $$ [HO G302]
  · isplitr; · iexact HR
    isplitl [HO]; · iexact HO
    iexact G302
  iintro ⟨HO, G302⟩
  iapply (wp_ldm c _) $$ Hst
  iintro Hst
  iapply (wp_ldl c _) $$ Hst
  iintro Hst
  iapply (wp_ldo c _) $$ Hst
  iintro Hst
  iapply (wp_gotM m c 0 0) $$ G300
  iintro G300
  iapply (wp_gotL m c 0 0) $$ G300
  iintro G300
  iapply (wp_gotO m c 0 0) $$ G100
  iintro G100
  iapply wpc_ret
  iapply Hk
  isplitl [HO]; · iexact HO
  isplitl [Hst]; · iexact Hst
  isplitl [G300]; · iexact G300
  isplitl [G100]; · iexact G100
  iexact G302

/-- The loads of group 0's second and third merges. -/
theorem part19_run (v360 : FVec F S16x32x1 .f32) (v369 : FVec F S16x32x128 .f32) (v372 : FVec F S16x32x1 .f32) {Q : _ → sProp 𝕄} :
    iprop(got m c 3 0 1 ∗ got m c 1 0 1 ∗ got m c 3 0 2 ∗ got m c 1 0 2)
      ⊢ iprop(((got m c 3 0 1 ∗ got m c 1 0 1 ∗ got m c 3 0 2 ∗ got m c 1 0 2) -∗ Q ⟨k0_pay19 v360 v369 (rM m c 0 1) (rO m c 0 1), k0_pay20 v360 v372 (rM m c 0 1) (rL m c 0 1), k0_pay22 (rL m c 0 2), k0_pay23 (rO m c 0 2), k0_pay25 v360 (rM m c 0 1) (rM m c 0 2), k0_pay26 v360 (rM m c 0 1) (rM m c 0 2)⟩)
        -∗ wpc c (k0_part19 (F := F) i a2 h2 a3 h3 a4 h4 a5 h5 oM (Memref.isWhole_whole _) mM (Memref.isWhole_whole _) lM (Memref.isWhole_whole _) coM (Memref.isWhole_whole _) csM (Memref.isWhole_whole _) cc0_scratch5 cc0_scratch6 cc0_scratch7 cc0_scratch8 v360 v369 v372) Q) := by
  rw [k0_part19_eq_skeleton]
  unfold k0_part19_skel
  simp only [semSignalWord, semWaitWord, Prog.lift, Prog.bind_op, Prog.bind_ret, Prog.pure_eq_ret]
  iintro ⟨G301, G101, G302, G102⟩ Hk
  iapply (wp_gotM m c 0 1) $$ G301
  iintro G301
  iapply (wp_gotL m c 0 1) $$ G301
  iintro G301
  iapply (wp_gotO m c 0 1) $$ G101
  iintro G101
  iapply (wp_gotM m c 0 2) $$ G302
  iintro G302
  iapply (wp_gotL m c 0 2) $$ G302
  iintro G302
  iapply (wp_gotO m c 0 2) $$ G102
  iintro G102
  iapply wpc_ret
  iapply Hk
  isplitl [G301]; · iexact G301
  isplitl [G101]; · iexact G101
  isplitl [G302]; · iexact G302
  iexact G102

/-- Group 0's merged rows stored. -/
theorem part20_run (s : Stt F) (v64 : BitVec 32) (v391 : FVec F S16x32x128 .f32) (v394 : FVec F S16x32x1 .f32) (v400 : FVec F S16x32x1 .f32) (v403 : FVec F S16x32x128 .f32) (v406 : FVec F S16x32x1 .f32) (v407 : FVec F S16x32x1 .f32) {Q : _ → sProp 𝕄} :
    iprop(stt c s)
      ⊢ iprop((∀ r, (stt c ⟨(oM.access (grpO 0)).write (Elt F) s.o (k0_pay27 v391 v394 v400 v403 v406 v407) Finset.univ, s.m, s.l⟩) -∗ Q r)
        -∗ wpc c (k0_part20 (F := F) i a2 h2 a3 h3 a4 h4 a5 h5 oM (Memref.isWhole_whole _) mM (Memref.isWhole_whole _) lM (Memref.isWhole_whole _) coM (Memref.isWhole_whole _) csM (Memref.isWhole_whole _) cc0_scratch5 cc0_scratch6 cc0_scratch7 cc0_scratch8 v64 v391 v394 v400 v403 v406 v407) Q) := by
  rw [k0_part20_eq_skeleton]
  unfold k0_part20_skel
  simp only [semSignalWord, semWaitWord, Prog.lift, Prog.bind_op, Prog.bind_ret, Prog.pure_eq_ret]
  iintro Hst Hk
  iapply (wp_ldo c _) $$ Hst
  iintro Hst
  iapply (wp_sto c _) $$ Hst
  iintro Hst
  iapply wpc_ret
  iapply Hk $$ %_
  iexact Hst

/-- Waits on copies. -/
theorem part21_run (v58 : BitVec 32) (v61 : BitVec 32) (v432 : BitVec 32) (v444 : BitVec 32) (c4_i32_476 : BitVec 32) (v445 : BitVec 1) (c1_i32_478 : BitVec 32) {Q : _ → sProp 𝕄} :
    iprop(records m K ∗ ow c 0 ∗ wt (F := F) c 0 1 0)
      ⊢ iprop((∀ r, (ow c 0 ∗ got m c 0 1 0) -∗ Q r)
        -∗ wpc c (k0_part21 (F := F) i a2 h2 a3 h3 a4 h4 a5 h5 oM (Memref.isWhole_whole _) mM (Memref.isWhole_whole _) lM (Memref.isWhole_whole _) coM (Memref.isWhole_whole _) csM (Memref.isWhole_whole _) cc0_scratch5 cc0_scratch6 cc0_scratch7 cc0_scratch8 v58 v61 v432 v444 c4_i32_476 v445 c1_i32_478) Q) := by
  rw [k0_part21_eq_skeleton]
  unfold k0_part21_skel
  simp only [semSignalWord, semWaitWord, Prog.lift, Prog.bind_op, Prog.bind_ret, Prog.pure_eq_ret]
  iintro ⟨#HR, HO, G010⟩ Hk
  iapply (wp_wtO m K c 0 1 0 (by decide)) $$ [HO G010]
  · isplitr; · iexact HR
    isplitl [HO]; · iexact HO
    iexact G010
  iintro ⟨HO, G010⟩
  iapply wpc_ret
  iapply Hk $$ %_
  isplitl [HO]; · iexact HO
  iexact G010

/-- Waits on copies. -/
theorem part22_run (v58 : BitVec 32) (v61 : BitVec 32) (v432 : BitVec 32) {Q : _ → sProp 𝕄} :
    iprop(records m K ∗ ow c 0 ∗ wt (F := F) c 1 1 0 ∗ wt (F := F) c 2 1 0 ∗ wt (F := F) c 3 1 0)
      ⊢ iprop((∀ r, (ow c 0 ∗ got m c 1 1 0 ∗ got m c 2 1 0 ∗ got m c 3 1 0) -∗ Q r)
        -∗ wpc c (k0_part22 (F := F) i a2 h2 a3 h3 a4 h4 a5 h5 oM (Memref.isWhole_whole _) mM (Memref.isWhole_whole _) lM (Memref.isWhole_whole _) coM (Memref.isWhole_whole _) csM (Memref.isWhole_whole _) cc0_scratch5 cc0_scratch6 cc0_scratch7 cc0_scratch8 v58 v61 v432) Q) := by
  rw [k0_part22_eq_skeleton]
  unfold k0_part22_skel
  simp only [semSignalWord, semWaitWord, Prog.lift, Prog.bind_op, Prog.bind_ret, Prog.pure_eq_ret]
  iintro ⟨#HR, HO, G110, G210, G310⟩ Hk
  iapply (wp_wtO m K c 1 1 0 (by decide)) $$ [HO G110]
  · isplitr; · iexact HR
    isplitl [HO]; · iexact HO
    iexact G110
  iintro ⟨HO, G110⟩
  iapply (wp_wtS m K c 2 1 0 (by decide)) $$ [HO G210]
  · isplitr; · iexact HR
    isplitl [HO]; · iexact HO
    iexact G210
  iintro ⟨HO, G210⟩
  iapply (wp_wtS m K c 3 1 0 (by decide)) $$ [HO G310]
  · isplitr; · iexact HR
    isplitl [HO]; · iexact HO
    iexact G310
  iintro ⟨HO, G310⟩
  iapply wpc_ret
  iapply Hk $$ %_
  isplitl [HO]; · iexact HO
  isplitl [G110]; · iexact G110
  isplitl [G210]; · iexact G210
  iexact G310

/-- Waits on copies. -/
theorem part23_run (v58 : BitVec 32) (v61 : BitVec 32) (v443 : BitVec 32) {Q : _ → sProp 𝕄} :
    iprop(records m K ∗ ow c 0 ∗ wt (F := F) c 0 1 1 ∗ wt (F := F) c 1 1 1)
      ⊢ iprop((∀ r, (ow c 0 ∗ got m c 0 1 1 ∗ got m c 1 1 1) -∗ Q r)
        -∗ wpc c (k0_part23 (F := F) i a2 h2 a3 h3 a4 h4 a5 h5 oM (Memref.isWhole_whole _) mM (Memref.isWhole_whole _) lM (Memref.isWhole_whole _) coM (Memref.isWhole_whole _) csM (Memref.isWhole_whole _) cc0_scratch5 cc0_scratch6 cc0_scratch7 cc0_scratch8 v58 v61 v443) Q) := by
  rw [k0_part23_eq_skeleton]
  unfold k0_part23_skel
  simp only [semSignalWord, semWaitWord, Prog.lift, Prog.bind_op, Prog.bind_ret, Prog.pure_eq_ret]
  iintro ⟨#HR, HO, G011, G111⟩ Hk
  iapply (wp_wtO m K c 0 1 1 (by decide)) $$ [HO G011]
  · isplitr; · iexact HR
    isplitl [HO]; · iexact HO
    iexact G011
  iintro ⟨HO, G011⟩
  iapply (wp_wtO m K c 1 1 1 (by decide)) $$ [HO G111]
  · isplitr; · iexact HR
    isplitl [HO]; · iexact HO
    iexact G111
  iintro ⟨HO, G111⟩
  iapply wpc_ret
  iapply Hk $$ %_
  isplitl [HO]; · iexact HO
  isplitl [G011]; · iexact G011
  iexact G111

/-- Waits on copies. -/
theorem part24_run (v58 : BitVec 32) (v61 : BitVec 32) (v443 : BitVec 32) {Q : _ → sProp 𝕄} :
    iprop(records m K ∗ ow c 0 ∗ wt (F := F) c 2 1 1 ∗ wt (F := F) c 3 1 1)
      ⊢ iprop((∀ r, (ow c 0 ∗ got m c 2 1 1 ∗ got m c 3 1 1) -∗ Q r)
        -∗ wpc c (k0_part24 (F := F) i a2 h2 a3 h3 a4 h4 a5 h5 oM (Memref.isWhole_whole _) mM (Memref.isWhole_whole _) lM (Memref.isWhole_whole _) coM (Memref.isWhole_whole _) csM (Memref.isWhole_whole _) cc0_scratch5 cc0_scratch6 cc0_scratch7 cc0_scratch8 v58 v61 v443) Q) := by
  rw [k0_part24_eq_skeleton]
  unfold k0_part24_skel
  simp only [semSignalWord, semWaitWord, Prog.lift, Prog.bind_op, Prog.bind_ret, Prog.pure_eq_ret]
  iintro ⟨#HR, HO, G211, G311⟩ Hk
  iapply (wp_wtS m K c 2 1 1 (by decide)) $$ [HO G211]
  · isplitr; · iexact HR
    isplitl [HO]; · iexact HO
    iexact G211
  iintro ⟨HO, G211⟩
  iapply (wp_wtS m K c 3 1 1 (by decide)) $$ [HO G311]
  · isplitr; · iexact HR
    isplitl [HO]; · iexact HO
    iexact G311
  iintro ⟨HO, G311⟩
  iapply wpc_ret
  iapply Hk $$ %_
  isplitl [HO]; · iexact HO
  isplitl [G211]; · iexact G211
  iexact G311

/-- Waits on copies. -/
theorem part25_run (v58 : BitVec 32) (v61 : BitVec 32) (v454 : BitVec 32) {Q : _ → sProp 𝕄} :
    iprop(records m K ∗ ow c 0 ∗ wt (F := F) c 0 1 2 ∗ wt (F := F) c 1 1 2 ∗ wt (F := F) c 2 1 2)
      ⊢ iprop((∀ r, (ow c 0 ∗ got m c 0 1 2 ∗ got m c 1 1 2 ∗ got m c 2 1 2) -∗ Q r)
        -∗ wpc c (k0_part25 (F := F) i a2 h2 a3 h3 a4 h4 a5 h5 oM (Memref.isWhole_whole _) mM (Memref.isWhole_whole _) lM (Memref.isWhole_whole _) coM (Memref.isWhole_whole _) csM (Memref.isWhole_whole _) cc0_scratch5 cc0_scratch6 cc0_scratch7 cc0_scratch8 v58 v61 v454) Q) := by
  rw [k0_part25_eq_skeleton]
  unfold k0_part25_skel
  simp only [semSignalWord, semWaitWord, Prog.lift, Prog.bind_op, Prog.bind_ret, Prog.pure_eq_ret]
  iintro ⟨#HR, HO, G012, G112, G212⟩ Hk
  iapply (wp_wtO m K c 0 1 2 (by decide)) $$ [HO G012]
  · isplitr; · iexact HR
    isplitl [HO]; · iexact HO
    iexact G012
  iintro ⟨HO, G012⟩
  iapply (wp_wtO m K c 1 1 2 (by decide)) $$ [HO G112]
  · isplitr; · iexact HR
    isplitl [HO]; · iexact HO
    iexact G112
  iintro ⟨HO, G112⟩
  iapply (wp_wtS m K c 2 1 2 (by decide)) $$ [HO G212]
  · isplitr; · iexact HR
    isplitl [HO]; · iexact HO
    iexact G212
  iintro ⟨HO, G212⟩
  iapply wpc_ret
  iapply Hk $$ %_
  isplitl [HO]; · iexact HO
  isplitl [G012]; · iexact G012
  isplitl [G112]; · iexact G112
  iexact G212

/-- The last wait of group 1 and the loads of the first merge. -/
theorem part26_run (s : Stt F) (v58 : BitVec 32) (v61 : BitVec 32) (v454 : BitVec 32) {Q : _ → sProp 𝕄} :
    iprop(records m K ∗ ow c 0 ∗ stt c s ∗ got m c 3 1 0 ∗ wt (F := F) c 3 1 2)
      ⊢ iprop(((ow c 0 ∗ stt c s ∗ got m c 3 1 0 ∗ got m c 3 1 2) -∗ Q ⟨gM 1 s, gL 1 s, gO 1 s, k0_pay28 (rM m c 1 0), k0_pay29 (rL m c 1 0)⟩)
        -∗ wpc c (k0_part26 (F := F) i a2 h2 a3 h3 a4 h4 a5 h5 oM (Memref.isWhole_whole _) mM (Memref.isWhole_whole _) lM (Memref.isWhole_whole _) coM (Memref.isWhole_whole _) csM (Memref.isWhole_whole _) cc0_scratch5 cc0_scratch6 cc0_scratch7 cc0_scratch8 v58 v61 v454) Q) := by
  rw [k0_part26_eq_skeleton]
  unfold k0_part26_skel
  simp only [semSignalWord, semWaitWord, Prog.lift, Prog.bind_op, Prog.bind_ret, Prog.pure_eq_ret]
  iintro ⟨#HR, HO, Hst, G310, G312⟩ Hk
  iapply (wp_wtS m K c 3 1 2 (by decide)) $$ [HO G312]
  · isplitr; · iexact HR
    isplitl [HO]; · iexact HO
    iexact G312
  iintro ⟨HO, G312⟩
  iapply (wp_ldm c _) $$ Hst
  iintro Hst
  iapply (wp_ldl c _) $$ Hst
  iintro Hst
  iapply (wp_ldo c _) $$ Hst
  iintro Hst
  iapply (wp_gotM m c 1 0) $$ G310
  iintro G310
  iapply (wp_gotL m c 1 0) $$ G310
  iintro G310
  iapply wpc_ret
  iapply Hk
  isplitl [HO]; · iexact HO
  isplitl [Hst]; · iexact Hst
  isplitl [G310]; · iexact G310
  iexact G312

/-- The loads of group 1's first and second merges. -/
theorem part27_run (v563 : Vec F S16x32x1 .f32) (v564 : Vec F S16x32x1 .f32) (v565 : Vec F S16x32x128 .f32) (v568 : FVec F S16x32x1 .f32) (v571 : FVec F S16x32x1 .f32) {Q : _ → sProp 𝕄} :
    iprop(got m c 1 1 0 ∗ got m c 3 1 1 ∗ got m c 1 1 1)
      ⊢ iprop(((got m c 1 1 0 ∗ got m c 3 1 1 ∗ got m c 1 1 1) -∗ Q ⟨k0_pay34 v563 v568 (rM m c 1 1), k0_pay37 v563 v565 v568 (rO m c 1 0) (rM m c 1 1) (rO m c 1 1), k0_pay38 v563 v564 v568 v571 (rM m c 1 1) (rL m c 1 1)⟩)
        -∗ wpc c (k0_part27 (F := F) i a2 h2 a3 h3 a4 h4 a5 h5 oM (Memref.isWhole_whole _) mM (Memref.isWhole_whole _) lM (Memref.isWhole_whole _) coM (Memref.isWhole_whole _) csM (Memref.isWhole_whole _) cc0_scratch5 cc0_scratch6 cc0_scratch7 cc0_scratch8 v563 v564 v565 v568 v571) Q) := by
  rw [k0_part27_eq_skeleton]
  unfold k0_part27_skel
  simp only [semSignalWord, semWaitWord, Prog.lift, Prog.bind_op, Prog.bind_ret, Prog.pure_eq_ret]
  iintro ⟨G110, G311, G111⟩ Hk
  iapply (wp_gotO m c 1 0) $$ G110
  iintro G110
  iapply (wp_gotM m c 1 1) $$ G311
  iintro G311
  iapply (wp_gotL m c 1 1) $$ G311
  iintro G311
  iapply (wp_gotO m c 1 1) $$ G111
  iintro G111
  iapply wpc_ret
  iapply Hk
  isplitl [G110]; · iexact G110
  isplitl [G311]; · iexact G311
  iexact G111

end Cert.KernelIdeal.Merge
-- ==== Proof.PhaseB.lean ====
/-
The body's second half: group 1's exchange, the waits, the merges and the output.
-/
module

public import proofs.«01_k».proof.Proof.PhaseA
public import proofs.«01_k».proof.Proof.PartsB
public import Idealize.ShloMosaic.Lib.VecWindow

@[expose] public section

set_option maxRecDepth 16384

noncomputable section

namespace Cert.KernelIdeal.Merge

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

section Finals
variable (m : (ℓ : Loc nD τ sig) → Buf (Elt F) ℓ) (c : Dev nD)

/-- Everything that came back and landed of group `g`. -/
def gots (g : Fin 2) : sProp 𝕄 := iprop(got m c 0 g 0 ∗ got m c 1 g 0 ∗ got m c 2 g 0 ∗ got m c 3 g 0 ∗ got m c 0 g 1 ∗ got m c 1 g 1 ∗ got m c 2 g 1 ∗ got m c 3 g 1 ∗ got m c 0 g 2 ∗ got m c 1 g 2 ∗ got m c 2 g 2 ∗ got m c 3 g 2)

/-- Group 0 merged: what the rows 0 to 15 hold at the end, from the final state and what landed. -/
def fin0 (s : Stt F) : Vec F S16x32x128 .f32 :=
  k0_pay27 (k0_pay19 (k0_pay10 (gM 0 s) (rM m c 0 0)) (k0_pay13 (gM 0 s) (gO 0 s) (rM m c 0 0) (rO m c 0 0)) (rM m c 0 1) (rO m c 0 1))
    (k0_pay20 (k0_pay10 (gM 0 s) (rM m c 0 0)) (k0_pay14 (gM 0 s) (gL 0 s) (rM m c 0 0) (rL m c 0 0)) (rM m c 0 1) (rL m c 0 1))
    (k0_pay22 (rL m c 0 2)) (k0_pay23 (rO m c 0 2)) (k0_pay25 (k0_pay10 (gM 0 s) (rM m c 0 0)) (rM m c 0 1) (rM m c 0 2))
    (k0_pay26 (k0_pay10 (gM 0 s) (rM m c 0 0)) (rM m c 0 1) (rM m c 0 2))
/-- The state with group 0 merged. -/
def mg0 (s : Stt F) : Stt F := ⟨(oM.access (grpO 0)).write (Elt F) s.o (fin0 m c s) Finset.univ, s.m, s.l⟩
theorem mg0_eq (s : Stt F) : (⟨(oM.access (grpO 0)).write (Elt F) s.o
  (k0_pay27 (k0_pay19 (k0_pay10 (gM 0 s) (rM m c 0 0)) (k0_pay13 (gM 0 s) (gO 0 s) (rM m c 0 0) (rO m c 0 0)) (rM m c 0 1) (rO m c 0 1))
    (k0_pay20 (k0_pay10 (gM 0 s) (rM m c 0 0)) (k0_pay14 (gM 0 s) (gL 0 s) (rM m c 0 0) (rL m c 0 0)) (rM m c 0 1) (rL m c 0 1))
    (k0_pay22 (rL m c 0 2)) (k0_pay23 (rO m c 0 2)) (k0_pay25 (k0_pay10 (gM 0 s) (rM m c 0 0)) (rM m c 0 1) (rM m c 0 2))
    (k0_pay26 (k0_pay10 (gM 0 s) (rM m c 0 0)) (rM m c 0 1) (rM m c 0 2))) Finset.univ, s.m, s.l⟩ : Stt F) = mg0 m c s := rfl
/-- Group 1 merged. -/
def fin1 (s : Stt F) : Vec F S16x32x128 .f32 :=
  k0_pay39 (k0_pay34 (gM 1 s) (k0_pay28 (rM m c 1 0)) (rM m c 1 1))
    (k0_pay37 (gM 1 s) (gO 1 s) (k0_pay28 (rM m c 1 0)) (rO m c 1 0) (rM m c 1 1) (rO m c 1 1))
    (k0_pay38 (gM 1 s) (gL 1 s) (k0_pay28 (rM m c 1 0)) (k0_pay29 (rL m c 1 0)) (rM m c 1 1) (rL m c 1 1))
    (rM m c 1 2) (rL m c 1 2) (rO m c 1 2)
/-- The state with both groups merged. -/
def mg1 (s : Stt F) : Stt F := ⟨(oM.access (grpO 1)).write (Elt F) s.o (k0_pay1 (fin1 m c s)) Finset.univ, s.m, s.l⟩
theorem mg1_eq (s : Stt F) : (⟨(oM.access (grpO 1)).write (Elt F) s.o (k0_pay1 (fin1 m c s)) Finset.univ, s.m, s.l⟩ : Stt F) = mg1 m c s := rfl
/-- The output block. -/
def outV (s : Stt F) : Vec F S4x32x8x128 .f32 := k0_pay2 (mg1 m c (mg0 m c s)).o
end Finals

variable (m : (ℓ : Loc nD τ sig) → Buf (Elt F) ℓ) (K : Dev nD × CK → ℕ) (i : grid0.Coords) (c : Dev nD)
variable (a2 : Memref sig .tc .vmem S2x32x8x128 .bf16) (h2 : a2.IsWhole) (a3 : Memref sig .tc .vmem S2x512x8x128 .bf16) (h3 : a3.IsWhole)
  (a4 : Memref sig .tc .vmem S2x512x8x128 .bf16) (h4 : a4.IsWhole) (a5 : Memref sig .tc .vmem S4x32x8x128 .f32) (h5 : a5.IsWhole)

set_option maxHeartbeats 800000 in
/-- The last point's exchange of group 1, waits and merges. -/
theorem part28_run (d : Dev nD) (hd : c = d) (v58 v61 v64 : BitVec 32) (hc : k0_cond3 i = 1#1) (s : Stt F) (hs : St m c 16 = s) {Q : _ → sProp 𝕄} :
    iprop(records m K ∗ ow c (OB c) ∗ stt c s ∗ (oAny (F := F) c 1 0 fullShare ∗ sAny (F := F) c 1 0 fullShare) ∗ lands (F := F) c 1 ∗ kit (F := F) c 1 ∗ fly (F := F) c 0 ∗ rcv (F := F) c 0 ∗ rcv (F := F) c 1)
      ⊢ iprop((∀ w, (ow c 0 ∗ stt c (mg0 m c s) ∗ gots m c 0 ∗ gots m c 1) -∗ Q ⟨fin1 m c (mg0 m c s), w⟩)
        -∗ wpc c (k0_part28 (F := F) i a2 h2 a3 h3 a4 h4 a5 h5 oM (Memref.isWhole_whole _) mM (Memref.isWhole_whole _) lM (Memref.isWhole_whole _) coM (Memref.isWhole_whole _) csM (Memref.isWhole_whole _) cc0_scratch5 cc0_scratch6 cc0_scratch7 cc0_scratch8 d v58 v61 v64 hc) Q) := by
  subst hd
  rw [k0_part28_eq_skeleton]
  unfold k0_part28_skel fin1
  simp only [Prog.lift, Prog.bind_op, Prog.bind_ret, Prog.pure_eq_ret]
  iintro ⟨#HR, HO, Hst, ⟨Oo, So⟩, Ld, Kt, Fl, R0, R1⟩ Hk
  unfold fly rcv
  icases Fl with ⟨W000, W200, W001, W201, W002, W202⟩
  icases R0 with ⟨W100, W300, W101, W301, W102, W302⟩
  icases R1 with ⟨W110, W310, W111, W311, W112, W312⟩
  iapply wpc_bind
  iapply (part7_run i c a2 h2 a3 h3 a4 h4 a5 h5 s v64) $$ [Hst Oo So]
  · isplitl [Hst]; · iexact Hst
    isplitl [Oo]; · iexact Oo
    iexact So
  iintro %r ⟨Hst, Oo, So⟩
  iapply wpc_bind
  iapply (part8_run i c a2 h2 a3 h3 a4 h4 a5 h5 v58 v61 v64 _)
  iintro %r
  obtain ⟨x1, x2⟩ := r
  dsimp only
  ihave Hsnd := (arm m c 1) $$ [Oo So Ld Kt]
  · unfold sO sM sL
    isplitl [Oo]; · rw [show 8 * ((1 : Fin 2).val + 1) = 16 from rfl, hs]; iexact Oo
    isplitl [So]; · rw [show 8 * ((1 : Fin 2).val + 1) = 16 from rfl, hs]; iexact So
    isplitl [Ld]; · iexact Ld
    iexact Kt
  unfold snds
  icases Hsnd with ⟨SO0, SS0, SO1, SS1, SO2, SS2⟩
  iapply wpc_bind
  iapply (part9_run m K i c a2 h2 a3 h3 a4 h4 a5 h5 (0 + tS c 1 2 + tO c 1 2 + tS c 1 1 + tO c 1 1) c rfl v58 v61 hc _ _) $$ [HO SO0 SS0]
  · isplitr; · iexact HR
    isplitl [HO]; · unfold OB owesG; iexact HO
    isplitl [SO0]; · iexact SO0
    iexact SS0
  iintro %r ⟨HO, W010, W210⟩
  iapply wpc_bind
  iapply (part10_run m K i c a2 h2 a3 h3 a4 h4 a5 h5 (0 + tS c 1 2 + tO c 1 2) c rfl v58 v61 hc _) $$ [HO SO1 SS1]
  · isplitr; · iexact HR
    isplitl [HO]; · iexact HO
    isplitl [SO1]; · iexact SO1
    iexact SS1
  iintro %r ⟨HO, W011, W211⟩
  iapply wpc_bind
  iapply (part11_run m K i c a2 h2 a3 h3 a4 h4 a5 h5 (0) c rfl v58 v61 v64 hc _ _) $$ [HO SO2 SS2]
  · isplitr; · iexact HR
    isplitl [HO]; · iexact HO
    isplitl [SO2]; · iexact SO2
    iexact SS2
  iintro %r ⟨HO, W012, W212⟩
  obtain ⟨x3, x4, x5, x6⟩ := r
  dsimp only
  iapply wpc_bind
  iapply (part12_run i c a2 h2 a3 h3 a4 h4 a5 h5 v64 _ _ _ _)
  iintro %r
  obtain ⟨x7, x8, x9⟩ := r
  dsimp only
  iapply wpc_bind
  iapply (part13_run m K i c a2 h2 a3 h3 a4 h4 a5 h5 v58 v61 _) $$ [HO W000 W100]
  · isplitr; · iexact HR
    isplitl [HO]; · iexact HO
    isplitl [W000]; · iexact W000
    iexact W100
  iintro %r ⟨HO, G000, G100⟩
  iapply wpc_bind
  iapply (part14_run m K i c a2 h2 a3 h3 a4 h4 a5 h5 v58 v61 _) $$ [HO W200 W300 W001]
  · isplitr; · iexact HR
    isplitl [HO]; · iexact HO
    isplitl [W200]; · iexact W200
    isplitl [W300]; · iexact W300
    iexact W001
  iintro %r ⟨HO, G200, G300, G001⟩
  iapply wpc_bind
  iapply (part15_run m K i c a2 h2 a3 h3 a4 h4 a5 h5 v58 v61 _) $$ [HO W101 W201]
  · isplitr; · iexact HR
    isplitl [HO]; · iexact HO
    isplitl [W101]; · iexact W101
    iexact W201
  iintro %r ⟨HO, G101, G201⟩
  obtain ⟨x10, x11⟩ := r
  dsimp only
  iapply wpc_bind
  iapply (part16_run m K i c a2 h2 a3 h3 a4 h4 a5 h5 v58 v61 _ _ _ _) $$ [HO W301 W002]
  · isplitr; · iexact HR
    isplitl [HO]; · iexact HO
    isplitl [W301]; · iexact W301
    iexact W002
  iintro %r ⟨HO, G301, G002⟩
  iapply wpc_bind
  iapply (part17_run m K i c a2 h2 a3 h3 a4 h4 a5 h5 v58 v61 _) $$ [HO W102 W202]
  · isplitr; · iexact HR
    isplitl [HO]; · iexact HO
    isplitl [W102]; · iexact W102
    iexact W202
  iintro %r ⟨HO, G102, G202⟩
  iapply wpc_bind
  iapply (part18_run m K i c a2 h2 a3 h3 a4 h4 a5 h5 s) $$ [HO Hst G300 G100 W302]
  · isplitr; · iexact HR
    isplitl [HO]; · iexact HO
    isplitl [Hst]; · iexact Hst
    isplitl [G300]; · iexact G300
    isplitl [G100]; · iexact G100
    iexact W302
  iintro ⟨HO, Hst, G300, G100, G302⟩
  dsimp only
  iapply wpc_bind
  iapply (part19_run m i c a2 h2 a3 h3 a4 h4 a5 h5 _ _ _) $$ [G301 G101 G302 G102]
  · isplitl [G301]; · iexact G301
    isplitl [G101]; · iexact G101
    isplitl [G302]; · iexact G302
    iexact G102
  iintro ⟨G301, G101, G302, G102⟩
  dsimp only
  iapply wpc_bind
  iapply (part20_run i c a2 h2 a3 h3 a4 h4 a5 h5 s v64 _ _ _ _ _ _) $$ Hst
  iintro %r Hst
  obtain ⟨y1, y2, y3, y4, y5, y6⟩ := r
  dsimp only
  ihave Hst := (stt_of_eq c (mg0_eq m c s)) $$ Hst
  iapply wpc_bind
  iapply (part21_run m K i c a2 h2 a3 h3 a4 h4 a5 h5 v58 v61 _ _ _ _ _) $$ [HO W010]
  · isplitr; · iexact HR
    isplitl [HO]; · iexact HO
    iexact W010
  iintro %r ⟨HO, G010⟩
  iapply wpc_bind
  iapply (part22_run m K i c a2 h2 a3 h3 a4 h4 a5 h5 v58 v61 _) $$ [HO W110 W210 W310]
  · isplitr; · iexact HR
    isplitl [HO]; · iexact HO
    isplitl [W110]; · iexact W110
    isplitl [W210]; · iexact W210
    iexact W310
  iintro %r ⟨HO, G110, G210, G310⟩
  iapply wpc_bind
  iapply (part23_run m K i c a2 h2 a3 h3 a4 h4 a5 h5 v58 v61 _) $$ [HO W011 W111]
  · isplitr; · iexact HR
    isplitl [HO]; · iexact HO
    isplitl [W011]; · iexact W011
    iexact W111
  iintro %r ⟨HO, G011, G111⟩
  iapply wpc_bind
  iapply (part24_run m K i c a2 h2 a3 h3 a4 h4 a5 h5 v58 v61 _) $$ [HO W211 W311]
  · isplitr; · iexact HR
    isplitl [HO]; · iexact HO
    isplitl [W211]; · iexact W211
    iexact W311
  iintro %r ⟨HO, G211, G311⟩
  iapply wpc_bind
  iapply (part25_run m K i c a2 h2 a3 h3 a4 h4 a5 h5 v58 v61 _) $$ [HO W012 W112 W212]
  · isplitr; · iexact HR
    isplitl [HO]; · iexact HO
    isplitl [W012]; · iexact W012
    isplitl [W112]; · iexact W112
    iexact W212
  iintro %r ⟨HO, G012, G112, G212⟩
  iapply wpc_bind
  iapply (part26_run m K i c a2 h2 a3 h3 a4 h4 a5 h5 (mg0 m c s) v58 v61 _) $$ [HO Hst G310 W312]
  · isplitr; · iexact HR
    isplitl [HO]; · iexact HO
    isplitl [Hst]; · iexact Hst
    isplitl [G310]; · iexact G310
    iexact W312
  iintro ⟨HO, Hst, G310, G312⟩
  dsimp only
  iapply wpc_bind
  iapply (part27_run m i c a2 h2 a3 h3 a4 h4 a5 h5 _ _ _ _ _) $$ [G110 G311 G111]
  · isplitl [G110]; · iexact G110
    isplitl [G311]; · iexact G311
    iexact G111
  iintro ⟨G110, G311, G111⟩
  dsimp only
  iapply (wp_gotM m c 1 2) $$ G312
  iintro G312
  iapply (wp_gotL m c 1 2) $$ G312
  iintro G312
  iapply (wp_gotO m c 1 2) $$ G112
  iintro G112
  iapply (wp_ldo c _) $$ Hst
  iintro Hst
  iapply wpc_ret
  iapply Hk $$ %_
  unfold gots
  isplitl [HO]; · iexact HO
  isplitl [Hst]; · iexact Hst
  isplitl [G000 G100 G200 G300 G001 G101 G201 G301 G002 G102 G202 G302]
  · isplitl [G000]; · iexact G000
    isplitl [G100]; · iexact G100
    isplitl [G200]; · iexact G200
    isplitl [G300]; · iexact G300
    isplitl [G001]; · iexact G001
    isplitl [G101]; · iexact G101
    isplitl [G201]; · iexact G201
    isplitl [G301]; · iexact G301
    isplitl [G002]; · iexact G002
    isplitl [G102]; · iexact G102
    isplitl [G202]; · iexact G202
    iexact G302
  isplitl [G010]; · iexact G010
  isplitl [G110]; · iexact G110
  isplitl [G210]; · iexact G210
  isplitl [G310]; · iexact G310
  isplitl [G011]; · iexact G011
  isplitl [G111]; · iexact G111
  isplitl [G211]; · iexact G211
  isplitl [G311]; · iexact G311
  isplitl [G012]; · iexact G012
  isplitl [G112]; · iexact G112
  isplitl [G212]; · iexact G212
  iexact G312

/-! ## The first piece, and whole staging buffers -/

section Stage
variable {S : Shape} {e : EltTy} (a : Memref sig .tc .vmem S e)

theorem wp_ldX (X : S.Idx → Elt F e) {off : Fin S.rank → ℕ} (inb : ∀ x, off x + S.size x ≤ S.size x)
    {hl : a.view.LoadsAt (Rect.unit off S.size inb).toLoadRect}
    {α : Type} {Q : α → sProp 𝕄} {k : Vec F S e → Prog (TpuEff nD τ sig (Elt F) Λ₀ .tc) α} :
    (owns (c : Thread nD τ) a fullShare X : sProp 𝕄)
      ⊢ iprop((owns (c : Thread nD τ) a fullShare X -∗ wpc c (k X) Q) -∗ wpc c (.op (.load a (Rect.unit off S.size inb).toLoadRect hl) k) Q) := by
  unfold owns
  iintro ⟨%f, %hf, H⟩ Hk
  iapply (wp_load 𝒱₀ (c : Thread nD τ) none Set.univ (m := a) (r := (Rect.unit off S.size inb).toLoadRect) (S := a.view.set) (View.setOn_subset_set _ _)) $$ H
  iintro H
  rw [View.readAt_full, hf]
  iapply Hk
  iexists f
  isplitr; · ipureintro; exact hf
  iexact H

theorem wp_stX (X w : S.Idx → Elt F e) {off : Fin S.rank → ℕ} (inb : ∀ x, off x + S.size x ≤ S.size x)
    {hx : (a.access (Rect.unit off S.size inb)).Stores Finset.univ} {hm}
    {α : Type} {Q : α → sProp 𝕄} {k : PUnit → Prog (TpuEff nD τ sig (Elt F) Λ₀ .tc) α} :
    (owns (c : Thread nD τ) a fullShare X : sProp 𝕄)
      ⊢ iprop((owns (c : Thread nD τ) a fullShare w -∗ wpc c (k ⟨⟩) Q)
        -∗ wpc c (.op (.store a (Rect.unit off S.size inb) w Finset.univ hx hm) k) Q) := by
  unfold owns
  iintro ⟨%f, %hf, H⟩ Hk
  iapply (wp_store 𝒱₀ (c : Thread nD τ) none Set.univ (m := a) (r := Rect.unit off S.size inb) (S := a.view.set)
    ((View.setOn_subset_set _ _).trans (View.set_slice_subset _ _))) $$ H
  iintro H
  iapply Hk
  iexists ((a.access (Rect.unit off S.size inb)).write (Elt F) f w Finset.univ)
  isplitr; · ipureintro; exact View.read_writes_full a.view f inb w []
  iexact H
end Stage

/-- The first three windows' buffers, at the blocks they stage. -/
def stgd (q : Vec F S2x32x8x128 .bf16) (kk vv : Vec F S2x512x8x128 .bf16) : sProp 𝕄 :=
  iprop(owns (c : Thread nD τ) a2 fullShare q ∗ owns (c : Thread nD τ) a3 fullShare kk ∗ owns (c : Thread nD τ) a4 fullShare vv)

/-- The grid's first point. -/
abbrev cond1 : BitVec 1 :=
  Scalar.cmpi .ne (Scalar.extui (Scalar.andi (Scalar.cmpi .eq (BitVec.ofNat 32 (i 0).val) 0#32) (Scalar.cmpi .eq (BitVec.ofNat 32 (i 1).val) 0#32))) 0#32

abbrev mR (s : Stt F) : Vec F S16x32x1 .f32 := mM.view.readAt (Elt F) (Rect.unit (s := S32x32x1) (k0_off1 i) S16x32x1.size (k0_off1_inb i)).toLoadRect s.m
abbrev lR (s : Stt F) : Vec F S16x32x1 .f32 := lM.view.readAt (Elt F) (Rect.unit (s := S32x32x1) (k0_off1 i) S16x32x1.size (k0_off1_inb i)).toLoadRect s.l

theorem part29_run (hc : ¬ cond1 i = 1#1) (s : Stt F) (q : Vec F S2x32x8x128 .bf16) (kk vv : Vec F S2x512x8x128 .bf16) {Q : _ → sProp 𝕄} :
    iprop(stgd c a2 a3 a4 q kk vv ∗ stt c s)
      ⊢ iprop((∀ w0, ∀ w1, ∀ w2, (stgd c a2 a3 a4 q kk vv ∗ stt c s)
          -∗ Q ⟨w0, w1, w2, k0_pay43 vv, k0_pay45 q kk (mR i s), k0_pay46 q kk (mR i s), k0_pay47 q kk (mR i s), k0_pay48 q kk (mR i s) (lR i s)⟩)
        -∗ wpc c (k0_part29 (F := F) i a2 h2 a3 h3 a4 h4 a5 h5 oM (Memref.isWhole_whole _) mM (Memref.isWhole_whole _) lM (Memref.isWhole_whole _) coM (Memref.isWhole_whole _) csM (Memref.isWhole_whole _) cc0_scratch5 cc0_scratch6 cc0_scratch7 cc0_scratch8) Q) := by
  rw [k0_part29_eq_skeleton]
  unfold k0_part29_skel
  simp only [Prog.lift, Prog.bind_op, Prog.bind_ret, Prog.pure_eq_ret, dif_neg hc]
  unfold stgd
  iintro ⟨⟨H2, H3, H4⟩, Hst⟩ Hk
  iapply (wp_ldX c a2 _ _) $$ H2
  iintro H2
  iapply (wp_ldX c a3 _ _) $$ H3
  iintro H3
  iapply (wp_ldX c a4 _ _) $$ H4
  iintro H4
  iapply (wp_ldm c _) $$ Hst
  iintro Hst
  iapply (wp_ldl c _) $$ Hst
  iintro Hst
  iapply wpc_ret
  iapply Hk $$ %_ %_ %_
  isplitl [H2 H3 H4]
  · isplitl [H2]; · iexact H2
    isplitl [H3]; · iexact H3
    iexact H4
  iexact Hst

theorem hz3 : (![0, 0, 0] : Fin 3 → Nat) = fun _ => 0 := funext fun a => by fin_cases a <;> rfl

theorem init_m (f w : (cc0_scratch1 : Ref sig .tc).ty.Contents (Elt F)) :
    ((mM.access (Rect.unit (s := S32x32x1) ![0, 0, 0] S32x32x1.size inb_S32x32x1_S32x32x1_0_0_0) : View sig .tc _ _ _).write (Elt F) f w Finset.univ) = w :=
  Memref.write_access_unit_zero_univ (Elt F) cc0_scratch1 hz3 _ f w
theorem init_l (f w : (cc0_scratch2 : Ref sig .tc).ty.Contents (Elt F)) :
    ((lM.access (Rect.unit (s := S32x32x1) ![0, 0, 0] S32x32x1.size inb_S32x32x1_S32x32x1_0_0_0) : View sig .tc _ _ _).write (Elt F) f w Finset.univ) = w :=
  Memref.write_access_unit_zero_univ (Elt F) cc0_scratch2 hz3 _ f w
theorem init_o (f w : (cc0_scratch0 : Ref sig .tc).ty.Contents (Elt F)) :
    ((oM.access (Rect.unit (s := S32x32x128) ![0, 0, 0] S32x32x128.size inb_S32x32x128_S32x32x128_0_0_0) : View sig .tc _ _ _).write (Elt F) f w Finset.univ) = w :=
  Memref.write_access_unit_zero_univ (Elt F) cc0_scratch0 hz3 _ f w
theorem read_o (f : (cc0_scratch0 : Ref sig .tc).ty.Contents (Elt F)) :
    oM.view.readAt (Elt F) (Rect.unit (s := S32x32x128) ![0, 0, 0] S32x32x128.size inb_S32x32x128_S32x32x128_0_0_0).toLoadRect f = f :=
  Memref.readAt_unit_zero (Elt F) cc0_scratch0 hz3 _ f

theorem part29_run' (hc : cond1 i = 1#1) (s : Stt F) (q : Vec F S2x32x8x128 .bf16) (kk vv : Vec F S2x512x8x128 .bf16) {Q : _ → sProp 𝕄} :
    iprop(stgd c a2 a3 a4 q kk vv ∗ stt c s)
      ⊢ iprop((∀ w0, ∀ w1, ∀ w2, (stgd c a2 a3 a4 q kk vv ∗ stt c st0)
          -∗ Q ⟨w0, w1, w2, k0_pay43 vv, k0_pay45 q kk (mR i st0), k0_pay46 q kk (mR i st0), k0_pay47 q kk (mR i st0), k0_pay48 q kk (mR i st0) (lR i st0)⟩)
        -∗ wpc c (k0_part29 (F := F) i a2 h2 a3 h3 a4 h4 a5 h5 oM (Memref.isWhole_whole _) mM (Memref.isWhole_whole _) lM (Memref.isWhole_whole _) coM (Memref.isWhole_whole _) csM (Memref.isWhole_whole _) cc0_scratch5 cc0_scratch6 cc0_scratch7 cc0_scratch8) Q) := by
  rw [k0_part29_eq_skeleton]
  unfold k0_part29_skel
  simp only [Prog.lift, Prog.bind_op, Prog.bind_ret, Prog.pure_eq_ret, dif_pos hc]
  unfold stgd
  iintro ⟨⟨H2, H3, H4⟩, Hst⟩ Hk
  iapply (wp_ldm c _) $$ Hst
  iintro Hst
  iapply (wp_stm c _) $$ Hst
  iintro Hst
  iapply (wp_ldl c _) $$ Hst
  iintro Hst
  iapply (wp_stl c _) $$ Hst
  iintro Hst
  iapply (wp_ldo c _) $$ Hst
  iintro Hst
  iapply (wp_sto c _) $$ Hst
  iintro Hst
  dsimp only
  rw [init_m, init_l, init_o]
  ihave Hst := (stt_of_eq c (show (⟨k0_pay42, k0_pay40, k0_pay41⟩ : Stt F) = st0 from rfl)) $$ Hst
  iapply (wp_ldX c a2 _ _) $$ H2
  iintro H2
  iapply (wp_ldX c a3 _ _) $$ H3
  iintro H3
  iapply (wp_ldX c a4 _ _) $$ H4
  iintro H4
  iapply (wp_ldm c _) $$ Hst
  iintro Hst
  iapply (wp_ldl c _) $$ Hst
  iintro Hst
  iapply wpc_ret
  iapply Hk $$ %_ %_ %_
  isplitl [H2 H3 H4]
  · isplitl [H2]; · iexact H2
    isplitl [H3]; · iexact H3
    iexact H4
  iexact Hst

/-- The update the first two pieces make. -/
abbrev updI (q : Vec F S2x32x8x128 .bf16) (kk vv : Vec F S2x512x8x128 .bf16) (s : Stt F) : Stt F :=
  upd30 i s (k0_pay43 vv) (k0_pay45 q kk (mR i s)) (k0_pay46 q kk (mR i s)) (k0_pay47 q kk (mR i s)) (k0_pay48 q kk (mR i s) (lR i s))

/-! ## The body at each kind of grid point -/

/-- A point that only updates. -/
theorem body_mid (h1 : ¬ cond1 i = 1#1) (h2c : ¬ k0_cond2 i = 1#1) (h3c : ¬ k0_cond3 i = 1#1) (s : Stt F)
    (q : Vec F S2x32x8x128 .bf16) (kk vv : Vec F S2x512x8x128 .bf16) {Q : PUnit → sProp 𝕄} :
    iprop(stgd c a2 a3 a4 q kk vv ∗ stt c s)
      ⊢ iprop(((stgd c a2 a3 a4 q kk vv ∗ stt c (updI i q kk vv s)) -∗ Q ⟨⟩) -∗ wpc c (cc0_body (F := F) i a2 h2 a3 h3 a4 h4 a5 h5 oM (Memref.isWhole_whole _) mM (Memref.isWhole_whole _) lM (Memref.isWhole_whole _) coM (Memref.isWhole_whole _) csM (Memref.isWhole_whole _) cc0_scratch5 cc0_scratch6 cc0_scratch7 cc0_scratch8) Q) := by
  rw [cc0_body_eq_skeleton]
  unfold cc0_body_skel
  simp only [Prog.pure_eq_ret, dif_neg h3c, Prog.bind_ret]
  iintro H Hk
  iapply wpc_bind
  iapply (part29_run i c a2 h2 a3 h3 a4 h4 a5 h5 h1 s q kk vv) $$ H
  iintro %w0 %w1 %w2 ⟨Hg, Hst⟩
  dsimp only
  iapply wpc_bind
  iapply (part30_run i c a2 h2 a3 h3 a4 h4 a5 h5 h2c s _ _ _ _ _ _ _ _) $$ Hst
  iintro %w Hst
  obtain ⟨x1, x2, x3⟩ := w
  iapply wpc_ret
  iapply Hk
  isplitl [Hg]; · iexact Hg
  iexact Hst

/-- The first point. -/
theorem body_init (h1 : cond1 i = 1#1) (h2c : ¬ k0_cond2 i = 1#1) (h3c : ¬ k0_cond3 i = 1#1) (s : Stt F)
    (q : Vec F S2x32x8x128 .bf16) (kk vv : Vec F S2x512x8x128 .bf16) {Q : PUnit → sProp 𝕄} :
    iprop(stgd c a2 a3 a4 q kk vv ∗ stt c s)
      ⊢ iprop(((stgd c a2 a3 a4 q kk vv ∗ stt c (updI i q kk vv st0)) -∗ Q ⟨⟩) -∗ wpc c (cc0_body (F := F) i a2 h2 a3 h3 a4 h4 a5 h5 oM (Memref.isWhole_whole _) mM (Memref.isWhole_whole _) lM (Memref.isWhole_whole _) coM (Memref.isWhole_whole _) csM (Memref.isWhole_whole _) cc0_scratch5 cc0_scratch6 cc0_scratch7 cc0_scratch8) Q) := by
  rw [cc0_body_eq_skeleton]
  unfold cc0_body_skel
  simp only [Prog.pure_eq_ret, dif_neg h3c, Prog.bind_ret]
  iintro H Hk
  iapply wpc_bind
  iapply (part29_run' i c a2 h2 a3 h3 a4 h4 a5 h5 h1 s q kk vv) $$ H
  iintro %w0 %w1 %w2 ⟨Hg, Hst⟩
  dsimp only
  iapply wpc_bind
  iapply (part30_run i c a2 h2 a3 h3 a4 h4 a5 h5 h2c st0 _ _ _ _ _ _ _ _) $$ Hst
  iintro %w Hst
  obtain ⟨x1, x2, x3⟩ := w
  iapply wpc_ret
  iapply Hk
  isplitl [Hg]; · iexact Hg
  iexact Hst

/-- What group 0's exchange takes besides the state. -/
def pre7 : sProp 𝕄 :=
  iprop(records m K ∗ levAts L lv ∗ ow c (O₀ c) ∗ (eight fun g d => oAny (F := F) c g d fullShare)
    ∗ (eight fun g d => sAny (F := F) c g d fullShare) ∗ bars (F := F) c ∗ wtB (F := F) c ∗ kit (F := F) c 0)
/-- What it leaves. -/
def post7 : sProp 𝕄 :=
  iprop(ow c (OB c) ∗ semVal (cell c none) 0 ∗ fly (F := F) c 0 ∗ lands (F := F) c 1 ∗ oAny (F := F) c 1 0 fullShare ∗ sAny (F := F) c 1 0 fullShare)

/-- The point of group 0's exchange. -/
theorem body_c2 (h1 : ¬ cond1 i = 1#1) (h2c : k0_cond2 i = 1#1) (h3c : ¬ k0_cond3 i = 1#1) (s : Stt F)
    (q : Vec F S2x32x8x128 .bf16) (kk vv : Vec F S2x512x8x128 .bf16) (s' : Stt F) (hs' : updI i q kk vv s = s') (hs : St m c 8 = s') {Q : PUnit → sProp 𝕄} :
    iprop(pre7 m K c ∗ stgd c a2 a3 a4 q kk vv ∗ stt c s)
      ⊢ iprop(((post7 (F := F) c ∗ stgd c a2 a3 a4 q kk vv ∗ stt c s') -∗ Q ⟨⟩) -∗ wpc c (cc0_body (F := F) i a2 h2 a3 h3 a4 h4 a5 h5 oM (Memref.isWhole_whole _) mM (Memref.isWhole_whole _) lM (Memref.isWhole_whole _) coM (Memref.isWhole_whole _) csM (Memref.isWhole_whole _) cc0_scratch5 cc0_scratch6 cc0_scratch7 cc0_scratch8) Q) := by
  rw [cc0_body_eq_skeleton]
  unfold cc0_body_skel pre7 post7
  simp only [Prog.pure_eq_ret, dif_neg h3c, Prog.bind_ret]
  iintro ⟨⟨#HR, Hl, HO, E1, E2, Hbars, Hb, Hkit⟩, H⟩ Hk
  iapply wpc_bind
  iapply (part29_run i c a2 h2 a3 h3 a4 h4 a5 h5 h1 s q kk vv) $$ H
  iintro %w0 %w1 %w2 ⟨Hg, Hst⟩
  dsimp only
  iapply wpc_bind
  iapply (part30_run' m K i c a2 h2 a3 h3 a4 h4 a5 h5 h2c s _ _ _ _ _ _ _ _ s' hs' hs) $$ [Hl HO Hst E1 E2 Hbars Hb Hkit]
  · isplitr; · iexact HR
    isplitl [Hl]; · iexact Hl
    isplitl [HO]; · iexact HO
    isplitl [Hst]; · iexact Hst
    isplitl [E1]; · iexact E1
    isplitl [E2]; · iexact E2
    isplitl [Hbars]; · iexact Hbars
    isplitl [Hb]; · iexact Hb
    iexact Hkit
  iintro %w ⟨HO, Hst, Hz, Hf, HL, Ho, Hs⟩
  obtain ⟨x1, x2, x3⟩ := w
  iapply wpc_ret
  iapply Hk
  isplitl [HO Hz Hf HL Ho Hs]
  · isplitl [HO]; · iexact HO
    isplitl [Hz]; · iexact Hz
    isplitl [Hf]; · iexact Hf
    isplitl [HL]; · iexact HL
    isplitl [Ho]; · iexact Ho
    iexact Hs
  isplitl [Hg]; · iexact Hg
  rw [hs]; iexact Hst

/-- What the last point takes besides the state and the staging buffers. -/
def pre15 : sProp 𝕄 :=
  iprop(records m K ∗ ow c (OB c) ∗ (oAny (F := F) c 1 0 fullShare ∗ sAny (F := F) c 1 0 fullShare) ∗ lands (F := F) c 1 ∗ kit (F := F) c 1
    ∗ fly (F := F) c 0 ∗ rcv (F := F) c 0 ∗ rcv (F := F) c 1)

/-- The last point. -/
theorem body_c3 (h1 : ¬ cond1 i = 1#1) (h2c : ¬ k0_cond2 i = 1#1) (h3c : k0_cond3 i = 1#1) (s : Stt F)
    (q : Vec F S2x32x8x128 .bf16) (kk vv : Vec F S2x512x8x128 .bf16) (x : Vec F S4x32x8x128 .f32) (s' : Stt F) (hs' : updI i q kk vv s = s') (hs : St m c 16 = s')
    {Q : PUnit → sProp 𝕄} :
    iprop(pre15 m K c ∗ stgd c a2 a3 a4 q kk vv ∗ owns (c : Thread nD τ) a5 fullShare x ∗ stt c s)
      ⊢ iprop(((ow c 0 ∗ gots m c 0 ∗ gots m c 1 ∗ stgd c a2 a3 a4 q kk vv ∗ owns (c : Thread nD τ) a5 fullShare (outV m c s') ∗ stt c (mg1 m c (mg0 m c s'))) -∗ Q ⟨⟩)
        -∗ wpc c (cc0_body (F := F) i a2 h2 a3 h3 a4 h4 a5 h5 oM (Memref.isWhole_whole _) mM (Memref.isWhole_whole _) lM (Memref.isWhole_whole _) coM (Memref.isWhole_whole _) csM (Memref.isWhole_whole _) cc0_scratch5 cc0_scratch6 cc0_scratch7 cc0_scratch8) Q) := by
  rw [cc0_body_eq_skeleton]
  unfold cc0_body_skel pre15
  simp only [Prog.lift, Prog.bind_op, Prog.pure_eq_ret, dif_pos h3c, Prog.bind_ret]
  iintro ⟨⟨#HR, HO, Hown, HL, Hkit, Hf, R0, R1⟩, Hg, H5, Hst⟩ Hk
  iapply wpc_bind
  iapply (part29_run i c a2 h2 a3 h3 a4 h4 a5 h5 h1 s q kk vv) $$ [Hg Hst]
  · isplitl [Hg]; · iexact Hg
    iexact Hst
  iintro %w0 %w1 %w2 ⟨Hg, Hst⟩
  dsimp only
  iapply wpc_bind
  iapply (part30_run i c a2 h2 a3 h3 a4 h4 a5 h5 h2c s _ _ _ _ _ _ _ _) $$ Hst
  iintro %w Hst
  obtain ⟨x1, x2, x3⟩ := w
  dsimp only
  ihave Hst := (stt_of_eq c hs') $$ Hst
  iapply wpc_bind
  iapply (part28_run m K i c a2 h2 a3 h3 a4 h4 a5 h5 c rfl _ _ _ h3c s' hs) $$ [HO Hst Hown HL Hkit Hf R0 R1]
  · isplitr; · iexact HR
    isplitl [HO]; · iexact HO
    isplitl [Hst]; · iexact Hst
    isplitl [Hown]; · iexact Hown
    isplitl [HL]; · iexact HL
    isplitl [Hkit]; · iexact Hkit
    isplitl [Hf]; · iexact Hf
    isplitl [R0]; · iexact R0
    iexact R1
  iintro %w ⟨HO, Hst, G0, G1⟩
  dsimp only
  iapply (wp_sto c _) $$ Hst
  iintro Hst
  ihave Hst := (stt_of_eq c (mg1_eq m c (mg0 m c s'))) $$ Hst
  iapply (wp_ldo c _) $$ Hst
  iintro Hst
  rw [read_o]
  iapply (wp_ldX c a5 _ _) $$ H5
  iintro H5
  iapply (wp_stX c a5 _ _ _) $$ H5
  iintro H5
  iapply wpc_ret
  iapply Hk
  isplitl [HO]; · iexact HO
  isplitl [G0]; · iexact G0
  isplitl [G1]; · iexact G1
  isplitl [Hg]; · iexact Hg
  isplitl [H5]; · iexact H5
  iexact Hst

end Cert.KernelIdeal.Merge
-- ==== Proof.Total.lean ====
/-
The exchange and the merges: every device ends with the softmax over all the keys.
-/
module

public import proofs.«01_k».proof.Proof.Partial
public import proofs.«01_k».proof.Proof.PhaseB

@[expose] public section

set_option maxRecDepth 16384

noncomputable section

namespace Cert.KernelIdeal.Merge

open Cert.KernelIdeal Cert.KernelIdeal.Gen
open Idealize.ShloMosaic Idealize.ShloMosaic.TcCoe Idealize.ShloMosaic.ValueIdx

/-! ## What travels is what was sent -/

theorem undoM (X : Vec Ideal S16x32x1 .f32) (h h') : shapeCast S16x32x1 (shapeCast S16x32 (k0_pay4 X) h) h' = X := by
  unfold k0_pay4
  dsimp only
  rw [shapeCast_shapeCast, shapeCast_shapeCast]
theorem undoL (X : Vec Ideal S16x32x1 .f32) (h h') : shapeCast S16x32x1 (shapeCast S16x32 (k0_pay5 X) h) h' = X := by
  unfold k0_pay5
  dsimp only
  rw [shapeCast_shapeCast, shapeCast_shapeCast]
theorem undoO (X : Vec Ideal S16x32x128 .f32) (h) (hb : FTy.bits .bf16 < FTy.bits .f32) : (extf .f32 (shapeCast S16x32x128 (k0_pay3 X) h) hb : FVec Ideal S16x32x128 .f32) = X := by
  unfold k0_pay3
  dsimp only
  rw [shapeCast_shapeCast]
  rfl

theorem exp_apply {S : Shape} (x : FVec Ideal S .f32) (j : S.Idx) : exp x j = Ideal.exp (x j) := rfl

/-- Two partial sums brought to the larger reference and added. -/
def jn (M M' X X' : EReal) : EReal := X * Ideal.exp (M - max M M') + X' * Ideal.exp (M' - max M M')
/-- Four of them, the references joined one by one. -/
def jn4 (M0 M1 M2 M3 X0 X1 X2 X3 : EReal) : EReal := jn (max (max M0 M1) M2) M3 (jn (max M0 M1) M2 (jn M0 M1 X0 X1) X2) X3

section Merge
variable (m : (ℓ : Loc nD τ sig) → Buf (Elt Ideal) ℓ) (c : Dev nD) (s : Stt Ideal)

/-- What the device at distance `e + 1` behind sent of group `g`. -/
abbrev pS (g : Fin 2) (e : Fin 3) : Stt Ideal := St m (pe (bk e) c) (8 * (g.val + 1))

theorem fin0_apply (r : Fin 16) (i : Fin 32) (d : Fin 128) : fin0 m c s (ix3 r i d) =
    Ideal.div (jn4 (gM 0 s (ix3 r i 0)) (gM 0 (pS m c 0 0) (ix3 r i 0)) (gM 0 (pS m c 0 1) (ix3 r i 0)) (gM 0 (pS m c 0 2) (ix3 r i 0))
        (gO 0 s (ix3 r i d)) (gO 0 (pS m c 0 0) (ix3 r i d)) (gO 0 (pS m c 0 1) (ix3 r i d)) (gO 0 (pS m c 0 2) (ix3 r i d)))
      (jn4 (gM 0 s (ix3 r i 0)) (gM 0 (pS m c 0 0) (ix3 r i 0)) (gM 0 (pS m c 0 1) (ix3 r i 0)) (gM 0 (pS m c 0 2) (ix3 r i 0))
        (gL 0 s (ix3 r i 0)) (gL 0 (pS m c 0 0) (ix3 r i 0)) (gL 0 (pS m c 0 1) (ix3 r i 0)) (gL 0 (pS m c 0 2) (ix3 r i 0))) := by
  unfold fin0 rM rL rO sM sL sO k0_pay27 k0_pay26 k0_pay25 k0_pay24 k0_pay23 k0_pay22 k0_pay21 k0_pay20 k0_pay19 k0_pay18 k0_pay17 k0_pay16 k0_pay15 k0_pay14 k0_pay13 k0_pay12 k0_pay11 k0_pay10 k0_pay9
  dsimp only
  simp only [undoM, undoL, undoO, shapeCast_self, divf_apply, addf_apply, mulf_apply, bto_apply, exp_apply, subf_apply, maximumf_apply]
  rfl

theorem fin1_apply (r : Fin 16) (i : Fin 32) (d : Fin 128) : fin1 m c s (ix3 r i d) =
    Ideal.div (jn4 (gM 1 s (ix3 r i 0)) (gM 1 (pS m c 1 0) (ix3 r i 0)) (gM 1 (pS m c 1 1) (ix3 r i 0)) (gM 1 (pS m c 1 2) (ix3 r i 0))
        (gO 1 s (ix3 r i d)) (gO 1 (pS m c 1 0) (ix3 r i d)) (gO 1 (pS m c 1 1) (ix3 r i d)) (gO 1 (pS m c 1 2) (ix3 r i d)))
      (jn4 (gM 1 s (ix3 r i 0)) (gM 1 (pS m c 1 0) (ix3 r i 0)) (gM 1 (pS m c 1 1) (ix3 r i 0)) (gM 1 (pS m c 1 2) (ix3 r i 0))
        (gL 1 s (ix3 r i 0)) (gL 1 (pS m c 1 0) (ix3 r i 0)) (gL 1 (pS m c 1 1) (ix3 r i 0)) (gL 1 (pS m c 1 2) (ix3 r i 0))) := by
  unfold fin1 rM rL rO sM sL sO k0_pay39 k0_pay38 k0_pay37 k0_pay36 k0_pay35 k0_pay34 k0_pay33 k0_pay32 k0_pay31 k0_pay30 k0_pay29 k0_pay28
  dsimp only
  simp only [undoM, undoL, undoO, divf_apply, addf_apply, mulf_apply, bto_apply, exp_apply, subf_apply, maximumf_apply]
  rfl

theorem gM_apply (g : Fin 2) (r : Fin 16) (i : Fin 32) : gM g s (ix3 r i 0) = s.m (ix3 (grow g r) i (0 : Fin 1)) := rdM g rfl _ s.m r i 0
theorem gL_apply (g : Fin 2) (r : Fin 16) (i : Fin 32) : gL g s (ix3 r i 0) = s.l (ix3 (grow g r) i (0 : Fin 1)) := rdL g rfl _ s.l r i 0
theorem gO_apply (g : Fin 2) (r : Fin 16) (i : Fin 32) (d : Fin 128) : gO g s (ix3 r i d) = s.o (ix3 (grow g r) i d) := rdO g rfl _ s.o r i d

/-- The merged quotient of row `r` of group `g`. -/
def quo (g : Fin 2) (r : Fin 16) (i : Fin 32) (d : Fin 128) : EReal :=
  Ideal.div (jn4 (s.m (ix3 (grow g r) i (0 : Fin 1))) ((pS m c g 0).m (ix3 (grow g r) i (0 : Fin 1))) ((pS m c g 1).m (ix3 (grow g r) i (0 : Fin 1))) ((pS m c g 2).m (ix3 (grow g r) i (0 : Fin 1)))
      (s.o (ix3 (grow g r) i d)) ((pS m c g 0).o (ix3 (grow g r) i d)) ((pS m c g 1).o (ix3 (grow g r) i d)) ((pS m c g 2).o (ix3 (grow g r) i d)))
    (jn4 (s.m (ix3 (grow g r) i (0 : Fin 1))) ((pS m c g 0).m (ix3 (grow g r) i (0 : Fin 1))) ((pS m c g 1).m (ix3 (grow g r) i (0 : Fin 1))) ((pS m c g 2).m (ix3 (grow g r) i (0 : Fin 1)))
      (s.l (ix3 (grow g r) i (0 : Fin 1))) ((pS m c g 0).l (ix3 (grow g r) i (0 : Fin 1))) ((pS m c g 1).l (ix3 (grow g r) i (0 : Fin 1))) ((pS m c g 2).l (ix3 (grow g r) i (0 : Fin 1))))

theorem mg_apply (g : Fin 2) (r : Fin 16) (i : Fin 32) (d : Fin 128) :
    (mg1 m c (mg0 m c s)).o (ix3 (grow g r) i d) = quo m c s g r i d := by
  have hg : g = 0 ∨ g = 1 := by revert g; decide
  have e0 : ∀ R : Fin 32, R.val / 16 ≠ (0 : Fin 2).val → ∀ i : Fin 32, ∀ d : Fin 128, (mg0 m c s).o (ix3 R i d) = s.o (ix3 R i d) := fun R hR i d =>
    wrO_ne 0 rfl _ s.o (fin0 m c s) R hR i d
  rcases hg with rfl | rfl
  · refine (wrO_ne 1 rfl _ (mg0 m c s).o (k0_pay1 (fin1 m c (mg0 m c s))) (grow 0 r) ?_ i d).trans ?_
    · show (16 * 0 + r.val) / 16 ≠ 1
      omega
    refine (wrO 0 rfl _ s.o (fin0 m c s) r i d).trans ((fin0_apply m c s r i d).trans ?_)
    simp only [gM_apply, gL_apply, gO_apply]
    rfl
  · refine (wrO 1 rfl _ (mg0 m c s).o (k0_pay1 (fin1 m c (mg0 m c s))) r i d).trans ?_
    unfold k0_pay1
    rw [shapeCast_self, fin1_apply]
    simp only [gM_apply, gL_apply, gO_apply]
    rw [e0 (grow 1 r) (by show (16 * 1 + r.val) / 16 ≠ 0; omega) i d]
    rfl

theorem outV_apply (b : Fin 4) (i : Fin 32) (h : Fin 8) (d : Fin 128) (g : Fin 2) (r : Fin 16) (hR : 8 * b.val + h.val = 16 * g.val + r.val) :
    outV m c s (ix4 b i h d) = quo m c s g r i d := by
  unfold outV
  rw [pay2_apply]
  have e : (⟨8 * b.val + h.val, by omega⟩ : Fin 32) = grow g r := Fin.ext hR
  rw [e]
  exact mg_apply m c s g r i d
end Merge

/-! ## The blocks a device's grid points read -/

section Dist
variable (m : (ℓ : Loc nD τ sig) → Buf (Elt Ideal) ℓ) (Q : S4x32x8x128.Idx → EReal) (K V : SKV.Idx → EReal)

abbrev qA (c : Dev nD) : S4x32x8x128.Idx → EReal := m ((c : Thread nD τ).loc main_arg0)
abbrev kA (c : Dev nD) : S4x4096x8x128.Idx → EReal := m ((c : Thread nD τ).loc main_arg1)
abbrev vA (c : Dev nD) : S4x4096x8x128.Idx → EReal := m ((c : Thread nD τ).loc main_arg2)

/-- Each device holds all the queries, and the keys and values of its place along the last mesh axis. -/
structure Dist : Prop where
  hq : ∀ c, qA m c = Q
  hk : ∀ c b (j : Fin 4096) h d, kA m c (ix4 b j h d) = K (ix4 b (⟨4096 * (c.val % 4) + j.val, by omega⟩ : Fin 16384) h d)
  hv : ∀ c b (j : Fin 4096) h d, vA m c (ix4 b j h d) = V (ix4 b (⟨4096 * (c.val % 4) + j.val, by omega⟩ : Fin 16384) h d)

theorem idx0 (t : Fin cfg0.N) : (cfg0.win 0).index t = ![t.val / 8, 0, 0, 0] := by
  have key : ∀ t : Fin 16, cc0_transform_0 (grid0.coords t) = ![t.val / 8, 0, 0, 0] := by decide +kernel
  exact key t
theorem idx1 (t : Fin cfg0.N) : (cfg0.win 1).index t = ![t.val / 8, t.val % 8, 0, 0] := by
  have key : ∀ t : Fin 16, cc0_transform_1 (grid0.coords t) = ![t.val / 8, t.val % 8, 0, 0] := by decide +kernel
  exact key t
theorem idx2 (t : Fin cfg0.N) : (cfg0.win 2).index t = ![t.val / 8, t.val % 8, 0, 0] := by
  have key : ∀ t : Fin 16, cc0_transform_2 (grid0.coords t) = ![t.val / 8, t.val % 8, 0, 0] := by decide +kernel
  exact key t

theorem qB_apply (c : Dev nD) (t : Fin cfg0.N) (b : Fin 2) (i : Fin 32) (h : Fin 8) (d : Fin 128) :
    qB m c t (ix4 b i h d) = qA m c (ix4 (⟨2 * (t.val / 8) + b.val, by have : t.val < 16 := t.isLt; omega⟩ : Fin 4) i h d) := by
  refine congrArg (qA m c) (funext fun a => Fin.ext ?_)
  refine (Pipeline.Window.rect_emb_val (cfg0.win 0) t (ix4 b i h d) a).trans ?_
  rw [idx0]
  fin_cases a
  · show t.val / 8 * 2 + b.val = 2 * (t.val / 8) + b.val
    omega
  · show 0 * 32 + i.val = i.val
    omega
  · show 0 * 8 + h.val = h.val
    omega
  · show 0 * 128 + d.val = d.val
    omega
theorem kB_apply (c : Dev nD) (t : Fin cfg0.N) (b : Fin 2) (j : Fin 512) (h : Fin 8) (d : Fin 128) :
    kB m c t (ix4 b j h d) = kA m c (ix4 (⟨2 * (t.val / 8) + b.val, by have : t.val < 16 := t.isLt; omega⟩ : Fin 4) (⟨512 * (t.val % 8) + j.val, by omega⟩ : Fin 4096) h d) := by
  refine congrArg (kA m c) (funext fun a => Fin.ext ?_)
  refine (Pipeline.Window.rect_emb_val (cfg0.win 1) t (ix4 b j h d) a).trans ?_
  rw [idx1]
  fin_cases a
  · show t.val / 8 * 2 + b.val = 2 * (t.val / 8) + b.val
    omega
  · show t.val % 8 * 512 + j.val = 512 * (t.val % 8) + j.val
    omega
  · show 0 * 8 + h.val = h.val
    omega
  · show 0 * 128 + d.val = d.val
    omega
theorem vB_apply (c : Dev nD) (t : Fin cfg0.N) (b : Fin 2) (j : Fin 512) (h : Fin 8) (d : Fin 128) :
    vB m c t (ix4 b j h d) = vA m c (ix4 (⟨2 * (t.val / 8) + b.val, by have : t.val < 16 := t.isLt; omega⟩ : Fin 4) (⟨512 * (t.val % 8) + j.val, by omega⟩ : Fin 4096) h d) := by
  refine congrArg (vA m c) (funext fun a => Fin.ext ?_)
  refine (Pipeline.Window.rect_emb_val (cfg0.win 2) t (ix4 b j h d) a).trans ?_
  rw [idx2]
  fin_cases a
  · show t.val / 8 * 2 + b.val = 2 * (t.val / 8) + b.val
    omega
  · show t.val % 8 * 512 + j.val = 512 * (t.val % 8) + j.val
    omega
  · show 0 * 8 + h.val = h.val
    omega
  · show 0 * 128 + d.val = d.val
    omega

variable {m Q K V}

theorem blocks_at (hD : Dist m Q K V) (c : Dev nD) (t : Fin cfg0.N) (g : Fin 2) (hg : t.val / 8 = g.val) :
    Blocks Q K V g (4096 * (c.val % 4) + 512 * (t.val % 8)) (qB m c t) (kB m c t) (vB m c t) := by
  have e : ∀ j : Fin 512, (⟨4096 * (c.val % 4) + (512 * (t.val % 8) + j.val), by omega⟩ : Fin 16384)
      = ⟨(4096 * (c.val % 4) + 512 * (t.val % 8) + j.val) % 16384, by omega⟩ := fun j => Fin.ext (by
    show 4096 * (c.val % 4) + (512 * (t.val % 8) + j.val) = (4096 * (c.val % 4) + 512 * (t.val % 8) + j.val) % 16384
    omega)
  have eb : ∀ b : Fin 2, (⟨2 * (t.val / 8) + b.val, by have : t.val < 16 := t.isLt; omega⟩ : Fin 4) = ⟨2 * g.val + b.val, by omega⟩ := fun b =>
    Fin.ext (by show 2 * (t.val / 8) + b.val = 2 * g.val + b.val; omega)
  refine ⟨fun b i h d => ?_, fun b j h d => ?_, fun b j h d => ?_⟩
  · rw [qB_apply, hD.hq, eb]
  · rw [kB_apply, hD.hk, eb, e]
  · rw [vB_apply, hD.hv, eb, e]

theorem Inv_St (hD : Dist m Q K V) (hQ : AllReal Q) (hK : AllReal K) (c : Dev nD) : ∀ n : ℕ, n ≤ 16 → Inv Q K V (c.val % 4) n (St m c n)
  | 0, _ => Inv_zero Q K V _
  | n + 1, hn => by
    have ih := Inv_St hD hQ hK c n (by omega)
    have ht : (⟨n, by have : cfg0.N = 16 := N_0; omega⟩ : Fin cfg0.N).val = n := rfl
    have hs := St_succ m c (⟨n, by have : cfg0.N = 16 := N_0; omega⟩ : Fin cfg0.N)
    rw [ht] at hs
    rw [hs]
    exact Inv_step Q K V hQ hK _ (⟨n, by have : cfg0.N = 16 := N_0; omega⟩ : Fin cfg0.N) (St m c n) ⟨n / 8, by omega⟩ rfl
      (blocks_at hD c _ ⟨n / 8, by omega⟩ rfl) ih

/-- The keys of the devices at place `z`. -/
abbrev full (z : ℕ) : Finset ℕ := Finset.Ico (4096 * z) (4096 * z + 4096)

theorem full_disj {z z' : ℕ} (h : z ≠ z') : Disjoint (full z) (full z') := by
  rw [Finset.disjoint_left]
  intro k hk hk'
  rw [Finset.mem_Ico] at hk hk'
  omega

theorem seen_own (z : ℕ) (R : Fin 32) : seen z 16 R = full z := by
  unfold seen full
  have : min 8 (16 - 8 * (R.val / 16)) = 8 := by have := R.isLt; omega
  rw [this]
theorem seen_sent (z : ℕ) (g : Fin 2) (r : Fin 16) : seen z (8 * (g.val + 1)) (grow g r) = full z := by
  unfold seen full
  have : min 8 (8 * (g.val + 1) - 8 * ((grow g r).val / 16)) = 8 := by
    show min 8 (8 * (g.val + 1) - 8 * ((16 * g.val + r.val) / 16)) = 8
    have := g.isLt; omega
  rw [this]

theorem pe_mod (e : Fin 3) (c : Dev nD) : (pe (bk e) c).val % 4 = (c.val % 4 + (3 - e.val)) % 4 := by revert e c; decide +kernel

theorem full_union (z : ℕ) (hz : z < 4) : full z ∪ full ((z + 3) % 4) ∪ full ((z + 2) % 4) ∪ full ((z + 1) % 4) = Finset.range 16384 := by
  ext k
  simp only [Finset.mem_union, Finset.mem_Ico, Finset.mem_range]
  omega

/-- The merged quotient of a row: every key's value by the softmax of the scores, against any reference. -/
theorem quo_eq (hD : Dist m Q K V) (hQ : AllReal Q) (hK : AllReal K) (c : Dev nD) (g : Fin 2) (r : Fin 16) (i : Fin 32) (d : Fin 128) (μ : ℝ) :
    quo m c (St m c 16) g r i d = ∑ k ∈ Finset.range 16384, va V (grow g r) d k
      * Ideal.div (Ideal.exp ((sc Q K (grow g r) i k : EReal) - (μ : EReal))) (∑ j ∈ Finset.range 16384, Ideal.exp ((sc Q K (grow g r) i j : EReal) - (μ : EReal))) := by
  have hz : c.val % 4 < 4 := Nat.mod_lt _ (by omega)
  have p0 := Inv_St hD hQ hK c 16 le_rfl (grow g r) i d
  rw [seen_own] at p0
  have pk : ∀ e : Fin 3, Part (sc Q K (grow g r) i) (va V (grow g r) d) (full ((c.val % 4 + (3 - e.val)) % 4))
      ((pS m c g e).m (ix3 (grow g r) i (0 : Fin 1))) ((pS m c g e).l (ix3 (grow g r) i (0 : Fin 1))) ((pS m c g e).o (ix3 (grow g r) i d)) := fun e => by
    have h := Inv_St hD hQ hK (pe (bk e) c) (8 * (g.val + 1)) (by omega) (grow g r) i d
    rw [seen_sent, pe_mod] at h
    exact h
  have p1 := pk 0
  have p2 := pk 1
  have p3 := pk 2
  have e1 : (c.val % 4 + (3 - (0 : Fin 3).val)) % 4 = (c.val % 4 + 3) % 4 := rfl
  have e2 : (c.val % 4 + (3 - (1 : Fin 3).val)) % 4 = (c.val % 4 + 2) % 4 := rfl
  have e3 : (c.val % 4 + (3 - (2 : Fin 3).val)) % 4 = (c.val % 4 + 1) % 4 := rfl
  rw [e1] at p1
  rw [e2] at p2
  rw [e3] at p3
  have h1 := p0.join p1 (full_disj (by omega))
  have h2 := h1.join p2 (Finset.disjoint_union_left.mpr ⟨full_disj (by omega), full_disj (by omega)⟩)
  have h3 := h2.join p3 (Finset.disjoint_union_left.mpr ⟨Finset.disjoint_union_left.mpr ⟨full_disj (by omega), full_disj (by omega)⟩, full_disj (by omega)⟩)
  rw [full_union _ hz] at h3
  exact h3.quot ⟨0, Finset.mem_range.mpr (by omega)⟩ μ

end Dist

end Cert.KernelIdeal.Merge
-- ==== Proof.Body.lean ====
/-
The proof data of the pipelined loop, and the body's obligation at every grid point.
-/
module

public import proofs.«01_k».proof.Proof.PhaseB

@[expose] public section

set_option maxRecDepth 16384

noncomputable section

namespace Cert.KernelIdeal.Merge

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

/-! ## Closing the copies' semaphores -/

variable (m : (ℓ : Loc nD τ sig) → Buf (Elt F) ℓ) (ρ : Dev nD → PrngReg)

section Done
variable (c : Dev nD)

/-- The twelve cells of group `g`'s copies, all at zero. -/
def zeros (g : Fin 2) : sProp 𝕄 := iprop(semVal (cell c (some (0, g, 0))) 0 ∗ semVal (cell c (some (1, g, 0))) 0 ∗ semVal (cell c (some (2, g, 0))) 0 ∗ semVal (cell c (some (3, g, 0))) 0 ∗ semVal (cell c (some (0, g, 1))) 0 ∗ semVal (cell c (some (1, g, 1))) 0 ∗ semVal (cell c (some (2, g, 1))) 0 ∗ semVal (cell c (some (3, g, 1))) 0 ∗ semVal (cell c (some (0, g, 2))) 0 ∗ semVal (cell c (some (1, g, 2))) 0 ∗ semVal (cell c (some (2, g, 2))) 0 ∗ semVal (cell c (some (3, g, 2))) 0)

/-- The group's four slots of both buffers. -/
def slotsAny (g : Fin 2) : sProp 𝕄 := iprop((oAny (F := F) c g 0 fullShare ∗ oAny (F := F) c g 1 fullShare ∗ oAny (F := F) c g 2 fullShare ∗ oAny (F := F) c g 3 fullShare)
    ∗ (sAny (F := F) c g 0 fullShare ∗ sAny (F := F) c g 1 fullShare ∗ sAny (F := F) c g 2 fullShare ∗ sAny (F := F) c g 3 fullShare))

theorem close_gots (g : Fin 2) : gots m c g ⊢ iprop(zeros (F := F) c g ∗ slotsAny (F := F) c g) := by
  unfold gots zeros slotsAny got
  iintro ⟨⟨V00, P00⟩, ⟨V10, P10⟩, ⟨V20, P20⟩, ⟨V30, P30⟩, ⟨V01, P01⟩, ⟨V11, P11⟩, ⟨V21, P21⟩, ⟨V31, P31⟩, ⟨V02, P02⟩, ⟨V12, P12⟩, ⟨V22, P22⟩, ⟨V32, P32⟩⟩
  ihave Q00 := (show copyPay m c 0 g 0 ⊢ oAny (F := F) c g 0 (sh 0) from .rfl) $$ P00
  ihave Q10 := (show copyPay m c 1 g 0 ⊢ oAny (F := F) c g (sl 0) fullShare from oHas_any c g _ _ _) $$ P10
  ihave Q20 := (show copyPay m c 2 g 0 ⊢ sAny (F := F) c g 0 (sh 0) from .rfl) $$ P20
  ihave Q30 := (show copyPay m c 3 g 0 ⊢ sAny (F := F) c g (sl 0) fullShare from sHas_any c g _ _ _ _) $$ P30
  ihave Q01 := (show copyPay m c 0 g 1 ⊢ oAny (F := F) c g 0 (sh 1) from .rfl) $$ P01
  ihave Q11 := (show copyPay m c 1 g 1 ⊢ oAny (F := F) c g (sl 1) fullShare from oHas_any c g _ _ _) $$ P11
  ihave Q21 := (show copyPay m c 2 g 1 ⊢ sAny (F := F) c g 0 (sh 1) from .rfl) $$ P21
  ihave Q31 := (show copyPay m c 3 g 1 ⊢ sAny (F := F) c g (sl 1) fullShare from sHas_any c g _ _ _ _) $$ P31
  ihave Q02 := (show copyPay m c 0 g 2 ⊢ oAny (F := F) c g 0 (sh 2) from .rfl) $$ P02
  ihave Q12 := (show copyPay m c 1 g 2 ⊢ oAny (F := F) c g (sl 2) fullShare from oHas_any c g _ _ _) $$ P12
  ihave Q22 := (show copyPay m c 2 g 2 ⊢ sAny (F := F) c g 0 (sh 2) from .rfl) $$ P22
  ihave Q32 := (show copyPay m c 3 g 2 ⊢ sAny (F := F) c g (sl 2) fullShare from sHas_any c g _ _ _ _) $$ P32
  ihave O0 := (unshareO (F := F) c g 0) $$ [Q00 Q01 Q02]
  · isplitl [Q00]; · iexact Q00
    isplitl [Q01]; · iexact Q01
    iexact Q02
  ihave S0 := (unshareS (F := F) c g 0) $$ [Q20 Q21 Q22]
  · isplitl [Q20]; · iexact Q20
    isplitl [Q21]; · iexact Q21
    iexact Q22
  isplitl [V00 V10 V20 V30 V01 V11 V21 V31 V02 V12 V22 V32]
  · isplitl [V00]; · iexact V00
    isplitl [V10]; · iexact V10
    isplitl [V20]; · iexact V20
    isplitl [V30]; · iexact V30
    isplitl [V01]; · iexact V01
    isplitl [V11]; · iexact V11
    isplitl [V21]; · iexact V21
    isplitl [V31]; · iexact V31
    isplitl [V02]; · iexact V02
    isplitl [V12]; · iexact V12
    isplitl [V22]; · iexact V22
    iexact V32
  isplitl [O0 Q10 Q11 Q12]
  · isplitl [O0]; · iexact O0
    isplitl [Q10]; · iexact Q10
    isplitl [Q11]; · iexact Q11
    iexact Q12
  isplitl [S0]; · iexact S0
  isplitl [Q30]; · iexact Q30
  isplitl [Q31]; · iexact Q31
  iexact Q32

theorem slots_eight : iprop(slotsAny (F := F) c 0 ∗ slotsAny (F := F) c 1)
    ⊢ iprop((eight fun g d => oAny (F := F) c g d fullShare) ∗ (eight fun g d => sAny (F := F) c g d fullShare)) := by
  unfold slotsAny eight
  iintro ⟨⟨A, B⟩, ⟨C, D⟩⟩
  isplitl [A C]
  · isplitl [A]; · iexact A
    iexact C
  isplitl [B]; · iexact B
  iexact D

end Done

/-! ## The proof data -/

variable (c : Dev nD)

/-- The ghost state and the landing slots' permissions a device starts with. -/
def ghost : sProp 𝕄 := iprop(∃ K, records m K ∗ levAts L lv ∗ bars (F := F) c ∗ wtB (F := F) c ∗ kit (F := F) c 0 ∗ kit (F := F) c 1 ∗ rcv (F := F) c 0 ∗ rcv (F := F) c 1)
/-- Both communication buffers, whatever they hold. -/
def comm : sProp 𝕄 := iprop((eight fun g d => oAny (F := F) c g d fullShare) ∗ (eight fun g d => sAny (F := F) c g d fullShare))
/-- Between the two exchanges. -/
def between : sProp 𝕄 := iprop(∃ K, records m K ∗ semVal (cell c none) 0 ∗ fly (F := F) c 0 ∗ lands (F := F) c 1 ∗ (oAny (F := F) c 1 0 fullShare ∗ sAny (F := F) c 1 0 fullShare)
    ∗ kit (F := F) c 1 ∗ rcv (F := F) c 0 ∗ rcv (F := F) c 1)
/-- After the last point. -/
def done : sProp 𝕄 := iprop(semVal (cell c none) 0 ∗ zeros (F := F) c 0 ∗ zeros (F := F) c 1 ∗ comm (F := F) c ∗ ∃ s, stt c s)

/-- What a device holds before point `n`. -/
def Phi (n : ℕ) : sProp 𝕄 :=
  if n = 0 then iprop(ghost m c ∗ comm (F := F) c ∗ ∃ s, stt c s)
  else if n ≤ 7 then iprop(ghost m c ∗ comm (F := F) c ∗ stt c (St m c n))
  else if n ≤ 15 then iprop(between m c ∗ stt c (St m c n))
  else done (F := F) c
def owedN (n : ℕ) : CellTallies nD τ sig Unit := if n ≤ 7 then O₀ c else if n ≤ 15 then OB c else 0

theorem Phi_zero : Phi m c 0 = iprop(ghost m c ∗ comm (F := F) c ∗ ∃ s, stt c s) := if_pos rfl
theorem Phi_early {n : ℕ} (h0 : n ≠ 0) (h : n ≤ 7) : Phi m c n = iprop(ghost m c ∗ comm (F := F) c ∗ stt c (St m c n)) := by
  unfold Phi; rw [if_neg h0, if_pos h]
theorem Phi_late {n : ℕ} (h7 : 7 < n) (h : n ≤ 15) : Phi m c n = iprop(between m c ∗ stt c (St m c n)) := by
  unfold Phi; rw [if_neg (by omega), if_neg (by omega), if_pos h]
theorem Phi_last {n : ℕ} (h : 15 < n) : Phi m c n = done (F := F) c := by
  unfold Phi; rw [if_neg (by omega), if_neg (by omega), if_neg (by omega)]

/-- What the last point leaves in the result's staging buffer. -/
def outC : Vec F S4x32x8x128 .f32 := outV m c (St m c 16)

def dats (_ : Fin 1) (c : Dev nD) : Dat τ (Elt F) Unit ℕ UU ℕ cfg0 c where
  A w := Gen.V m c (Pipeline.arrRef spec0 w)
  after w t := match w with
    | 0 => Gen.iblk m c (0 : Fin 4) t
    | 1 => Gen.iblk m c (1 : Fin 4) t
    | 2 => Gen.iblk m c (2 : Fin 4) t
    | 3 => outC m c
  Φ t := Phi m c t.val
  q _ := fullShare
  owed t := owedN c t.val

theorem before_q (t : Fin cfg0.N) (d) : (dats m 0 c).before (0 : Fin 4) t d = qB m c t :=
  ((dats m 0 c).before_in_eq_fetched 0 rfl (fun _ => rfl) (fun _ _ _ => rfl) (fun t => rfl) t d).trans
    (by unfold Dat.fetched Dat.blockOf qB Gen.iblk; rfl)
theorem before_k (t : Fin cfg0.N) (d) : (dats m 0 c).before (1 : Fin 4) t d = kB m c t :=
  ((dats m 0 c).before_in_eq_fetched 1 rfl (fun _ => rfl) (fun _ _ _ => rfl) (fun t => rfl) t d).trans
    (by unfold Dat.fetched Dat.blockOf kB Gen.iblk; rfl)
theorem before_v (t : Fin cfg0.N) (d) : (dats m 0 c).before (2 : Fin 4) t d = vB m c t :=
  ((dats m 0 c).before_in_eq_fetched 2 rfl (fun _ => rfl) (fun _ _ _ => rfl) (fun t => rfl) t d).trans
    (by unfold Dat.fetched Dat.blockOf vB Gen.iblk; rfl)

/-! ## The conditions, point by point -/

theorem cond1_iff : ∀ t : Fin cfg0.N, cond1 (grid0.coords t) = 1#1 ↔ t.val = 0 := by decide +kernel
theorem cond2_iff : ∀ t : Fin cfg0.N, k0_cond2 (grid0.coords t) = 1#1 ↔ t.val = 7 := by decide +kernel
theorem cond3_iff : ∀ t : Fin cfg0.N, k0_cond3 (grid0.coords t) = 1#1 ↔ t.val = 15 := by decide +kernel

theorem row (t : Fin cfg0.N) : defs₀ (F := F) .tc cfg0.body (cfg0.bodyArgs t (cfg0.slots t)) = Gen.bodyAt0 t := by
  unfold defs₀; rw [Defs.onTc_tc]

theorem owes_ow (t : Fin (cfg0.N + 1)) {O : CellTallies nD τ sig Unit} (h : owedN c t.val = O) :
    (dats m 0 c).owesAt () t ⊢ ow (F := F) c O := by
  subst h
  unfold Dat.owesAt Pipeline.owesWithin ow
  iintro ⟨%W, %_, H⟩
  iexists W; iexact H
theorem ow_owes (t : Fin (cfg0.N + 1)) {O : CellTallies nD τ sig Unit} (h : owedN c t.val = O) :
    ow (F := F) c O ⊢ (dats m 0 c).owesAt () t := by
  subst h
  unfold Dat.owesAt Pipeline.owesWithin ow
  iintro ⟨%W, H⟩
  iexists W
  isplitr; · ipureintro; exact fun _ _ => Or.inl trivial
  iexact H

/-! ## The obligation -/

abbrev stg (t : Fin cfg0.N) : sProp 𝕄 := stgd c (Gen.st0_0 t) (Gen.st0_1 t) (Gen.st0_2 t) (qB m c t) (kB m c t) (vB m c t)

/-- Every point but the last: the staging buffers are left as they were found. -/
theorem step_lt (t : Fin cfg0.N) (h : t.val < 15) :
    iprop(Phi m c t.val ∗ ow c (owedN c t.val) ∗ stg m c t)
      ⊢ wpc c (Gen.bodyAt0 t) fun _ => iprop(Phi m c (t.val + 1) ∗ ow c (owedN c (t.val + 1)) ∗ stg m c t) := by
  have h3 : ¬ k0_cond3 (grid0.coords t) = 1#1 := fun hh => by have := (cond3_iff t).mp hh; omega
  have hst := St_succ m c t
  rcases Nat.eq_zero_or_pos t.val with h0 | h0
  · have h1 := (cond1_iff t).mpr h0
    have h2 : ¬ k0_cond2 (grid0.coords t) = 1#1 := fun hh => by have := (cond2_iff t).mp hh; omega
    rw [h0] at hst ⊢
    have hst' : updI (grid0.coords t) (qB m c t) (kB m c t) (vB m c t) st0 = St m c (0 + 1) := hst.symm
    rw [Phi_zero, Phi_early m c (n := 0 + 1) (by omega) (by omega)]
    iintro ⟨⟨Hgh, Hc, %s, Hs⟩, HO, Hg⟩
    iapply (body_init (grid0.coords t) c (Gen.st0_0 t) _ (Gen.st0_1 t) _ (Gen.st0_2 t) _ (Gen.st0_3 t) _ h1 h2 h3 s (qB m c t) (kB m c t) (vB m c t)) $$ [Hg Hs]
    · isplitl [Hg]; · iexact Hg
      iexact Hs
    iintro ⟨Hg, Hs⟩
    ihave Hs := (stt_of_eq c hst') $$ Hs
    isplitl [Hgh Hc Hs]
    · isplitl [Hgh]; · iexact Hgh
      isplitl [Hc]; · iexact Hc
      iexact Hs
    isplitl [HO]; · iexact HO
    iexact Hg
  have h1 : ¬ cond1 (grid0.coords t) = 1#1 := fun hh => by have := (cond1_iff t).mp hh; omega
  have hst' : updI (grid0.coords t) (qB m c t) (kB m c t) (vB m c t) (St m c t.val) = St m c (t.val + 1) := hst.symm
  rcases Nat.lt_trichotomy t.val 7 with h7 | h7 | h7
  · have h2 : ¬ k0_cond2 (grid0.coords t) = 1#1 := fun hh => by have := (cond2_iff t).mp hh; omega
    rw [Phi_early m c (n := t.val) (by omega) (by omega), Phi_early m c (n := t.val + 1) (by omega) (by omega)]
    rw [show owedN c (t.val + 1) = owedN c t.val from by unfold owedN; rw [if_pos (by omega), if_pos (by omega)]]
    iintro ⟨⟨Hgh, Hc, Hs⟩, HO, Hg⟩
    iapply (body_mid (grid0.coords t) c (Gen.st0_0 t) _ (Gen.st0_1 t) _ (Gen.st0_2 t) _ (Gen.st0_3 t) _ h1 h2 h3 _ (qB m c t) (kB m c t) (vB m c t)) $$ [Hg Hs]
    · isplitl [Hg]; · iexact Hg
      iexact Hs
    iintro ⟨Hg, Hs⟩
    ihave Hs := (stt_of_eq c hst') $$ Hs
    isplitl [Hgh Hc Hs]
    · isplitl [Hgh]; · iexact Hgh
      isplitl [Hc]; · iexact Hc
      iexact Hs
    isplitl [HO]; · iexact HO
    iexact Hg
  · have h2 := (cond2_iff t).mpr h7
    have hs8 : St m c 8 = St m c (t.val + 1) := by rw [h7]
    rw [Phi_early m c (n := t.val) (by omega) (by omega), Phi_late m c (n := t.val + 1) (by omega) (by omega)]
    rw [show owedN c t.val = O₀ c from by unfold owedN; rw [if_pos (by omega)],
      show owedN c (t.val + 1) = OB c from by unfold owedN; rw [if_neg (by omega), if_pos (by omega)]]
    unfold ghost comm between
    iintro ⟨⟨⟨%K, #HR, Hl, Hb, Hw, Hk0, Hk1, Hr0, Hr1⟩, ⟨E1, E2⟩, Hs⟩, HO, Hg⟩
    iapply (body_c2 m K (grid0.coords t) c (Gen.st0_0 t) _ (Gen.st0_1 t) _ (Gen.st0_2 t) _ (Gen.st0_3 t) _ h1 h2 h3 _ (qB m c t) (kB m c t) (vB m c t) _ hst.symm hs8) $$ [Hl HO E1 E2 Hb Hw Hk0 Hg Hs]
    · unfold pre7
      isplitl [Hl HO E1 E2 Hb Hw Hk0]
      · isplitr; · iexact HR
        isplitl [Hl]; · iexact Hl
        isplitl [HO]; · iexact HO
        isplitl [E1]; · iexact E1
        isplitl [E2]; · iexact E2
        isplitl [Hb]; · iexact Hb
        isplitl [Hw]; · iexact Hw
        iexact Hk0
      isplitl [Hg]; · iexact Hg
      iexact Hs
    unfold post7
    iintro ⟨⟨HO, Hz, Hf, HL, Ho, Hso⟩, Hg, Hs⟩
    isplitl [Hz Hf HL Ho Hso Hk1 Hr0 Hr1 Hs]
    · isplitr [Hs]
      · iexists K
        isplitr; · iexact HR
        isplitl [Hz]; · iexact Hz
        isplitl [Hf]; · iexact Hf
        isplitl [HL]; · iexact HL
        isplitl [Ho Hso]
        · isplitl [Ho]; · iexact Ho
          iexact Hso
        isplitl [Hk1]; · iexact Hk1
        isplitl [Hr0]; · iexact Hr0
        iexact Hr1
      iexact Hs
    isplitl [HO]; · iexact HO
    iexact Hg
  · have h2 : ¬ k0_cond2 (grid0.coords t) = 1#1 := fun hh => by have := (cond2_iff t).mp hh; omega
    rw [Phi_late m c (n := t.val) (by omega) (by omega), Phi_late m c (n := t.val + 1) (by omega) (by omega)]
    rw [show owedN c (t.val + 1) = owedN c t.val from by
      rw [show owedN c t.val = OB c from by unfold owedN; rw [if_neg (by omega), if_pos (by omega)]]; unfold owedN; rw [if_neg (by omega), if_pos (by omega)]]
    iintro ⟨⟨Hgh, Hs⟩, HO, Hg⟩
    iapply (body_mid (grid0.coords t) c (Gen.st0_0 t) _ (Gen.st0_1 t) _ (Gen.st0_2 t) _ (Gen.st0_3 t) _ h1 h2 h3 _ (qB m c t) (kB m c t) (vB m c t)) $$ [Hg Hs]
    · isplitl [Hg]; · iexact Hg
      iexact Hs
    iintro ⟨Hg, Hs⟩
    ihave Hs := (stt_of_eq c hst') $$ Hs
    isplitl [Hgh Hs]
    · isplitl [Hgh]; · iexact Hgh
      iexact Hs
    isplitl [HO]; · iexact HO
    iexact Hg

/-- The last point. -/
theorem step_eq (t : Fin cfg0.N) (h : t.val = 15) (x : Vec F S4x32x8x128 .f32) :
    iprop(Phi m c t.val ∗ ow c (owedN c t.val) ∗ stg m c t ∗ owns (c : Thread nD τ) (Gen.st0_3 t) fullShare x)
      ⊢ wpc c (Gen.bodyAt0 t) fun _ => iprop(Phi m c (t.val + 1) ∗ ow c (owedN c (t.val + 1)) ∗ stg m c t ∗ owns (c : Thread nD τ) (Gen.st0_3 t) fullShare (outC m c)) := by
  have h3 := (cond3_iff t).mpr h
  have h1 : ¬ cond1 (grid0.coords t) = 1#1 := fun hh => by have := (cond1_iff t).mp hh; omega
  have h2 : ¬ k0_cond2 (grid0.coords t) = 1#1 := fun hh => by have := (cond2_iff t).mp hh; omega
  have hst := (St_succ m c t).symm.trans (show St m c (t.val + 1) = St m c 16 by rw [h])
  rw [Phi_late m c (n := t.val) (by omega) (by omega), Phi_last m c (n := t.val + 1) (by omega)]
  rw [show owedN c t.val = OB c from by unfold owedN; rw [if_neg (by omega), if_pos (by omega)],
    show owedN c (t.val + 1) = 0 from by unfold owedN; rw [if_neg (by omega), if_neg (by omega)]]
  unfold between done outC
  iintro ⟨⟨⟨%K, #HR, Hz, Hf, HL, Hsl, Hk1, Hr0, Hr1⟩, Hs⟩, HO, Hg, Hx⟩
  iapply (body_c3 m K (grid0.coords t) c (Gen.st0_0 t) _ (Gen.st0_1 t) _ (Gen.st0_2 t) _ (Gen.st0_3 t) _ h1 h2 h3 _ (qB m c t) (kB m c t) (vB m c t) x _ hst rfl) $$ [HO Hsl HL Hk1 Hf Hr0 Hr1 Hg Hx Hs]
  · unfold pre15
    isplitl [HO Hsl HL Hk1 Hf Hr0 Hr1]
    · isplitr; · iexact HR
      isplitl [HO]; · iexact HO
      isplitl [Hsl]; · iexact Hsl
      isplitl [HL]; · iexact HL
      isplitl [Hk1]; · iexact Hk1
      isplitl [Hf]; · iexact Hf
      isplitl [Hr0]; · iexact Hr0
      iexact Hr1
    isplitl [Hg]; · iexact Hg
    isplitl [Hx]; · iexact Hx
    iexact Hs
  iintro ⟨HO, G0, G1, Hg, Hx, Hs⟩
  ihave ⟨Z0, A0⟩ := (close_gots m c 0) $$ G0
  ihave ⟨Z1, A1⟩ := (close_gots m c 1) $$ G1
  isplitl [Hz Z0 A0 Z1 A1 Hs]
  · isplitl [Hz]; · iexact Hz
    isplitl [Z0]; · iexact Z0
    isplitl [Z1]; · iexact Z1
    isplitl [A0 A1]
    · unfold comm
      iapply (slots_eight (F := F) c) $$ [A0 A1]
      isplitl [A0]; · iexact A0
      iexact A1
    iexists _; iexact Hs
  isplitl [HO]; · iexact HO
  isplitl [Hg]; · iexact Hg
  iexact Hx

theorem idle_lt (t : Fin cfg0.N) (h : t.val < 15) : cfg0.idle 3 (cfg0.grid.coords t) = true := by
  show (!(k0_cond3 (grid0.coords t) == 1#1)) = true
  have h3 : ¬ k0_cond3 (grid0.coords t) = 1#1 := fun hh => by have := (cond3_iff t).mp hh; omega
  rw [beq_eq_false_iff_ne.mpr h3]; rfl
theorem idle_eq (t : Fin cfg0.N) (h : t.val = 15) : cfg0.idle 3 (cfg0.grid.coords t) = false := by
  show (!(k0_cond3 (grid0.coords t) == 1#1)) = false
  rw [beq_iff_eq.mpr ((cond3_iff t).mpr h)]; rfl
theorem flush_lt (t : Fin cfg0.N) (h : t.val < 15) : (cfg0.win 3).flush t = false := by
  rw [← Bool.not_eq_true]
  intro hh; have := (Gen.flush0_3 t).mp hh; omega

theorem body_obligation : BodyObligation (dats m 0 c) (defs₀ (F := F)) 𝒱₀ () Set.univ := fun t => by
  have hN : cfg0.N = 16 := N_0
  have ht := t.isLt
  have hcs : (dats m 0 c).Φ t.castSucc = Phi m c t.val := rfl
  have hss : (dats m 0 c).Φ t.succ = Phi m c (t.val + 1) := rfl
  rw [Gen.bigSep_W0, Gen.bigSep_W0, row, hcs, hss]
  rcases Nat.lt_or_ge t.val 15 with h | h
  · rw [idle_lt t h, flush_lt t h]
    dsimp only
    simp only [before_q, before_k, before_v]
    refine BIBase.Entails.trans ?_ (wp_wand_r frame (wpE (defs₀ (F := F)) 𝒱₀ (c : Thread nD τ) none) Set.univ (Q := fun _ => iprop(Phi m c (t.val + 1) ∗ ow c (owedN c (t.val + 1)) ∗ stg m c t)))
    iintro ⟨HP, HO, ⟨%d0, H0⟩, ⟨%d1, H1⟩, ⟨%d2, H2⟩, H3⟩
    ihave HO := (owes_ow m c t.castSucc (O := owedN c t.val) rfl) $$ HO
    isplitl [HP HO H0 H1 H2]
    · iapply (step_lt m c t h) $$ [HP HO H0 H1 H2]
      isplitl [HP]; · iexact HP
      isplitl [HO]; · iexact HO
      unfold stg stgd
      isplitl [H0]; · iexact H0
      isplitl [H1]; · iexact H1
      iexact H2
    iintro %_ ⟨HP, HO, Hg⟩
    ihave HO := (ow_owes m c t.succ (O := owedN c (t.val + 1)) rfl) $$ HO
    isplitl [HP]; · iexact HP
    isplitl [HO]; · iexact HO
    unfold stg stgd
    icases Hg with ⟨H0, H1, H2⟩
    isplitl [H0]; · iexact H0
    isplitl [H1]; · iexact H1
    isplitl [H2]; · iexact H2
    iexact H3
  · rw [idle_eq t (by omega)]
    dsimp only
    simp only [before_q, before_k, before_v]
    refine BIBase.Entails.trans ?_ (wp_wand_r frame (wpE (defs₀ (F := F)) 𝒱₀ (c : Thread nD τ) none) Set.univ (Q := fun _ => iprop(Phi m c (t.val + 1) ∗ ow c (owedN c (t.val + 1)) ∗ stg m c t ∗ owns (c : Thread nD τ) (Gen.st0_3 t) fullShare (outC m c))))
    iintro ⟨HP, HO, ⟨%d0, H0⟩, ⟨%d1, H1⟩, ⟨%d2, H2⟩, ⟨%d3, H3⟩⟩
    ihave HO := (owes_ow m c t.castSucc (O := owedN c t.val) rfl) $$ HO
    isplitl
    · iapply (step_eq m c t (by omega) _) $$ [HP HO H0 H1 H2 H3]
      isplitl [HP]; · iexact HP
      isplitl [HO]; · iexact HO
      isplitl [H0 H1 H2]
      · unfold stg stgd
        isplitl [H0]; · iexact H0
        isplitl [H1]; · iexact H1
        iexact H2
      iexact H3
    iintro %_ ⟨HP, HO, Hg, H3⟩
    ihave HO := (ow_owes m c t.succ (O := owedN c (t.val + 1)) rfl) $$ HO
    isplitl [HP]; · iexact HP
    isplitl [HO]; · iexact HO
    unfold stg stgd
    icases Hg with ⟨H0, H1, H2⟩
    isplitl [H0]; · iexact H0
    isplitl [H1]; · iexact H1
    isplitl [H2]; · iexact H2
    iexact H3

end Cert.KernelIdeal.Merge
-- ==== Proof.Launch.lean ====
/-
The launch: the cells' tokens and credits dealt to the devices, and the run of the whole mesh.
-/
module

public import proofs.«01_k».proof.Proof.Body
public import Idealize.ShloMosaic.Lib.Pipeline.CollectiveSegs

@[expose] public section

set_option maxRecDepth 16384

noncomputable section

namespace Cert.KernelIdeal.Merge

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-- The names of a device's copy semaphores. -/
abbrev CX : Type := Fin 4 × Fin 2 × Fin 3

abbrev osem (x : CX) : SemLoc sig := csem (some x)

theorem ownSemFacts : Pipeline.OwnSemFacts cfg0.spec osem := by decide +kernel

theorem share_eq (c : Dev nD) (w : Fin cfg0.W) : (dats m 0 c).share w = fullShare := by unfold Dat.share; split <;> rfl

theorem bigSep_CX (Φ : CX → sProp 𝕄) : bigSep Finset.univ Φ = iprop(Φ (0, 0, 0) ∗ Φ (1, 0, 0) ∗ Φ (2, 0, 0) ∗ Φ (3, 0, 0) ∗ Φ (0, 0, 1) ∗ Φ (1, 0, 1) ∗ Φ (2, 0, 1) ∗ Φ (3, 0, 1) ∗ Φ (0, 0, 2) ∗ Φ (1, 0, 2) ∗ Φ (2, 0, 2) ∗ Φ (3, 0, 2) ∗ Φ (0, 1, 0) ∗ Φ (1, 1, 0) ∗ Φ (2, 1, 0) ∗ Φ (3, 1, 0) ∗ Φ (0, 1, 1) ∗ Φ (1, 1, 1) ∗ Φ (2, 1, 1) ∗ Φ (3, 1, 1) ∗ Φ (0, 1, 2) ∗ Φ (1, 1, 2) ∗ Φ (2, 1, 2) ∗ Φ (3, 1, 2)) :=
  bigSep_univ_eq_bigSepL [(0, 0, 0), (1, 0, 0), (2, 0, 0), (3, 0, 0), (0, 0, 1), (1, 0, 1), (2, 0, 1), (3, 0, 1), (0, 0, 2), (1, 0, 2), (2, 0, 2), (3, 0, 2), (0, 1, 0), (1, 1, 0), (2, 1, 0), (3, 1, 0), (0, 1, 1), (1, 1, 1), (2, 1, 1), (3, 1, 1), (0, 1, 2), (1, 1, 2), (2, 1, 2), (3, 1, 2)] (by decide) (by decide) Φ
theorem bigSep_CK (Φ : CK → sProp 𝕄) : bigSep Finset.univ Φ = iprop(Φ none ∗ bigSep Finset.univ fun x : CX => Φ (some x)) := by
  rw [bigSep_univ_at _ none, show (Finset.univ.erase none : Finset CK) = Finset.univ.map Function.Embedding.some from by decide, bigSep_map]
  rfl
theorem bigSep_E (Φ : Fin 3 → sProp 𝕄) : bigSep Finset.univ Φ = iprop(Φ 0 ∗ Φ 1 ∗ Φ 2) := bigSep_univ_eq_bigSepL [0, 1, 2] (by decide) (by decide) Φ

/-! ## Cells and tokens -/

abbrev kcell (x : Dev nD × CK) : GSem nD τ sig := cell x.1 x.2
theorem kcell_injective : Function.Injective kcell := by
  rintro ⟨c, k⟩ ⟨c', k'⟩ h
  have h1 : c = c' := congrArg (fun g : GSem nD τ sig => g.1.1) h
  have h2 : k = k' := csem_injective (congrArg Prod.snd h)
  rw [h1, h2]
def allCells : Finset (GSem nD τ sig) := Finset.univ.map ⟨kcell, kcell_injective⟩

/-- The tokens minted: a barrier's three, a copy semaphore's one. -/
abbrev tokOf (x : Dev nD × (Fin 3 ⊕ CX)) : GSem nD τ sig × ℕ × Fin 3 := match x.2 with
  | .inl e => (cell x.1 none, 0, e)
  | .inr y => (cell x.1 (some y), 0, 0)
theorem tokOf_injective : Function.Injective tokOf := by
  rintro ⟨c, a⟩ ⟨c', b⟩ h
  have hc : (tokOf (c, a)).1.1.1 = (tokOf (c', b)).1.1.1 := congrArg (fun x : GSem nD τ sig × ℕ × Fin 3 => x.1.1.1) h
  have hs : (tokOf (c, a)).1.2 = (tokOf (c', b)).1.2 := congrArg (fun x : GSem nD τ sig × ℕ × Fin 3 => x.1.2) h
  have he : (tokOf (c, a)).2.2 = (tokOf (c', b)).2.2 := congrArg (fun x : GSem nD τ sig × ℕ × Fin 3 => x.2.2) h
  rcases a with e | y <;> rcases b with e' | y'
  · have h1 : c = c' := hc
    have h2 : e = e' := he
    rw [h1, h2]
  · exact absurd (csem_injective (a₁ := none) (a₂ := some y') hs) (by simp)
  · exact absurd (csem_injective (a₁ := some y) (a₂ := none) hs) (by simp)
  · have h1 : c = c' := hc
    have h2 : some y = some y' := csem_injective (a₁ := some y) (a₂ := some y') hs
    rw [h1, Option.some.inj h2]
def allToks : Finset (GSem nD τ sig × ℕ × Fin 3) := Finset.univ.map ⟨tokOf, tokOf_injective⟩

def u₀ : UU :=
  (initOf (Pipeline.cells cfgs cellOf_inj) (Pipeline.launchToks cfgs cellOf_inj), initOf allCells allToks)

/-- A copy's token, and a barrier's. -/
abbrev tk (c : Dev nD) (x : CX) : sProp 𝕄 := dutyTok ER (cell c (some x)) 0 0
abbrev tb (c : Dev nD) (e : Fin 3) : sProp 𝕄 := dutyTok ER (cell c none) 0 e

/-- The tokens of device `c`'s own cells. -/
def minted (c : Dev nD) : sProp 𝕄 := iprop((bigSep Finset.univ fun e : Fin 3 => tb (F := F) c e) ∗ bigSep Finset.univ fun x : CX => tk (F := F) c x)

/-- What the launch element deals device `c`. -/
def G (c : Dev nD) : sProp 𝕄 :=
  iprop((bigSep Finset.univ fun k : CK => roundState ER (Rd m) (cell c k) 0)
    ∗ (bigSep Finset.univ fun k : CK => iprop(atPos ER (cell c k) 0 ∅ 0 ∗ reached ER (cell c k) 0)) ∗ minted (F := F) c)

theorem fund_all : BI.own (ER (initOf allCells allToks)) ⊢ (|==> bigSep Finset.univ (G m) : sProp 𝕄) := by
  have hX (Φ : GSem nD τ sig → sProp 𝕄) : bigSep allCells Φ = bigSep Finset.univ fun c : Dev nD => bigSep Finset.univ fun k : CK => Φ (cell c k) := by
    unfold allCells; rw [bigSep_map, bigSep_univ_prod]; rfl
  have hT : bigSep allToks (fun x => (dutyTok ER x.1 x.2.1 x.2.2 : sProp 𝕄)) = bigSep Finset.univ fun c : Dev nD => minted (F := F) c := by
    unfold allToks; rw [bigSep_map, bigSep_univ_prod]
    exact bigSep_congr fun c _ => by unfold minted; rw [bigSep_univ_sum]; rfl
  iintro HX
  imod (Rounds.fund ER (Rd m) allCells allToks) $$ HX with ⟨Hst, Hr, Hat, Htok⟩
  imodintro
  ihave Hst' := (Entails.of_eq (hX fun g => roundState ER (Rd m) g 0)) $$ Hst
  ihave Hat' := (Entails.of_eq (hX fun g => atPos ER g 0 ∅ 0)) $$ Hat
  ihave Hr' := (Entails.of_eq (hX fun g => reached ER g 0)) $$ Hr
  ihave Htok' := (Entails.of_eq hT) $$ Htok
  unfold G; simp only [bigSep_sep']
  isplitl [Hst']; · iexact Hst'
  isplitl [Hat' Hr']
  · isplitl [Hat'] <;> iassumption
  iexact Htok'

theorem unscopedSems0_eq (c : Dev nD) : (unscopedSems0 c : sProp 𝕄) = semVal (cell c none) 0 := by
  unfold unscopedSems0; rw [bigSep_eq_bigSepL_of_eq [SemLoc.reg barS] (by decide) (by decide)]; rfl

theorem sems0_eq (c : Dev nD) :
    iprop(Pipeline.ownSems0 (Ix := Unit) (Name := ℕ) (U := UU) (Lvl := ℕ) (Val := Elt F) (τ := τ) osem c ∗ unscopedSems0 c)
      ⊢ (bigSep Finset.univ fun k : CK => semVal (cell c k) 0 : sProp 𝕄) := by
  rw [unscopedSems0_eq, bigSep_CK]
  unfold Pipeline.ownSems0
  iintro ⟨HS, HB⟩
  isplitl [HB]; · iexact HB
  iexact HS

theorem core_alloc (c : Dev nD) :
    iprop(Pipeline.ownSems0 (Ix := Unit) (Name := ℕ) (U := UU) (Lvl := ℕ) (Val := Elt F) (τ := τ) osem c ∗ unscopedSems0 c ∗ G m c)
      ⊢ |={Set.univ}=> iprop((bigSep Finset.univ fun k : CK => iprop(∃ κ : ℕ, cellInv ER (Rd m) κ (cell c k)))
          ∗ (bigSep Finset.univ fun k : CK => iprop(atPos ER (cell c k) 0 ∅ 0 ∗ reached ER (cell c k) 0)) ∗ minted (F := F) c) := by
  unfold G
  iintro ⟨Hos, Hus, Hst, Hat, Htok⟩
  ihave Hv := (sems0_eq (F := F) c) $$ [Hos Hus]
  · isplitl [Hos] <;> iassumption
  imod (show iprop((bigSep Finset.univ fun k : CK => semVal (cell c k) 0) ∗ bigSep Finset.univ fun k : CK => roundState ER (Rd m) (cell c k) 0)
      ⊢ (|={Set.univ}=> bigSep Finset.univ fun k => iprop(∃ κ : ℕ, cellInv ER (Rd m) κ (cell c k)) : sProp 𝕄) from by
        rw [← bigSep_sep']
        exact (bigSep_mono fun k _ => (Rounds.body_intro ER (Rd m) (cell c k)).trans inv_alloc).trans (bigSep_fupd _ _)) $$ [Hv Hst] with Hinv
  · isplitl [Hv] <;> iassumption
  imodintro
  isplitl [Hinv]; · iexact Hinv
  isplitl [Hat]; · iexact Hat
  iexact Htok

/-! ## The tokens to the devices that pay with them -/

/-- The device paying into a copy semaphore of the peer's, by its array: a receive semaphore is the peer's. -/
def payer (x : CX) : Dev nD ≃ Dev nD := if x.1.val % 2 = 1 then peEquiv x.2.2 else Equiv.refl _

def dealt (c : Dev nD) : sProp 𝕄 :=
  iprop((bigSep Finset.univ fun e : Fin 3 => tb (F := F) (pe e c) (bk e)) ∗ bigSep Finset.univ fun x : CX => tk (F := F) (payer x c) x)

theorem swap {I J : Type} [Fintype I] [Fintype J] (Φ : I → J → sProp 𝕄) :
    (bigSep Finset.univ fun i => bigSep Finset.univ fun j => Φ i j) = bigSep Finset.univ fun j => bigSep Finset.univ fun i => Φ i j := by
  rw [← bigSep_univ_prod (fun x : I × J => Φ x.1 x.2), bigSep_univ_equiv (Equiv.prodComm J I) (fun x : I × J => Φ x.1 x.2), bigSep_univ_prod]
  rfl

theorem deal : (bigSep Finset.univ fun c : Dev nD => minted (F := F) c) ⊢ bigSep Finset.univ fun c : Dev nD => dealt (F := F) c := by
  unfold minted dealt
  rw [bigSep_sep', bigSep_sep', swap (fun (c : Dev nD) (e : Fin 3) => tb (F := F) c e), swap (fun (c : Dev nD) (x : CX) => tk (F := F) c x)]
  refine sep_mono (Entails.of_eq ?_) (Entails.of_eq ?_)
  · rw [bigSep_univ_equiv Fin.revPerm (fun e : Fin 3 => bigSep Finset.univ fun c : Dev nD => tb (F := F) c e), swap (fun (c : Dev nD) (e : Fin 3) => tb (F := F) (pe e c) (bk e))]
    exact bigSep_congr fun e _ => bigSep_univ_equiv (peEquiv e) (fun c : Dev nD => tb (F := F) c (bk e))
  · rw [swap (fun (c : Dev nD) (x : CX) => tk (F := F) (payer x c) x)]
    exact bigSep_congr fun x _ => bigSep_univ_equiv (payer x) (fun c : Dev nD => tk (F := F) c x)

/-- What stays with device `c`. -/
def linear (c : Dev nD) : sProp 𝕄 := iprop((bigSep Finset.univ fun k : CK => (atPos ER (cell c k) 0 ∅ 0 : sProp 𝕄)) ∗ dealt (F := F) c)
def G' (c : Dev nD) : sProp 𝕄 := iprop(∃ K, records m K ∗ linear (F := F) c)

theorem bigSep_with_persistent {I : Type} [DecidableEq I] {S : Finset I} {R : sProp 𝕄} [BI.Persistent R] {Φ Ψ : I → sProp 𝕄}
    (h : ∀ i ∈ S, iprop(R ∗ Φ i) ⊢ Ψ i) : iprop(R ∗ bigSep S Φ) ⊢ bigSep S Ψ :=
  (sep_mono_left (BI.bigSep_of_persistent S R)).trans (by rw [← bigSep_sep']; exact bigSep_mono h)

theorem regroup :
    (bigSep Finset.univ fun c : Dev nD => iprop((bigSep Finset.univ fun k : CK => iprop(∃ κ : ℕ, cellInv ER (Rd m) κ (cell c k)))
          ∗ (bigSep Finset.univ fun k : CK => iprop(atPos ER (cell c k) 0 ∅ 0 ∗ reached ER (cell c k) 0)) ∗ minted (F := F) c) : sProp 𝕄)
      ⊢ bigSep Finset.univ (G' m) := by
  rw [bigSep_sep', bigSep_sep', ← bigSep_univ_prod (fun ck : Dev nD × CK => iprop(∃ κ : ℕ, cellInv ER (Rd m) κ (cell ck.1 ck.2))),
    bigSep_congr (s := Finset.univ) (fun (c : Dev nD) _ => bigSep_sep' Finset.univ (fun k : CK => (atPos ER (cell c k) 0 ∅ 0 : sProp 𝕄)) (fun k => reached ER (cell c k) 0)),
    bigSep_sep', ← bigSep_univ_prod (fun ck : Dev nD × CK => (reached ER (cell ck.1 ck.2) 0 : sProp 𝕄))]
  iintro ⟨HI, ⟨Hat, #HR⟩, Htok⟩
  ihave HK := (BI.bigSep_exists_pi Finset.univ (fun (ck : Dev nD × CK) (κ : ℕ) => (cellInv ER (Rd m) κ (cell ck.1 ck.2) : sProp 𝕄))) $$ HI
  icases HK with ⟨%K, #HI⟩
  ihave Htk := (deal (F := F)) $$ Htok
  iapply (bigSep_with_persistent (R := records m K) (Φ := fun c => linear (F := F) c) fun c _ => show _ ⊢ G' m c from by
    unfold G'
    iintro ⟨#H1, H2⟩
    iexists K
    isplitr; · iexact H1
    iexact H2)
  isplitr
  · unfold records
    rw [bigSep_sep']
    isplitl; · iexact HI
    iexact HR
  · unfold linear
    rw [bigSep_sep']
    isplitl [Hat]; · iexact Hat
    iexact Htk

theorem glob : (bigSep Finset.univ fun c => iprop(Pipeline.ownSems0 (Ix := Unit) (Name := ℕ) (U := UU) (Lvl := ℕ) (Val := Elt F) (τ := τ) osem c ∗ unscopedSems0 c ∗ G m c) : sProp 𝕄)
    ⊢ |={Set.univ}=> bigSep Finset.univ (G' m) :=
  ((bigSep_mono fun c _ => core_alloc m c).trans (bigSep_fupd _ _)).trans (BI.fupd_mono (regroup m))

/-! ## The launch credit -/

theorem cred_one (e : Fin 3) (x : CK) (n : ℕ) (c : Dev nD) :
    (Pipeline.launchCred (fun d => tallyAt (cell (pe e d) x) () n) c : sProp 𝕄) = cred (tallyAt (cell c x) () n) :=
  Pipeline.launchCred_of_sum _ (fun d => tallyAt (cell d x) () n)
    (Equiv.sum_comp (peEquiv e) fun d => (tallyAt (cell d x) () n : CellTallies nD τ sig Unit))
    (fun d g h => by
      by_contra hg
      exact h (tallyAt_ne_cell (fun hh => hg (by rw [hh])) () n)) c

/-- Group `g`'s six credits. -/
def credG (c : Dev nD) (g : Fin 2) : sProp 𝕄 :=
  iprop(cred (tallyAt (cell c (some (1, g, 0))) () (NN 1)) ∗ cred (tallyAt (cell c (some (3, g, 0))) () (NN 3))
    ∗ cred (tallyAt (cell c (some (1, g, 1))) () (NN 1)) ∗ cred (tallyAt (cell c (some (3, g, 1))) () (NN 3))
    ∗ cred (tallyAt (cell c (some (1, g, 2))) () (NN 1)) ∗ cred (tallyAt (cell c (some (3, g, 2))) () (NN 3)))

theorem credG_split (g : Fin 2) (O : Dev nD → CellTallies nD τ sig Unit) (c : Dev nD) :
    (Pipeline.launchCred (fun d => owesG d g (O d)) c : sProp 𝕄) ⊢ iprop(Pipeline.launchCred O c ∗ credG (F := F) c g) := by
  unfold owesG tO tS credG
  rw [Pipeline.launchCred_add, Pipeline.launchCred_add, Pipeline.launchCred_add, Pipeline.launchCred_add, Pipeline.launchCred_add, Pipeline.launchCred_add,
    cred_one, cred_one, cred_one, cred_one, cred_one, cred_one]
  iintro ⟨⟨⟨⟨⟨⟨H, S2⟩, O2⟩, S1⟩, O1⟩, S0⟩, O0⟩
  isplitl [H]; · iexact H
  isplitl [O0]; · iexact O0
  isplitl [S0]; · iexact S0
  isplitl [O1]; · iexact O1
  isplitl [S1]; · iexact S1
  isplitl [O2]; · iexact O2
  iexact S2

theorem creds (c : Dev nD) :
    (Pipeline.launchCred O₀ c : sProp 𝕄) ⊢ iprop(cred (tallyAt (cell c none) () 3) ∗ credG (F := F) c 0 ∗ credG (F := F) c 1) := by
  have h3 : (tallyAt (cell c none) () 3 : CellTallies nD τ sig Unit) = tallyAt (cell c none) () 1 + tallyAt (cell c none) () 1 + tallyAt (cell c none) () 1 := by
    rw [tallyAt_add, tallyAt_add]
  show (Pipeline.launchCred (fun d => OA d + tB d 2 + tB d 1 + tB d 0) c : sProp 𝕄) ⊢ _
  unfold tB
  rw [Pipeline.launchCred_add, Pipeline.launchCred_add, Pipeline.launchCred_add, cred_one, cred_one, cred_one, h3]
  iintro ⟨⟨⟨H, B2⟩, B1⟩, B0⟩
  isplitl [B0 B1 B2]
  · iapply (cred_add _ _).2
    isplitl [B1 B2]
    · iapply (cred_add _ _).2
      isplitl [B2]; · iexact B2
      iexact B1
    iexact B0
  ihave H := (show (Pipeline.launchCred OA c : sProp 𝕄) ⊢ _ from credG_split (F := F) 0 OB c) $$ H
  icases H with ⟨H, G0⟩
  isplitl [G0]; · iexact G0
  ihave H := (show (Pipeline.launchCred OB c : sProp 𝕄) ⊢ _ from credG_split (F := F) 1 (fun _ => 0) c) $$ H
  icases H with ⟨-, G1⟩
  iexact G1

/-! ## The theorem's side conditions -/

theorem hand (c : Dev nD) : iprop(linear (F := F) c ∗ cred (tallyAt (cell c none) () 3) ∗ credG (F := F) c 0 ∗ credG (F := F) c 1)
    ⊢ iprop(bars (F := F) c ∗ wtB (F := F) c ∗ kit (F := F) c 0 ∗ kit (F := F) c 1 ∗ rcv (F := F) c 0 ∗ rcv (F := F) c 1) := by
  unfold linear dealt credG bars wtB kit rcv wt pos toks
  rw [bigSep_CK, bigSep_CX, bigSep_E, bigSep_CX]
  iintro ⟨⟨⟨PB, P000, P100, P200, P300, P001, P101, P201, P301, P002, P102, P202, P302, P010, P110, P210, P310, P011, P111, P211, P311, P012, P112, P212, P312⟩, ⟨B0, B1, B2⟩, ⟨T000, T100, T200, T300, T001, T101, T201, T301, T002, T102, T202, T302, T010, T110, T210, T310, T011, T111, T211, T311, T012, T112, T212, T312⟩⟩, CB, ⟨C100, C300, C101, C301, C102, C302⟩, ⟨C110, C310, C111, C311, C112, C312⟩⟩
  isplitl [B0 B1 B2]
  · isplitl [B0]; · iexact B0
    isplitl [B1]; · iexact B1
    iexact B2
  isplitl [PB CB]
  · isplitl [CB]; · iexact CB
    iexact PB
  isplitl [T000 T100 P000 T200 T300 P200 T001 T101 P001 T201 T301 P201 T002 T102 P002 T202 T302 P202]
  · isplitl [T000 T100 P000]
    · isplitl [T000 T100]
      · isplitl [T000]; · iexact T000
        iexact T100
      iexact P000
    isplitl [T200 T300 P200]
    · isplitl [T200 T300]
      · isplitl [T200]; · iexact T200
        iexact T300
      iexact P200
    isplitl [T001 T101 P001]
    · isplitl [T001 T101]
      · isplitl [T001]; · iexact T001
        iexact T101
      iexact P001
    isplitl [T201 T301 P201]
    · isplitl [T201 T301]
      · isplitl [T201]; · iexact T201
        iexact T301
      iexact P201
    isplitl [T002 T102 P002]
    · isplitl [T002 T102]
      · isplitl [T002]; · iexact T002
        iexact T102
      iexact P002
    isplitl [T202 T302]
    · isplitl [T202]; · iexact T202
      iexact T302
    iexact P202
  isplitl [T010 T110 P010 T210 T310 P210 T011 T111 P011 T211 T311 P211 T012 T112 P012 T212 T312 P212]
  · isplitl [T010 T110 P010]
    · isplitl [T010 T110]
      · isplitl [T010]; · iexact T010
        iexact T110
      iexact P010
    isplitl [T210 T310 P210]
    · isplitl [T210 T310]
      · isplitl [T210]; · iexact T210
        iexact T310
      iexact P210
    isplitl [T011 T111 P011]
    · isplitl [T011 T111]
      · isplitl [T011]; · iexact T011
        iexact T111
      iexact P011
    isplitl [T211 T311 P211]
    · isplitl [T211 T311]
      · isplitl [T211]; · iexact T211
        iexact T311
      iexact P211
    isplitl [T012 T112 P012]
    · isplitl [T012 T112]
      · isplitl [T012]; · iexact T012
        iexact T112
      iexact P012
    isplitl [T212 T312]
    · isplitl [T212]; · iexact T212
      iexact T312
    iexact P212
  isplitl [P100 C100 P300 C300 P101 C101 P301 C301 P102 C102 P302 C302]
  · isplitl [P100 C100]
    · isplitl [P100]; · iexact P100
      iexact C100
    isplitl [P300 C300]
    · isplitl [P300]; · iexact P300
      iexact C300
    isplitl [P101 C101]
    · isplitl [P101]; · iexact P101
      iexact C101
    isplitl [P301 C301]
    · isplitl [P301]; · iexact P301
      iexact C301
    isplitl [P102 C102]
    · isplitl [P102]; · iexact P102
      iexact C102
    isplitl [P302]; · iexact P302
    iexact C302
  isplitl [P110 C110]
  · isplitl [P110]; · iexact P110
    iexact C110
  isplitl [P310 C310]
  · isplitl [P310]; · iexact P310
    iexact C310
  isplitl [P111 C111]
  · isplitl [P111]; · iexact P111
    iexact C111
  isplitl [P311 C311]
  · isplitl [P311]; · iexact P311
    iexact C311
  isplitl [P112 C112]
  · isplitl [P112]; · iexact P112
    iexact C112
  isplitl [P312]; · iexact P312
  iexact C312

theorem start_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ G' m c)
      ⊢ |={Set.univ}=> iprop(ghost m c ∗ emp) := by
  unfold G' ghost
  iintro ⟨-, Hlev, Hcr, -, ⟨%K, #HR, HG⟩⟩
  ihave Hc := (creds (F := F) c) $$ Hcr
  icases Hc with ⟨H1, H2, H3⟩
  ihave H := (hand (F := F) c) $$ [HG H1 H2 H3]
  · isplitl [HG]; · iexact HG
    isplitl [H1]; · iexact H1
    isplitl [H2]; · iexact H2
    iexact H3
  imodintro
  isplitl
  · iexists K
    isplitr; · iexact HR
    isplitl [Hlev]; · iexact Hlev
    iexact H
  · iempintro

theorem phi0_intro (c : Dev nD) :
    iprop(ghost m c ∗ Pipeline.prefHeld Pipeline.Prefetch.none c (fun _ => fullShare.right) (fun k => k.elim0) ∗ Pipeline.scopedRest cfg0.spec c)
      ⊢ (dats m 0 c).Φ 0 := by
  rw [show (dats m 0 c).Φ 0 = Phi m c 0 from rfl, scopedRest0_eq, Phi_zero]
  iintro ⟨Hs, -, ⟨⟨%f0, H0⟩, ⟨%f1, H1⟩, ⟨%f2, H2⟩, H3, H4⟩⟩
  isplitl [Hs]; · iexact Hs
  isplitl [H3 H4]
  · unfold comm
    isplitl [H3]
    · iapply (cutO (F := F) c); iexact H3
    · iapply (cutS (F := F) c); iexact H4
  iexists (⟨f0, f1, f2⟩ : Stt F)
  unfold stt
  isplitl [H0]; · iexact H0
  isplitl [H1]; · iexact H1
  iexact H2

theorem own_zeros (c : Dev nD) : iprop(zeros (F := F) c 0 ∗ zeros (F := F) c 1)
    ⊢ (Pipeline.ownSems0 (Ix := Unit) (Name := ℕ) (U := UU) (Lvl := ℕ) (Val := Elt F) (τ := τ) osem c : sProp 𝕄) := by
  unfold zeros Pipeline.ownSems0
  rw [bigSep_CX]
  iintro ⟨⟨V000, V100, V200, V300, V001, V101, V201, V301, V002, V102, V202, V302⟩, V010, V110, V210, V310, V011, V111, V211, V311, V012, V112, V212, V312⟩
  isplitl [V000]; · iexact V000
  isplitl [V100]; · iexact V100
  isplitl [V200]; · iexact V200
  isplitl [V300]; · iexact V300
  isplitl [V001]; · iexact V001
  isplitl [V101]; · iexact V101
  isplitl [V201]; · iexact V201
  isplitl [V301]; · iexact V301
  isplitl [V002]; · iexact V002
  isplitl [V102]; · iexact V102
  isplitl [V202]; · iexact V202
  isplitl [V302]; · iexact V302
  isplitl [V010]; · iexact V010
  isplitl [V110]; · iexact V110
  isplitl [V210]; · iexact V210
  isplitl [V310]; · iexact V310
  isplitl [V011]; · iexact V011
  isplitl [V111]; · iexact V111
  isplitl [V211]; · iexact V211
  isplitl [V311]; · iexact V311
  isplitl [V012]; · iexact V012
  isplitl [V112]; · iexact V112
  isplitl [V212]; · iexact V212
  iexact V312

theorem phi_exit (c : Dev nD) :
    (dats m 0 c).Φ (Fin.last cfg0.N) ⊢ iprop(unscopedSems0 c ∗ Pipeline.ownSems0 osem c ∗ Pipeline.scopedRest cfg0.spec c) := by
  rw [show (dats m 0 c).Φ (Fin.last cfg0.N) = Phi m c cfg0.N from rfl, Phi_last m c (n := cfg0.N) (by rw [show cfg0.N = 16 from N_0]; omega), scopedRest0_eq, unscopedSems0_eq]
  unfold done comm stt
  iintro ⟨HB, Z0, Z1, ⟨HO, HS⟩, ⟨%s, H0, H1, H2⟩⟩
  isplitl [HB]; · iexact HB
  isplitl [Z0 Z1]
  · iapply (own_zeros (F := F) c)
    isplitl [Z0]; · iexact Z0
    iexact Z1
  isplitl [H0]; · iexists _; iexact H0
  isplitl [H1]; · iexists _; iexact H1
  isplitl [H2]; · iexists _; iexact H2
  isplitl [HO]
  · iapply (joinO (F := F) c); iexact HO
  · iapply (joinS (F := F) c); iexact HS

theorem stage_none : ∀ (w : Fin 4) (s : Fin (spec0 w).nbuf) (x : CK), csem x ≠ SemLoc.dma ((spec0 w).sem s) := by decide +kernel

theorem waits (c : Dev nD) : (levAts L lv : sProp 𝕄) ⊢ Pipeline.cellsWaits cfgs (dats m) () 0 c :=
  Pipeline.cellsWaits_intro cfgs (dats m) () 0 c fun w s t =>
    mayWait_of_above c _ 0
      (by
        show lvOf (ixOf _) ≤ 0
        rw [show ixOf (SemLoc.dma ((cfg0.win w).sem s)) = none from by
          rcases h : ixOf (SemLoc.dma ((cfg0.win w).sem s)) with _ | x
          · rfl
          · exact absurd (ixOf_some h) (stage_none w s x)]
        exact le_rfl)
      (by
        show Above 0 (owedN c t.val)
        unfold owedN
        split
        · exact above_O₀ c
        split
        · exact (above_OB c).mono (Nat.zero_le 1)
        · exact Above.zero 0)

/-! ## The run -/

/-- The windows' arrays after the run. -/
def QC : PUnit × MemSt nD τ sig (Elt F) → Prop := fun r =>
  ∀ c : Dev nD, ∀ w : Fin cfg0.W, r.2.mem ((cfg0.win w).arr.view.loc (c : Thread nD τ)) = (dats m 0 c).arrAt w cfg0.N

theorem run_main : θ_run defs (onTc (τ := τ) (main (F := F))) (s₀ m ρ) (fun r => QC m r ∧ r.2.sem = fun _ => 0) :=
  Pipeline.θ_run_region_owing_glob_pf (fun p => (cfgs p).toPCfg) (fun p => (cfgs p).toPCfg_adm) (dats m) () cellOf_inj (0 : Fin 1)
    winFacts0.to₀ ownSemFacts (Pipeline.PreFacts.none _) EP defs₀ 𝒱₀ m ρ main
    (hmain := fun _ => rfl)
    (hbody := body_obligation m) (hne := block_pos0) (harr := arr_whole0) (hstage := stage_whole0) (hshare := share_eq m)
    (hdistinct := winFacts0.arr_inj)
    (O₀ := O₀) (howed₀ := fun _ => rfl) (howedN := fun c => by
      show owedN c cfg0.N = 0
      unfold owedN; rw [show cfg0.N = 16 from N_0]; rfl)
    (L := L) (lv := lv) (hL := L_of_ne) (hwaits := waits m)
    (G := G m) (G' := G' m) (u₀ := u₀)
    (hu₀ := by
      unfold u₀
      iintro Hu
      ihave H := (ownU_pair _ _) $$ Hu
      icases H with ⟨HP, HX⟩
      imod (fund_all m) $$ HX with HG
      imodintro
      isplitl [HP] <;> iassumption)
    (hglob := glob m)
    (hA := fun _ _ => rfl) (hpf := fun _ k => k.elim0)
    (X := ghost m) (Y := fun c => unscopedSems0 c) (Z := fun _ => iprop(emp))
    (hX := start_intro m ρ) (hin := phi0_intro m) (hout := phi_exit m)
    (QY := fun c s => ∀ sm : SemLoc sig, sm.isScoped .tc = false → s.sem ((c.tc : Thread nD τ), sm) = 0)
    (hY := fun c s' => by
      iintro ⟨Hu, -, HSI⟩
      iapply (Pipeline.unscopedSems0_read (X := unscopedSems0 c) (c := c) fupd_intro s')
      isplitl [Hu] <;> iassumption)
    (hQ := fun _ h hs => ⟨fun c w => (h c).1 w, sem_eq_zero hs fun c => (h c).2.2⟩)

end Cert.KernelIdeal.Merge
-- ==== Proof.Frames.lean ====
/-
The three frames, the kernel's two from the one run.
-/
module

public import proofs.«01_k».proof.Defs
public import proofs.«01_k».proof.Proof.Gen.Kernel
public import proofs.«01_k».proof.Proof.Gen.ReferenceIdeal.Run
public import proofs.«01_k».proof.Proof.Launch
public import Idealize.ShloMosaic.Lib.Quiescent

@[expose] public section

set_option maxRecDepth 16384

noncomputable section

namespace Cert.KernelIdeal.Merge

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

/-- The arguments' arrays end as they were. -/
theorem QC_args (m : (ℓ : Loc nD τ sig) → Buf (Elt F) ℓ) {r : PUnit × MemSt nD τ sig (Elt F)} (h : QC m r) (c : Dev nD) :
    r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  ⟨(h c 0).trans ((dats m 0 c).arrAt_in 0 rfl _), (h c 1).trans ((dats m 0 c).arrAt_in 1 rfl _), (h c 2).trans ((dats m 0 c).arrAt_in 2 rfl _)⟩

/-- The kernel's frame over any float values. -/
theorem frame_any (m : (ℓ : Loc nD τ sig) → Buf (Elt F) ℓ) (ρ : Dev nD → PrngReg) :
    θ_run (Cert.KernelIdeal.defs (F := F)) (onTc (τ := τ) (Cert.KernelIdeal.main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) ∧ r.2.sem = fun _ => 0) :=
  (θ_run (Cert.KernelIdeal.defs (F := F)) _ _).mono (fun _ h => ⟨QC_args m h.1, h.2⟩) (run_main m ρ)

theorem frame_ideal : Cert.quiescent_KernelIdeal := fun m ρ _ => frame_any m ρ

/-- The two texts have the same body table: each body is the same program at each label. -/
theorem defs₀_eq : Cert.Kernel.defs₀ (F := F) = Cert.KernelIdeal.defs₀ (F := F) := by
  unfold Cert.Kernel.defs₀ Cert.KernelIdeal.defs₀
  refine congrArg Defs.onTc ?_
  funext l
  match l with
  | 0 => funext x; obtain ⟨t, s⟩ := x; rfl

theorem defs_eq : Cert.Kernel.defs (F := F) = Cert.KernelIdeal.defs (F := F) :=
  congrArg (Idealize.ShloMosaic.Pipeline.defs (Cert.KernelIdeal.pcfgs (F := F))) defs₀_eq

theorem frame_kernel : Cert.quiescent_Kernel := fun m ρ _ => by
  rw [defs_eq]
  exact frame_any (F := Bits) m ρ

theorem frame_reference : Cert.quiescent_ReferenceIdeal := fun m ρ _ =>
  (θ_run (Cert.ReferenceIdeal.defs (F := Ideal)) _ _).mono
    (fun r h => ⟨fun c => (h c).2, sem_eq_zero_of_no_sems (sig := Cert.ReferenceIdeal.sig) rfl r.2⟩) (Cert.ReferenceIdeal.Value.run m ρ)

end Cert.KernelIdeal.Merge
-- ==== Proof.Refer.lean ====
/-
The reference's result, read at an index over the extended reals.
-/
module

public import proofs.«01_k».proof.Proof.Partial
public import proofs.«01_k».proof.Proof.Gen.ReferenceIdeal.Run
public import Idealize.ShloMosaic.Lib.KernelVsHost
public import Idealize.ShloMosaic.Lib.IdealHost

@[expose] public section

set_option maxRecDepth 16384

noncomputable section

namespace Cert.ReferenceIdeal.Merge

open Cert.ReferenceIdeal Cert.ReferenceIdeal.Gen Cert.KernelIdeal.Merge
open Idealize.ShloMosaic Idealize.ShloMosaic.TcCoe Idealize.ShloMosaic.ValueIdx

/-! ## The two products at an index -/

abbrev G1 : DotDims S4x32x8x128 S4x16384x8x128 S4x8x32x16384 := dot_S4x32x8x128_S4x16384x8x128_S4x8x32x16384_3_3_1_1_02_02
abbrev G2 : DotDims S4x16384x8x128 S4x8x32x16384 S4x8x128x32 := dot_S4x16384x8x128_S4x8x32x16384_S4x8x128x32_1_3_3_2_02_01

theorem dot_q (x : FVec Ideal S4x32x8x128 .f32) (y : FVec Ideal S4x16384x8x128 .f32) (b : Fin 4) (h : Fin 8) (i : Fin 32) (k : Fin 16384) :
    (Host.dotGeneral G1 none x y : FVec Ideal S4x8x32x16384 .f32) (ix4 b h i k) = ∑ d : Fin 128, x (ix4 b i h d) * y (ix4 b k h d) := by
  refine (Ideal.dotGeneral_apply G1 none _ x y _).trans ?_
  refine (Equiv.sum_comp (contrEquiv1 G1 128 rfl rfl).symm _).symm.trans ?_
  refine Finset.sum_congr rfl fun d _ => ?_
  have hv := contrEquiv1_symm_val G1 128 rfl rfl d
  refine congrArg₂ (· * ·) (congrArg x ?_) (congrArg y ?_)
  · funext a
    refine Fin.ext ?_
    fin_cases a
    · rfl
    · rfl
    · rfl
    · exact hv
  · funext a
    refine Fin.ext ?_
    fin_cases a
    · rfl
    · rfl
    · rfl
    · exact hv

theorem dot_p (x : FVec Ideal S4x16384x8x128 .f32) (y : FVec Ideal S4x8x32x16384 .f32) (b : Fin 4) (h : Fin 8) (d : Fin 128) (i : Fin 32) :
    (Host.dotGeneral G2 none x y : FVec Ideal S4x8x128x32 .f32) (ix4 b h d i) = ∑ k : Fin 16384, x (ix4 b k h d) * y (ix4 b h i k) := by
  refine (Ideal.dotGeneral_apply G2 none _ x y _).trans ?_
  refine (Equiv.sum_comp (contrEquiv1 G2 16384 rfl rfl).symm _).symm.trans ?_
  refine Finset.sum_congr rfl fun k _ => ?_
  have hv := contrEquiv1_symm_val G2 16384 rfl rfl k
  refine congrArg₂ (· * ·) (congrArg x ?_) (congrArg y ?_)
  · funext a
    refine Fin.ext ?_
    fin_cases a
    · rfl
    · exact hv
    · rfl
    · rfl
  · funext a
    refine Fin.ext ?_
    fin_cases a
    · rfl
    · rfl
    · rfl
    · exact hv

/-! ## Reductions and broadcasts over the keys -/

theorem red : Shape.Reduces S4x8x32x16384 [3] S4x8x32 := by decide

theorem lift_key (h : Shape.Reduces S4x8x32x16384 [3] S4x8x32) (b : Fin 4) (g : Fin 8) (i : Fin 32) (k : Fin 16384) :
    h.lift (ix3 b g i) k = ix4 b g i k := by
  funext a
  refine Fin.ext ?_
  refine (h.lift_val _ _ _).trans ?_
  fin_cases a <;> rfl

theorem over_keys (x : FVec Ideal S4x8x32 .f32) (h1 h2) (b : Fin 4) (g : Fin 8) (i : Fin 32) (k : Fin 16384) :
    broadcastInDim S4x8x32x16384 ![0, 1, 2, 3] h2 (broadcastInDim S4x8x32x1 ![0, 1, 2] h1 x) (ix4 b g i k) = x (ix3 b g i) := by
  rw [broadcastInDim_apply _ h2 _ _ (ix4 b g i (0 : Fin 1)) (by intro a; fin_cases a <;> rfl)]
  exact broadcastInDim_apply _ h1 _ _ _ (by intro a; fin_cases a <;> rfl)

/-! ## The reference's steps -/

variable (Q : FVec Ideal S4x32x8x128 .bf16) (K V : FVec Ideal S4x16384x8x128 .bf16)

/-- The scaled scores. -/
def scores : FVec Ideal S4x8x32x16384 .f32 :=
  mulf (Host.dotGeneral G1 none (extf .f32 Q bitsLt_bf16_f32) (extf .f32 K bitsLt_bf16_f32)) (broadcastInDim S4x8x32x16384 ![] bcast_S_S4x8x32x16384 (constant S_ .f32 0x3DB504F3#32))
/-- The largest score of a row. -/
def top (S : FVec Ideal S4x8x32x16384 .f32) : FVec Ideal S4x8x32 .f32 :=
  Host.reduce FloatOps.maximumf S (constant S_ .f32 0xFF800000#32) reducesTo_S4x8x32x16384_S4x8x32_d3 h_S_
/-- A row's number, for every key. -/
def spread (x : FVec Ideal S4x8x32 .f32) : FVec Ideal S4x8x32x16384 .f32 :=
  broadcastInDim S4x8x32x16384 ![0, 1, 2, 3] bcast_S4x8x32x1_S4x8x32x16384_0_1_2_3 (broadcastInDim S4x8x32x1 ![0, 1, 2] bcast_S4x8x32_S4x8x32x1_0_1_2 x)
/-- The exponentials of the scores against the largest. -/
def expo (S : FVec Ideal S4x8x32x16384 .f32) : FVec Ideal S4x8x32x16384 .f32 := Host.exp (subf S (spread (top S)))
/-- The sum of a row. -/
def total (E : FVec Ideal S4x8x32x16384 .f32) : FVec Ideal S4x8x32 .f32 :=
  Host.reduceAdd E (constant S_ .f32 0x00000000#32) reducesTo_S4x8x32x16384_S4x8x32_d3 h_S_
/-- The result. -/
def result : FVec Ideal S4x32x8x128 .f32 :=
  transpose S4x32x8x128 [0, 3, 1, 2] (Host.dotGeneral G2 none (extf .f32 V bitsLt_bf16_f32)
    (Host.divf (expo (scores Q K)) (spread (total (expo (scores Q K))))) : FVec Ideal S4x8x128x32 .f32) transposes_S4x8x128x32_S4x32x8x128_0_3_1_2

theorem scores_apply (b : Fin 4) (h : Fin 8) (i : Fin 32) (k : Fin 16384) (R : Fin 32) (hR : R.val = 8 * b.val + h.val) :
    scores Q K (ix4 b h i k) = scE Q K R i k.val := by
  have eb : (⟨R.val / 8, by omega⟩ : Fin 4) = b := Fin.ext (by show R.val / 8 = b.val; omega)
  have eh : (⟨R.val % 8, by omega⟩ : Fin 8) = h := Fin.ext (by show R.val % 8 = h.val; omega)
  have ek : (⟨k.val % 16384, by omega⟩ : Fin 16384) = k := Fin.ext (Nat.mod_eq_of_lt k.isLt)
  unfold scores scE
  rw [eb, eh, ek, mulf_apply, dot_q]
  refine congrArg₂ (· * ·) rfl ?_
  exact broadcastInDim_scalar_apply _ _ _

theorem top_apply (S : FVec Ideal S4x8x32x16384 .f32) (b : Fin 4) (h : Fin 8) (i : Fin 32) :
    top S (ix3 b h i) = (Finset.univ : Finset (Fin 16384)).fold max ⊥ fun k => S (ix4 b h i k) := by
  unfold top
  rw [hostReduce_maximumf_eq_multiReduction S (0xFF800000#32) reducesTo_S4x8x32x16384_S4x8x32_d3 h_S_ red (by decide) (by decide)]
  refine (Ideal.multiReduction_maximumf_single S _ red _ _ _).trans ?_
  have e : S ∘ red.lift (ix3 b h i) = fun k : Fin 16384 => S (ix4 b h i k) := funext fun k => congrArg S (lift_key red b h i k)
  rw [e]
  exact congrArg (fun z => (Finset.univ : Finset (Fin 16384)).fold max z fun k => S (ix4 b h i k)) ofBits_bot

theorem total_apply (E : FVec Ideal S4x8x32x16384 .f32) (b : Fin 4) (h : Fin 8) (i : Fin 32) :
    total E (ix3 b h i) = ∑ k : Fin 16384, E (ix4 b h i k) := by
  unfold total
  rw [hostReduceAdd_apply, Ideal.hostReduceAdd_single _ red]
  have e0 : (constant S_ .f32 0x00000000#32 : FVec Ideal S_ .f32) (Shape.Idx.first h_S_) = 0 := Ideal.ofBits_zero_f32
  rw [e0, zero_add]
  exact Finset.sum_congr rfl fun k _ => congrArg E (lift_key red b h i k)

theorem spread_apply (x : FVec Ideal S4x8x32 .f32) (b : Fin 4) (h : Fin 8) (i : Fin 32) (k : Fin 16384) : spread x (ix4 b h i k) = x (ix3 b h i) :=
  over_keys x _ _ b h i k

theorem expo_apply (S : FVec Ideal S4x8x32x16384 .f32) (b : Fin 4) (h : Fin 8) (i : Fin 32) (k : Fin 16384) :
    expo S (ix4 b h i k) = Ideal.exp (S (ix4 b h i k) - top S (ix3 b h i)) := by
  show Ideal.exp (S (ix4 b h i k) - spread (top S) (ix4 b h i k)) = _
  rw [spread_apply]

/-- The softmax of the scores of a row applied to the values, against some real reference. -/
theorem result_apply (hQ : AllReal (S := S4x32x8x128) Q) (hK : AllReal (S := S4x16384x8x128) K) (b : Fin 4) (i : Fin 32) (h : Fin 8) (d : Fin 128) (R : Fin 32) (hR : R.val = 8 * b.val + h.val) :
    ∃ μ : ℝ, result Q K V (ix4 b i h d) = ∑ k ∈ Finset.range 16384, va V R d k
      * Ideal.div (Ideal.exp ((sc Q K R i k : EReal) - (μ : EReal))) (∑ j ∈ Finset.range 16384, Ideal.exp ((sc Q K R i j : EReal) - (μ : EReal))) := by
  have eb : (⟨R.val / 8, by omega⟩ : Fin 4) = b := Fin.ext (by show R.val / 8 = b.val; omega)
  have eh : (⟨R.val % 8, by omega⟩ : Fin 8) = h := Fin.ext (by show R.val % 8 = h.val; omega)
  have hs : ∀ k : Fin 16384, scores Q K (ix4 b h i k) = (sc Q K R i k.val : EReal) := fun k =>
    (scores_apply Q K b h i k R hR).trans (scE_eq Q K hQ hK R i k.val)
  obtain ⟨μ, hμ⟩ := fold_max_real (fun k : Fin 16384 => scores Q K (ix4 b h i k)) (fun k => ⟨_, hs k⟩) Finset.univ Finset.univ_nonempty
  refine ⟨μ, ?_⟩
  have ht : top (scores Q K) (ix3 b h i) = (μ : EReal) := (top_apply _ b h i).trans hμ
  have he : ∀ k : Fin 16384, expo (scores Q K) (ix4 b h i k) = Ideal.exp ((sc Q K R i k.val : EReal) - (μ : EReal)) := fun k => by
    rw [expo_apply, ht, hs]
  unfold result
  rw [transpose_apply _ _ _ _ (ix4 b h d i) (by intro a; fin_cases a <;> rfl), dot_p, Finset.sum_range]
  refine Finset.sum_congr rfl fun k _ => ?_
  have ek : (⟨k.val % 16384, by omega⟩ : Fin 16384) = k := Fin.ext (Nat.mod_eq_of_lt k.isLt)
  refine congrArg₂ (· * ·) ?_ ?_
  · unfold va
    rw [eb, eh, ek]
    rfl
  · rw [hostDivf_apply, spread_apply, total_apply, he, Finset.sum_range]
    exact congrArg _ (Finset.sum_congr rfl fun j _ => he j)

end Cert.ReferenceIdeal.Merge
-- ==== Proof.Value.lean ====
/-
The value the kernel ends with is the reference's.
-/
module

public import proofs.«01_k».proof.Proof.Total
public import proofs.«01_k».proof.Proof.Frames
public import proofs.«01_k».proof.Proof.Refer

@[expose] public section

set_option maxRecDepth 16384

noncomputable section

namespace Cert.KernelIdeal.Merge

open Cert.KernelIdeal Cert.KernelIdeal.Gen
open Idealize.SL.Sem
open Idealize.ShloMosaic Idealize.ShloMosaic.TcCoe Idealize.ShloMosaic.ValueIdx

variable {F : FTy → Type} [FloatOps F]

/-! ## The result's array -/

section Result
variable (m : (ℓ : Loc nD τ sig) → Buf (Elt F) ℓ) (c : Dev nD)

theorem idx3 (t : Fin cfg0.N) : (cfg0.win 3).index t = ![0, 0, 0, 0] := by
  have key : ∀ t : Fin 16, cc0_transform_3 (grid0.coords t) = ![0, 0, 0, 0] := by decide +kernel
  exact key t

theorem off3 (t : Fin cfg0.N) : (fun a => (win0_3.index t) a * main_v1.ty.shape.size a) = fun _ => 0 := funext fun a => by
  have e : win0_3.index t = ![0, 0, 0, 0] := idx3 t
  rw [e]
  fin_cases a <;> decide

theorem inb3 (t : Fin cfg0.N) (a : Fin main_v1.ty.shape.rank) : (win0_3.index t) a * main_v1.ty.shape.size a + main_v1.ty.shape.size a ≤ main_v1.ty.shape.size a :=
  Nat.le_of_eq ((congrArg (· + main_v1.ty.shape.size a) (congrFun (off3 t) a)).trans (Nat.zero_add _))

theorem cov3 (t : Fin cfg0.N) (i : main_v1.ty.Idx) : i ∈ ((Memref.whole main_v1).access (Rect.unit _ main_v1.ty.shape.size (inb3 t)) : View sig _ _ _ _).set := by
  rw [View.set_slice_whole]
  exact View.mem_set_unit_zero (off3 t) _ i

theorem arr_out : (dats m 0 c).arrAt 3 cfg0.N = outC m c := by
  refine (dats m 0 c).arrAt_eq_of_cover 3 (outC m c) (fun t _ => ?_) fun i => ?_
  · exact (Memref.read_access_unit_zero (Elt F) main_v1 (off3 t) (inb3 t) (outC m c)).symm
  · exact ⟨⟨15, by have : cfg0.N = 16 := N_0; omega⟩, (flush0_3 _).mpr rfl, cov3 _ i⟩
end Result

/-! ## The arguments of the claim -/

/-- Finite: the magnitude is below infinity. -/
theorem real_of_lt (x : EReal) (h : max x (-x) < ⊤) : ∃ r : ℝ, x = r := by
  induction x with
  | bot => exact absurd h (by simp)
  | coe r => exact ⟨r, rfl⟩
  | top => exact absurd h (by simp)

theorem finite_of_word (x : EReal) (h : Ideal.cmp .olt (max x (-x)) (Ideal.ofBits .f32 0x7F800000#32) = 1#1) : ∃ r : ℝ, x = r := by
  rw [ofBits_top] at h
  refine real_of_lt x ?_
  by_contra hn
  have e : Ideal.cmp .olt (max x (-x)) ⊤ = BitVec.ofBool (decide (max x (-x) < ⊤)) := rfl
  rw [e, decide_eq_false hn] at h
  exact absurd h (by decide)

/-- The side conditions of the precondition. -/
theorem preK : Cert.Pre_finite_q_and_k_KernelIdeal.Facts := ⟨by decide, by decide, by decide⟩
theorem preR : Cert.Pre_finite_q_and_k_ReferenceIdeal.Facts := ⟨by decide, by decide, by decide⟩

theorem pre_real (m : (ℓ : Loc nD τ sig) → Buf (Elt Ideal) ℓ) (hF : Cert.Pre_finite_q_and_k_KernelIdeal.Facts)
    (h : Cert.Pre_KernelIdeal_finite_q_and_k_KernelIdeal m) (c : Dev nD) : AllReal (qA m c) ∧ AllReal (kA m c) :=
  ⟨fun x => finite_of_word _ (congrFun (h c).1 x), fun x => finite_of_word _ (congrFun (h c).2 x)⟩

theorem blockN_at {α : Type} (X : SKV.Idx → α) (c : Dev nD) (hm) (hT) (b : Fin 4) (j : Fin 4096) (h : Fin 8) (d : Fin 128) :
    Layout.blockN ⟨4, ![4, 4096, 8, 128]⟩ ⟨4, ![4, 16384, 8, 128]⟩ (Layout.meshBlock [2, 4, 4] ![[], [2], [], []] c hm) X hT (ix4 b j h d)
      = X (ix4 b (⟨4096 * (c.val % 4) + j.val, by omega⟩ : Fin 16384) h d) := by
  rw [Layout.blockN_apply]
  refine congrArg X (funext fun a => Fin.ext ?_)
  refine (Layout.TilesN.idx_val hT _ _ a).trans ?_
  fin_cases a
  · show 0 * 4 + b.val = b.val
    omega
  · show ((c.val / 1) % 4 * 1 + 0) * 4096 + j.val = 4096 * (c.val % 4) + j.val
    omega
  · show 0 * 8 + h.val = h.val
    omega
  · show 0 * 128 + d.val = d.val
    omega

/-- The kernel's result on every device is the reference's. -/
theorem value_eq (m : (ℓ : Loc nD τ sig) → Buf (Elt Ideal) ℓ) (Q : S4x32x8x128.Idx → EReal) (K V : SKV.Idx → EReal)
    (hD : Dist m Q K V) (hQ : AllReal Q) (hK : AllReal K) (c : Dev nD) : outC m c = Cert.ReferenceIdeal.Merge.result Q K V := by
  funext y
  obtain ⟨b, i, h, d, rfl⟩ : ∃ b i h d, y = (ix4 b i h d : S4x32x8x128.Idx) := ⟨y 0, y 1, y 2, y 3, eq_ix4 (n0 := 4) (n1 := 32) (n2 := 8) (n3 := 128) y⟩
  have hg : (8 * b.val + h.val) / 16 < 2 := by omega
  have hR : 8 * b.val + h.val = 16 * ((⟨(8 * b.val + h.val) / 16, hg⟩ : Fin 2)).val + ((⟨(8 * b.val + h.val) % 16, by omega⟩ : Fin 16)).val := by
    show 8 * b.val + h.val = 16 * ((8 * b.val + h.val) / 16) + (8 * b.val + h.val) % 16
    omega
  obtain ⟨μ, hμ⟩ := Cert.ReferenceIdeal.Merge.result_apply Q K V hQ hK b i h d
    (grow ⟨(8 * b.val + h.val) / 16, hg⟩ ⟨(8 * b.val + h.val) % 16, by omega⟩) hR.symm
  rw [hμ]
  exact (outV_apply m c (St m c 16) b i h d _ _ hR).trans (quo_eq hD hQ hK c _ _ i d μ)

theorem algebraic (hF : Cert.Pre_finite_q_and_k_KernelIdeal.Facts) : Cert.algebraic_KernelIdeal_ReferenceIdeal_pre_finite_q_and_k_KernelIdeal := by
  intro m g m' g' hp hm
  let Q : S4x32x8x128.Idx → EReal := m' (((0 : Dev Cert.ReferenceIdeal.nD).tc : Thread Cert.ReferenceIdeal.nD Cert.ReferenceIdeal.τ).loc Cert.ReferenceIdeal.main_arg0)
  let K : SKV.Idx → EReal := m' (((0 : Dev Cert.ReferenceIdeal.nD).tc : Thread Cert.ReferenceIdeal.nD Cert.ReferenceIdeal.τ).loc Cert.ReferenceIdeal.main_arg1)
  let V : SKV.Idx → EReal := m' (((0 : Dev Cert.ReferenceIdeal.nD).tc : Thread Cert.ReferenceIdeal.nD Cert.ReferenceIdeal.τ).loc Cert.ReferenceIdeal.main_arg2)
  have hD : Dist m Q K V := ⟨fun c => (hm c).1,
    fun c b j h d => (congrFun (hm c).2.1 (ix4 b j h d)).trans (blockN_at K c _ _ b j h d),
    fun c b j h d => (congrFun (hm c).2.2 (ix4 b j h d)).trans (blockN_at V c _ _ b j h d)⟩
  have hQ : AllReal Q := by
    have h0 := (pre_real m hF hp 0).1
    rw [hD.hq 0] at h0
    exact h0
  have hK : AllReal K := by
    intro y
    obtain ⟨b, k, h, d, rfl⟩ : ∃ b k h d, y = (ix4 b k h d : SKV.Idx) := ⟨y 0, y 1, y 2, y 3, eq_ix4 (n0 := 4) (n1 := 16384) (n2 := 8) (n3 := 128) y⟩
    have hk : k.val < 16384 := k.isLt
    have e := hD.hk (⟨k.val / 4096, by show k.val / 4096 < 32; omega⟩ : Dev nD) b ⟨k.val % 4096, by omega⟩ h d
    have ek : (⟨4096 * ((⟨k.val / 4096, by show k.val / 4096 < 32; omega⟩ : Dev nD).val % 4) + (⟨k.val % 4096, by omega⟩ : Fin 4096).val, by
        show 4096 * (k.val / 4096 % 4) + k.val % 4096 < 16384; omega⟩ : Fin 16384) = k :=
      Fin.ext (by show 4096 * (k.val / 4096 % 4) + k.val % 4096 = k.val; omega)
    rw [ek] at e
    rw [← e]
    exact (pre_real m hF hp _).2 _
  refine ⟨Cert.ReferenceIdeal.Merge.result Q K V, ?_, ?_⟩
  · refine (θ_run (Cert.KernelIdeal.defs (F := Ideal)) _ _).mono (fun r h c => ⟨?_, QC_args m h.1 c⟩) (run_main m g)
    exact (h.1 c 3).trans ((arr_out m c).trans (value_eq m Q K V hD hQ hK c))
  · exact (θ_run (Cert.ReferenceIdeal.defs (F := Ideal)) _ _).mono (fun r h => h 0) (Cert.ReferenceIdeal.Value.run m' g')

end Cert.KernelIdeal.Merge
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Value
public import Idealize.ShloMosaic.Adequacy
public import Idealize.ShloMosaic.Init

@[expose] public section

noncomputable section

namespace Cert.Proof

open Idealize.ShloMosaic Idealize.SL.Sem Cert.Kernel

theorem claim : Cert.Claim :=
  ⟨Cert.Kernel.Gen.facts, Cert.KernelIdeal.Gen.facts, Cert.ReferenceIdeal.Gen.facts, Cert.KernelIdeal.Merge.preK, Cert.KernelIdeal.Merge.preR,
    Cert.KernelIdeal.Merge.frame_kernel, Cert.KernelIdeal.Merge.frame_ideal, fun m ρ _ => Cert.KernelIdeal.Merge.frame_ideal m ρ trivial,
    Cert.KernelIdeal.Merge.frame_reference, fun m ρ _ => Cert.KernelIdeal.Merge.frame_reference m ρ trivial, trivial,
    Cert.KernelIdeal.Merge.algebraic Cert.KernelIdeal.Merge.preK⟩

end Cert.Proof

end
